-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsSpecIdeal (m : (ℓ : Loc Cert.HeadsSpecIdeal.nD Cert.HeadsSpecIdeal.τ Cert.HeadsSpecIdeal.sig) → Buf (Elt Ideal) ℓ) : Prop :=
  True

def Pre_Suppress (m : (ℓ : Loc Cert.Suppress.nD Cert.Suppress.τ Cert.Suppress.sig) → Buf (Elt Bits) ℓ) : Prop :=
  True

def Pre_SuppressIdeal (m : (ℓ : Loc Cert.SuppressIdeal.nD Cert.SuppressIdeal.τ Cert.SuppressIdeal.sig) → Buf (Elt Ideal) ℓ) : Prop :=
  True

def Pre_SuppressSpecIdeal (m : (ℓ : Loc Cert.SuppressSpecIdeal.nD Cert.SuppressSpecIdeal.τ Cert.SuppressSpecIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3)
      ∧ r.2.mem ((c.tc : Thread Cert.Heads.nD Cert.Heads.τ).loc Cert.Heads.main_arg4) = m ((c.tc : Thread Cert.Heads.nD Cert.Heads.τ).loc Cert.Heads.main_arg4))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4))
      ∧ r.2.sem = fun _ => 0)

def quiescent_HeadsSpecIdeal [hHeadsSpecIdeal : Cert.HeadsSpecIdeal.Facts] : Prop :=
  ∀ (m : (ℓ : Loc Cert.HeadsSpecIdeal.nD Cert.HeadsSpecIdeal.τ Cert.HeadsSpecIdeal.sig) → Buf (Elt Ideal) ℓ) (g : Dev Cert.HeadsSpecIdeal.nD → PrngReg), Pre_HeadsSpecIdeal m →
    θ_run (Cert.HeadsSpecIdeal.defs (F := Ideal)) (onTc (τ := Cert.HeadsSpecIdeal.τ) (Cert.HeadsSpecIdeal.main (F := Ideal))) ⟨m, fun _ => 0, g⟩ (fun r => (∀ c : Dev Cert.HeadsSpecIdeal.nD,
      r.2.mem ((c.tc : Thread Cert.HeadsSpecIdeal.nD Cert.HeadsSpecIdeal.τ).loc Cert.HeadsSpecIdeal.main_arg0) = m ((c.tc : Thread Cert.HeadsSpecIdeal.nD Cert.HeadsSpecIdeal.τ).loc Cert.HeadsSpecIdeal.main_arg0)
      ∧ r.2.mem ((c.tc : Thread Cert.HeadsSpecIdeal.nD Cert.HeadsSpecIdeal.τ).loc Cert.HeadsSpecIdeal.main_arg1) = m ((c.tc : Thread Cert.HeadsSpecIdeal.nD Cert.HeadsSpecIdeal.τ).loc Cert.HeadsSpecIdeal.main_arg1)
      ∧ r.2.mem ((c.tc : Thread Cert.HeadsSpecIdeal.nD Cert.HeadsSpecIdeal.τ).loc Cert.HeadsSpecIdeal.main_arg2) = m ((c.tc : Thread Cert.HeadsSpecIdeal.nD Cert.HeadsSpecIdeal.τ).loc Cert.HeadsSpecIdeal.main_arg2)
      ∧ r.2.mem ((c.tc : Thread Cert.HeadsSpecIdeal.nD Cert.HeadsSpecIdeal.τ).loc Cert.HeadsSpecIdeal.main_arg3) = m ((c.tc : Thread Cert.HeadsSpecIdeal.nD Cert.HeadsSpecIdeal.τ).loc Cert.HeadsSpecIdeal.main_arg3)
      ∧ r.2.mem ((c.tc : Thread Cert.HeadsSpecIdeal.nD Cert.HeadsSpecIdeal.τ).loc Cert.HeadsSpecIdeal.main_arg4) = m ((c.tc : Thread Cert.HeadsSpecIdeal.nD Cert.HeadsSpecIdeal.τ).loc Cert.HeadsSpecIdeal.main_arg4))
      ∧ r.2.sem = fun _ => 0)

def quiescent_Suppress [hSuppress : Cert.Suppress.Facts] : Prop :=
  ∀ (m : (ℓ : Loc Cert.Suppress.nD Cert.Suppress.τ Cert.Suppress.sig) → Buf (Elt Bits) ℓ) (g : Dev Cert.Suppress.nD → PrngReg), Pre_Suppress m →
    θ_run (Cert.Suppress.defs (F := Bits)) (onTc (τ := Cert.Suppress.τ) (Cert.Suppress.main (F := Bits))) ⟨m, fun _ => 0, g⟩ (fun r => (∀ c : Dev Cert.Suppress.nD,
      r.2.mem ((c.tc : Thread Cert.Suppress.nD Cert.Suppress.τ).loc Cert.Suppress.main_arg0) = m ((c.tc : Thread Cert.Suppress.nD Cert.Suppress.τ).loc Cert.Suppress.main_arg0)
      ∧ r.2.mem ((c.tc : Thread Cert.Suppress.nD Cert.Suppress.τ).loc Cert.Suppress.main_arg1) = m ((c.tc : Thread Cert.Suppress.nD Cert.Suppress.τ).loc Cert.Suppress.main_arg1)
      ∧ r.2.mem ((c.tc : Thread Cert.Suppress.nD Cert.Suppress.τ).loc Cert.Suppress.main_arg2) = m ((c.tc : Thread Cert.Suppress.nD Cert.Suppress.τ).loc Cert.Suppress.main_arg2)
      ∧ r.2.mem ((c.tc : Thread Cert.Suppress.nD Cert.Suppress.τ).loc Cert.Suppress.main_arg3) = m ((c.tc : Thread Cert.Suppress.nD Cert.Suppress.τ).loc Cert.Suppress.main_arg3)
      ∧ r.2.mem ((c.tc : Thread Cert.Suppress.nD Cert.Suppress.τ).loc Cert.Suppress.main_arg4) = m ((c.tc : Thread Cert.Suppress.nD Cert.Suppress.τ).loc Cert.Suppress.main_arg4))
      ∧ r.2.sem = fun _ => 0)

def quiescent_SuppressIdeal [hSuppressIdeal : Cert.SuppressIdeal.Facts] : Prop :=
  ∀ (m : (ℓ : Loc Cert.SuppressIdeal.nD Cert.SuppressIdeal.τ Cert.SuppressIdeal.sig) → Buf (Elt Ideal) ℓ) (g : Dev Cert.SuppressIdeal.nD → PrngReg), Pre_SuppressIdeal m →
    θ_run (Cert.SuppressIdeal.defs (F := Ideal)) (onTc (τ := Cert.SuppressIdeal.τ) (Cert.SuppressIdeal.main (F := Ideal))) ⟨m, fun _ => 0, g⟩ (fun r => (∀ c : Dev Cert.SuppressIdeal.nD,
      r.2.mem ((c.tc : Thread Cert.SuppressIdeal.nD Cert.SuppressIdeal.τ).loc Cert.SuppressIdeal.main_arg0) = m ((c.tc : Thread Cert.SuppressIdeal.nD Cert.SuppressIdeal.τ).loc Cert.SuppressIdeal.main_arg0)
      ∧ r.2.mem ((c.tc : Thread Cert.SuppressIdeal.nD Cert.SuppressIdeal.τ).loc Cert.SuppressIdeal.main_arg1) = m ((c.tc : Thread Cert.SuppressIdeal.nD Cert.SuppressIdeal.τ).loc Cert.SuppressIdeal.main_arg1)
      ∧ r.2.mem ((c.tc : Thread Cert.SuppressIdeal.nD Cert.SuppressIdeal.τ).loc Cert.SuppressIdeal.main_arg2) = m ((c.tc : Thread Cert.SuppressIdeal.nD Cert.SuppressIdeal.τ).loc Cert.SuppressIdeal.main_arg2)
      ∧ r.2.mem ((c.tc : Thread Cert.SuppressIdeal.nD Cert.SuppressIdeal.τ).loc Cert.SuppressIdeal.main_arg3) = m ((c.tc : Thread Cert.SuppressIdeal.nD Cert.SuppressIdeal.τ).loc Cert.SuppressIdeal.main_arg3)
      ∧ r.2.mem ((c.tc : Thread Cert.SuppressIdeal.nD Cert.SuppressIdeal.τ).loc Cert.SuppressIdeal.main_arg4) = m ((c.tc : Thread Cert.SuppressIdeal.nD Cert.SuppressIdeal.τ).loc Cert.SuppressIdeal.main_arg4))
      ∧ r.2.sem = fun _ => 0)

def quiescent_SuppressSpecIdeal [hSuppressSpecIdeal : Cert.SuppressSpecIdeal.Facts] : Prop :=
  ∀ (m : (ℓ : Loc Cert.SuppressSpecIdeal.nD Cert.SuppressSpecIdeal.τ Cert.SuppressSpecIdeal.sig) → Buf (Elt Ideal) ℓ) (g : Dev Cert.SuppressSpecIdeal.nD → PrngReg), Pre_SuppressSpecIdeal m →
    θ_run (Cert.SuppressSpecIdeal.defs (F := Ideal)) (onTc (τ := Cert.SuppressSpecIdeal.τ) (Cert.SuppressSpecIdeal.main (F := Ideal))) ⟨m, fun _ => 0, g⟩ (fun r => (∀ c : Dev Cert.SuppressSpecIdeal.nD,
      r.2.mem ((c.tc : Thread Cert.SuppressSpecIdeal.nD Cert.SuppressSpecIdeal.τ).loc Cert.SuppressSpecIdeal.main_arg0) = m ((c.tc : Thread Cert.SuppressSpecIdeal.nD Cert.SuppressSpecIdeal.τ).loc Cert.SuppressSpecIdeal.main_arg0)
      ∧ r.2.mem ((c.tc : Thread Cert.SuppressSpecIdeal.nD Cert.SuppressSpecIdeal.τ).loc Cert.SuppressSpecIdeal.main_arg1) = m ((c.tc : Thread Cert.SuppressSpecIdeal.nD Cert.SuppressSpecIdeal.τ).loc Cert.SuppressSpecIdeal.main_arg1)
      ∧ r.2.mem ((c.tc : Thread Cert.SuppressSpecIdeal.nD Cert.SuppressSpecIdeal.τ).loc Cert.SuppressSpecIdeal.main_arg2) = m ((c.tc : Thread Cert.SuppressSpecIdeal.nD Cert.SuppressSpecIdeal.τ).loc Cert.SuppressSpecIdeal.main_arg2)
      ∧ r.2.mem ((c.tc : Thread Cert.SuppressSpecIdeal.nD Cert.SuppressSpecIdeal.τ).loc Cert.SuppressSpecIdeal.main_arg3) = m ((c.tc : Thread Cert.SuppressSpecIdeal.nD Cert.SuppressSpecIdeal.τ).loc Cert.SuppressSpecIdeal.main_arg3)
      ∧ r.2.mem ((c.tc : Thread Cert.SuppressSpecIdeal.nD Cert.SuppressSpecIdeal.τ).loc Cert.SuppressSpecIdeal.main_arg4) = m ((c.tc : Thread Cert.SuppressSpecIdeal.nD Cert.SuppressSpecIdeal.τ).loc Cert.SuppressSpecIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Heads_HeadsIdeal : Prop :=
  True

def algebraic_HeadsIdeal_HeadsSpecIdeal [hHeadsIdeal : Cert.HeadsIdeal.Facts] [hHeadsSpecIdeal : Cert.HeadsSpecIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsSpecIdeal.nD Cert.HeadsSpecIdeal.τ Cert.HeadsSpecIdeal.sig) → Buf (Elt Ideal) ℓ) (g' : Dev Cert.HeadsSpecIdeal.nD → PrngReg), Pre_HeadsIdeal m →
    (∀ c : Dev Cert.HeadsIdeal.nD,
      m' ((c.tc : Thread Cert.HeadsSpecIdeal.nD Cert.HeadsSpecIdeal.τ).loc Cert.HeadsSpecIdeal.main_arg0) = m ((c.tc : Thread Cert.HeadsIdeal.nD Cert.HeadsIdeal.τ).loc Cert.HeadsIdeal.main_arg0)
      ∧ m' ((c.tc : Thread Cert.HeadsSpecIdeal.nD Cert.HeadsSpecIdeal.τ).loc Cert.HeadsSpecIdeal.main_arg1) = m ((c.tc : Thread Cert.HeadsIdeal.nD Cert.HeadsIdeal.τ).loc Cert.HeadsIdeal.main_arg1)
      ∧ m' ((c.tc : Thread Cert.HeadsSpecIdeal.nD Cert.HeadsSpecIdeal.τ).loc Cert.HeadsSpecIdeal.main_arg2) = m ((c.tc : Thread Cert.HeadsIdeal.nD Cert.HeadsIdeal.τ).loc Cert.HeadsIdeal.main_arg2)
      ∧ m' ((c.tc : Thread Cert.HeadsSpecIdeal.nD Cert.HeadsSpecIdeal.τ).loc Cert.HeadsSpecIdeal.main_arg3) = m ((c.tc : Thread Cert.HeadsIdeal.nD Cert.HeadsIdeal.τ).loc Cert.HeadsIdeal.main_arg3)
      ∧ m' ((c.tc : Thread Cert.HeadsSpecIdeal.nD Cert.HeadsSpecIdeal.τ).loc Cert.HeadsSpecIdeal.main_arg4) = m ((c.tc : Thread Cert.HeadsIdeal.nD Cert.HeadsIdeal.τ).loc Cert.HeadsIdeal.main_arg4)) →
    ∃ (v0 : (c : Dev Cert.HeadsIdeal.nD) → Buf (Elt Ideal) ((c.tc : Thread Cert.HeadsIdeal.nD Cert.HeadsIdeal.τ).loc Cert.HeadsIdeal.main_v36_0)) (v1 : (c : Dev Cert.HeadsIdeal.nD) → Buf (Elt Ideal) ((c.tc : Thread Cert.HeadsIdeal.nD Cert.HeadsIdeal.τ).loc Cert.HeadsIdeal.main_v36_1)) (v2 : (c : Dev Cert.HeadsIdeal.nD) → Buf (Elt Ideal) ((c.tc : Thread Cert.HeadsIdeal.nD Cert.HeadsIdeal.τ).loc Cert.HeadsIdeal.main_v36_2)) (v3 : (c : Dev Cert.HeadsIdeal.nD) → Buf (Elt Ideal) ((c.tc : Thread Cert.HeadsIdeal.nD Cert.HeadsIdeal.τ).loc Cert.HeadsIdeal.main_v36_3)) (v4 : (c : Dev Cert.HeadsIdeal.nD) → Buf (Elt Ideal) ((c.tc : Thread Cert.HeadsIdeal.nD Cert.HeadsIdeal.τ).loc Cert.HeadsIdeal.main_v36_4)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v36_0) = v0 c
          ∧ r.2.mem ((c.tc : Thread Cert.HeadsIdeal.nD Cert.HeadsIdeal.τ).loc Cert.HeadsIdeal.main_v36_1) = v1 c
          ∧ r.2.mem ((c.tc : Thread Cert.HeadsIdeal.nD Cert.HeadsIdeal.τ).loc Cert.HeadsIdeal.main_v36_2) = v2 c
          ∧ r.2.mem ((c.tc : Thread Cert.HeadsIdeal.nD Cert.HeadsIdeal.τ).loc Cert.HeadsIdeal.main_v36_3) = v3 c
          ∧ r.2.mem ((c.tc : Thread Cert.HeadsIdeal.nD Cert.HeadsIdeal.τ).loc Cert.HeadsIdeal.main_v36_4) = v4 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4))
      ∧ θ_run (Cert.HeadsSpecIdeal.defs (F := Ideal)) (onTc (τ := Cert.HeadsSpecIdeal.τ) (Cert.HeadsSpecIdeal.main (F := Ideal))) ⟨m', fun _ => 0, g'⟩ (fun r => ∀ c : Dev Cert.HeadsSpecIdeal.nD,
          r.2.mem ((c.tc : Thread Cert.HeadsSpecIdeal.nD Cert.HeadsSpecIdeal.τ).loc Cert.HeadsSpecIdeal.main_v153) = v0 c
          ∧ r.2.mem ((c.tc : Thread Cert.HeadsSpecIdeal.nD Cert.HeadsSpecIdeal.τ).loc Cert.HeadsSpecIdeal.main_v160) = v1 c
          ∧ r.2.mem ((c.tc : Thread Cert.HeadsSpecIdeal.nD Cert.HeadsSpecIdeal.τ).loc Cert.HeadsSpecIdeal.main_v167) = v2 c
          ∧ r.2.mem ((c.tc : Thread Cert.HeadsSpecIdeal.nD Cert.HeadsSpecIdeal.τ).loc Cert.HeadsSpecIdeal.main_v174) = v3 c
          ∧ r.2.mem ((c.tc : Thread Cert.HeadsSpecIdeal.nD Cert.HeadsSpecIdeal.τ).loc Cert.HeadsSpecIdeal.main_v186) = v4 c
          ∧ r.2.mem ((c.tc : Thread Cert.HeadsSpecIdeal.nD Cert.HeadsSpecIdeal.τ).loc Cert.HeadsSpecIdeal.main_arg0) = m' ((c.tc : Thread Cert.HeadsSpecIdeal.nD Cert.HeadsSpecIdeal.τ).loc Cert.HeadsSpecIdeal.main_arg0)
          ∧ r.2.mem ((c.tc : Thread Cert.HeadsSpecIdeal.nD Cert.HeadsSpecIdeal.τ).loc Cert.HeadsSpecIdeal.main_arg1) = m' ((c.tc : Thread Cert.HeadsSpecIdeal.nD Cert.HeadsSpecIdeal.τ).loc Cert.HeadsSpecIdeal.main_arg1)
          ∧ r.2.mem ((c.tc : Thread Cert.HeadsSpecIdeal.nD Cert.HeadsSpecIdeal.τ).loc Cert.HeadsSpecIdeal.main_arg2) = m' ((c.tc : Thread Cert.HeadsSpecIdeal.nD Cert.HeadsSpecIdeal.τ).loc Cert.HeadsSpecIdeal.main_arg2)
          ∧ r.2.mem ((c.tc : Thread Cert.HeadsSpecIdeal.nD Cert.HeadsSpecIdeal.τ).loc Cert.HeadsSpecIdeal.main_arg3) = m' ((c.tc : Thread Cert.HeadsSpecIdeal.nD Cert.HeadsSpecIdeal.τ).loc Cert.HeadsSpecIdeal.main_arg3)
          ∧ r.2.mem ((c.tc : Thread Cert.HeadsSpecIdeal.nD Cert.HeadsSpecIdeal.τ).loc Cert.HeadsSpecIdeal.main_arg4) = m' ((c.tc : Thread Cert.HeadsSpecIdeal.nD Cert.HeadsSpecIdeal.τ).loc Cert.HeadsSpecIdeal.main_arg4))

def preserves_Suppress_SuppressIdeal : Prop :=
  True

def algebraic_SuppressIdeal_SuppressSpecIdeal [hSuppressIdeal : Cert.SuppressIdeal.Facts] [hSuppressSpecIdeal : Cert.SuppressSpecIdeal.Facts] : Prop :=
  ∀ (m : (ℓ : Loc Cert.SuppressIdeal.nD Cert.SuppressIdeal.τ Cert.SuppressIdeal.sig) → Buf (Elt Ideal) ℓ) (g : Dev Cert.SuppressIdeal.nD → PrngReg)
    (m' : (ℓ : Loc Cert.SuppressSpecIdeal.nD Cert.SuppressSpecIdeal.τ Cert.SuppressSpecIdeal.sig) → Buf (Elt Ideal) ℓ) (g' : Dev Cert.SuppressSpecIdeal.nD → PrngReg), Pre_SuppressIdeal m →
    (∀ c : Dev Cert.SuppressIdeal.nD,
      m' ((c.tc : Thread Cert.SuppressSpecIdeal.nD Cert.SuppressSpecIdeal.τ).loc Cert.SuppressSpecIdeal.main_arg0) = m ((c.tc : Thread Cert.SuppressIdeal.nD Cert.SuppressIdeal.τ).loc Cert.SuppressIdeal.main_arg0)
      ∧ m' ((c.tc : Thread Cert.SuppressSpecIdeal.nD Cert.SuppressSpecIdeal.τ).loc Cert.SuppressSpecIdeal.main_arg1) = m ((c.tc : Thread Cert.SuppressIdeal.nD Cert.SuppressIdeal.τ).loc Cert.SuppressIdeal.main_arg1)
      ∧ m' ((c.tc : Thread Cert.SuppressSpecIdeal.nD Cert.SuppressSpecIdeal.τ).loc Cert.SuppressSpecIdeal.main_arg2) = m ((c.tc : Thread Cert.SuppressIdeal.nD Cert.SuppressIdeal.τ).loc Cert.SuppressIdeal.main_arg2)
      ∧ m' ((c.tc : Thread Cert.SuppressSpecIdeal.nD Cert.SuppressSpecIdeal.τ).loc Cert.SuppressSpecIdeal.main_arg3) = m ((c.tc : Thread Cert.SuppressIdeal.nD Cert.SuppressIdeal.τ).loc Cert.SuppressIdeal.main_arg3)
      ∧ m' ((c.tc : Thread Cert.SuppressSpecIdeal.nD Cert.SuppressSpecIdeal.τ).loc Cert.SuppressSpecIdeal.main_arg4) = m ((c.tc : Thread Cert.SuppressIdeal.nD Cert.SuppressIdeal.τ).loc Cert.SuppressIdeal.main_arg4)) →
    ∃ (v0 : (c : Dev Cert.SuppressIdeal.nD) → Buf (Elt Ideal) ((c.tc : Thread Cert.SuppressIdeal.nD Cert.SuppressIdeal.τ).loc Cert.SuppressIdeal.main_v21)) (v1 : (c : Dev Cert.SuppressIdeal.nD) → Buf (Elt Ideal) ((c.tc : Thread Cert.SuppressIdeal.nD Cert.SuppressIdeal.τ).loc Cert.SuppressIdeal.main_v17)),
      θ_run (Cert.SuppressIdeal.defs (F := Ideal)) (onTc (τ := Cert.SuppressIdeal.τ) (Cert.SuppressIdeal.main (F := Ideal))) ⟨m, fun _ => 0, g⟩ (fun r => ∀ c : Dev Cert.SuppressIdeal.nD,
          r.2.mem ((c.tc : Thread Cert.SuppressIdeal.nD Cert.SuppressIdeal.τ).loc Cert.SuppressIdeal.main_v21) = v0 c
          ∧ r.2.mem ((c.tc : Thread Cert.SuppressIdeal.nD Cert.SuppressIdeal.τ).loc Cert.SuppressIdeal.main_v17) = v1 c
          ∧ r.2.mem ((c.tc : Thread Cert.SuppressIdeal.nD Cert.SuppressIdeal.τ).loc Cert.SuppressIdeal.main_arg0) = m ((c.tc : Thread Cert.SuppressIdeal.nD Cert.SuppressIdeal.τ).loc Cert.SuppressIdeal.main_arg0)
          ∧ r.2.mem ((c.tc : Thread Cert.SuppressIdeal.nD Cert.SuppressIdeal.τ).loc Cert.SuppressIdeal.main_arg1) = m ((c.tc : Thread Cert.SuppressIdeal.nD Cert.SuppressIdeal.τ).loc Cert.SuppressIdeal.main_arg1)
          ∧ r.2.mem ((c.tc : Thread Cert.SuppressIdeal.nD Cert.SuppressIdeal.τ).loc Cert.SuppressIdeal.main_arg2) = m ((c.tc : Thread Cert.SuppressIdeal.nD Cert.SuppressIdeal.τ).loc Cert.SuppressIdeal.main_arg2)
          ∧ r.2.mem ((c.tc : Thread Cert.SuppressIdeal.nD Cert.SuppressIdeal.τ).loc Cert.SuppressIdeal.main_arg3) = m ((c.tc : Thread Cert.SuppressIdeal.nD Cert.SuppressIdeal.τ).loc Cert.SuppressIdeal.main_arg3)
          ∧ r.2.mem ((c.tc : Thread Cert.SuppressIdeal.nD Cert.SuppressIdeal.τ).loc Cert.SuppressIdeal.main_arg4) = m ((c.tc : Thread Cert.SuppressIdeal.nD Cert.SuppressIdeal.τ).loc Cert.SuppressIdeal.main_arg4))
      ∧ θ_run (Cert.SuppressSpecIdeal.defs (F := Ideal)) (onTc (τ := Cert.SuppressSpecIdeal.τ) (Cert.SuppressSpecIdeal.main (F := Ideal))) ⟨m', fun _ => 0, g'⟩ (fun r => ∀ c : Dev Cert.SuppressSpecIdeal.nD,
          r.2.mem ((c.tc : Thread Cert.SuppressSpecIdeal.nD Cert.SuppressSpecIdeal.τ).loc Cert.SuppressSpecIdeal.main_v77) = v0 c
          ∧ r.2.mem ((c.tc : Thread Cert.SuppressSpecIdeal.nD Cert.SuppressSpecIdeal.τ).loc Cert.SuppressSpecIdeal.main_v73) = v1 c
          ∧ r.2.mem ((c.tc : Thread Cert.SuppressSpecIdeal.nD Cert.SuppressSpecIdeal.τ).loc Cert.SuppressSpecIdeal.main_arg0) = m' ((c.tc : Thread Cert.SuppressSpecIdeal.nD Cert.SuppressSpecIdeal.τ).loc Cert.SuppressSpecIdeal.main_arg0)
          ∧ r.2.mem ((c.tc : Thread Cert.SuppressSpecIdeal.nD Cert.SuppressSpecIdeal.τ).loc Cert.SuppressSpecIdeal.main_arg1) = m' ((c.tc : Thread Cert.SuppressSpecIdeal.nD Cert.SuppressSpecIdeal.τ).loc Cert.SuppressSpecIdeal.main_arg1)
          ∧ r.2.mem ((c.tc : Thread Cert.SuppressSpecIdeal.nD Cert.SuppressSpecIdeal.τ).loc Cert.SuppressSpecIdeal.main_arg2) = m' ((c.tc : Thread Cert.SuppressSpecIdeal.nD Cert.SuppressSpecIdeal.τ).loc Cert.SuppressSpecIdeal.main_arg2)
          ∧ r.2.mem ((c.tc : Thread Cert.SuppressSpecIdeal.nD Cert.SuppressSpecIdeal.τ).loc Cert.SuppressSpecIdeal.main_arg3) = m' ((c.tc : Thread Cert.SuppressSpecIdeal.nD Cert.SuppressSpecIdeal.τ).loc Cert.SuppressSpecIdeal.main_arg3)
          ∧ r.2.mem ((c.tc : Thread Cert.SuppressSpecIdeal.nD Cert.SuppressSpecIdeal.τ).loc Cert.SuppressSpecIdeal.main_arg4) = m' ((c.tc : Thread Cert.SuppressSpecIdeal.nD Cert.SuppressSpecIdeal.τ).loc Cert.SuppressSpecIdeal.main_arg4))

def Claim : Prop :=
  ∃ (hKernel : Cert.Kernel.Facts) (hKernelIdeal : Cert.KernelIdeal.Facts) (hReferenceIdeal : Cert.ReferenceIdeal.Facts) (hHeads : Cert.Heads.Facts) (hHeadsIdeal : Cert.HeadsIdeal.Facts) (hHeadsSpecIdeal : Cert.HeadsSpecIdeal.Facts) (hSuppress : Cert.Suppress.Facts) (hSuppressIdeal : Cert.SuppressIdeal.Facts) (hSuppressSpecIdeal : Cert.SuppressSpecIdeal.Facts),
    quiescent_Kernel (hKernel := hKernel)
    ∧ quiescent_KernelIdeal (hKernelIdeal := hKernelIdeal)
    ∧ quiescent_ReferenceIdeal (hReferenceIdeal := hReferenceIdeal)
    ∧ quiescent_Heads (hHeads := hHeads)
    ∧ quiescent_HeadsIdeal (hHeadsIdeal := hHeadsIdeal)
    ∧ quiescent_HeadsSpecIdeal (hHeadsSpecIdeal := hHeadsSpecIdeal)
    ∧ quiescent_Suppress (hSuppress := hSuppress)
    ∧ quiescent_SuppressIdeal (hSuppressIdeal := hSuppressIdeal)
    ∧ quiescent_SuppressSpecIdeal (hSuppressSpecIdeal := hSuppressSpecIdeal)
    ∧ preserves_Kernel_KernelIdeal
    ∧ algebraic_KernelIdeal_ReferenceIdeal (hKernelIdeal := hKernelIdeal) (hReferenceIdeal := hReferenceIdeal)
    ∧ preserves_Heads_HeadsIdeal
    ∧ algebraic_HeadsIdeal_HeadsSpecIdeal (hHeadsIdeal := hHeadsIdeal) (hHeadsSpecIdeal := hHeadsSpecIdeal)
    ∧ preserves_Suppress_SuppressIdeal
    ∧ algebraic_SuppressIdeal_SuppressSpecIdeal (hSuppressIdeal := hSuppressIdeal) (hSuppressSpecIdeal := hSuppressSpecIdeal)
-- ==== Kernel.lean ====
abbrev S4x512x96x160 : Shape := ⟨4, ![4, 512, 96, 160]⟩
abbrev S512x512x3x3 : Shape := ⟨4, ![512, 512, 3, 3]⟩
abbrev S512 : Shape := ⟨1, ![512]⟩
abbrev S4x96x160x512 : Shape := ⟨4, ![4, 96, 160, 512]⟩
abbrev S_ : Shape := ⟨0, ![]⟩
abbrev S4x98x162x512 : Shape := ⟨4, ![4, 98, 162, 512]⟩
abbrev S4x49x81x512 : Shape := ⟨4, ![4, 49, 81, 512]⟩
abbrev S4x48x81x512 : Shape := ⟨4, ![4, 48, 81, 512]⟩
abbrev S4x56x81x512 : Shape := ⟨4, ![4, 56, 81, 512]⟩
abbrev S3x3x512x512 : Shape := ⟨4, ![3, 3, 512, 512]⟩
abbrev S9x512x512 : Shape := ⟨3, ![9, 512, 512]⟩
abbrev S1x512 : Shape := ⟨2, ![1, 512]⟩
abbrev S4x3840x512 : Shape := ⟨3, ![4, 3840, 512]⟩
abbrev S1x8x81x512 : Shape := ⟨4, ![1, 8, 81, 512]⟩
abbrev S1x640x512 : Shape := ⟨3, ![1, 640, 512]⟩
abbrev S8x81x512 : Shape := ⟨3, ![8, 81, 512]⟩
abbrev S7x81x512 : Shape := ⟨3, ![7, 81, 512]⟩
abbrev S1x81x512 : Shape := ⟨3, ![1, 81, 512]⟩
abbrev S8x80x512 : Shape := ⟨3, ![8, 80, 512]⟩
abbrev S640x512 : Shape := ⟨2, ![640, 512]⟩
abbrev S1x512x512 : Shape := ⟨3, ![1, 512, 512]⟩
abbrev S512x512 : Shape := ⟨2, ![512, 512]⟩

abbrev nBuf : Space → Nat
  | .hbm => 23
  | .vmem => 16
  | .smem => 0
  | _ => 0

abbrev bufTy : (tb : Table) → Fin (tcTables nBuf tb) → BufTy
  | .hbm, ⟨0, _⟩ => ⟨S4x512x96x160, .f32⟩
  | .hbm, ⟨1, _⟩ => ⟨S512x512x3x3, .f32⟩
  | .hbm, ⟨2, _⟩ => ⟨S512, .f32⟩
  | .hbm, ⟨3, _⟩ => ⟨S4x96x160x512, .f32⟩
  | .hbm, ⟨4, _⟩ => ⟨S_, .i32⟩
  | .hbm, ⟨5, _⟩ => ⟨S_, .f32⟩
  | .hbm, ⟨6, _⟩ => ⟨S4x98x162x512, .f32⟩
  | .hbm, ⟨7, _⟩ => ⟨S4x49x81x512, .f32⟩
  | .hbm, ⟨8, _⟩ => ⟨S4x49x81x512, .f32⟩
  | .hbm, ⟨9, _⟩ => ⟨S4x49x81x512, .f32⟩
  | .hbm, ⟨10, _⟩ => ⟨S4x48x81x512, .f32⟩
  | .hbm, ⟨11, _⟩ => ⟨S4x49x81x512, .f32⟩
  | .hbm, ⟨12, _⟩ => ⟨S4x48x81x512, .f32⟩
  | .hbm, ⟨13, _⟩ => ⟨S_, .i32⟩
  | .hbm, ⟨14, _⟩ => ⟨S_, .f32⟩
  | .hbm, ⟨15, _⟩ => ⟨S4x56x81x512, .f32⟩
  | .hbm, ⟨16, _⟩ => ⟨S_, .i32⟩
  | .hbm, ⟨17, _⟩ => ⟨S_, .f32⟩
  | .hbm, ⟨18, _⟩ => ⟨S4x56x81x512, .f32⟩
  | .hbm, ⟨19, _⟩ => ⟨S3x3x512x512, .f32⟩
  | .hbm, ⟨20, _⟩ => ⟨S9x512x512, .f32⟩
  | .hbm, ⟨21, _⟩ => ⟨S1x512, .f32⟩
  | .hbm, ⟨22, _⟩ => ⟨S4x3840x512, .f32⟩
  | .local _ .vmem, ⟨0, _⟩ => ⟨S1x8x81x512, .f32⟩
  | .local _ .vmem, ⟨1, _⟩ => ⟨S1x8x81x512, .f32⟩
  | .local _ .vmem, ⟨2, _⟩ => ⟨S1x8x81x512, .f32⟩
  | .local _ .vmem, ⟨3, _⟩ => ⟨S1x8x81x512, .f32⟩
  | .local _ .vmem, ⟨4, _⟩ => ⟨S1x8x81x512, .f32⟩
  | .local _ .vmem, ⟨5, _⟩ => ⟨S1x8x81x512, .f32⟩
  | .local _ .vmem, ⟨6, _⟩ => ⟨S1x8x81x512, .f32⟩
  | .local _ .vmem, ⟨7, _⟩ => ⟨S1x8x81x512, .f32⟩
  | .local _ .vmem, ⟨8, _⟩ => ⟨S1x8x81x512, .f32⟩
  | .local _ .vmem, ⟨9, _⟩ => ⟨S1x8x81x512, .f32⟩
  | .local _ .vmem, ⟨10, _⟩ => ⟨S1x8x81x512, .f32⟩
  | .local _ .vmem, ⟨11, _⟩ => ⟨S1x8x81x512, .f32⟩
  | .local _ .vmem, ⟨12, _⟩ => ⟨S9x512x512, .f32⟩
  | .local _ .vmem, ⟨13, _⟩ => ⟨S1x512, .f32⟩
  | .local _ .vmem, ⟨14, _⟩ => ⟨S1x640x512, .f32⟩
  | .local _ .vmem, ⟨15, _⟩ => ⟨S1x640x512, .f32⟩
  | _, _ => ⟨S4x512x96x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_c_1 : Ref sig .tc := ⟨.hbm, 16, rfl⟩
abbrev main_call2_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x81x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x81x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x81x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x81x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x81x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x81x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S9x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x640x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x512x96x160 : Shape := ⟨4, ![4, 512, 96, 160]⟩
abbrev S512x512x3x3 : Shape := ⟨4, ![512, 512, 3, 3]⟩
abbrev S512 : Shape := ⟨1, ![512]⟩
abbrev S_ : Shape := ⟨0, ![]⟩
abbrev S4x512x98x162 : Shape := ⟨4, ![4, 512, 98, 162]⟩
abbrev S4x512x48x80 : Shape := ⟨4, ![4, 512, 48, 80]⟩
abbrev S512x512x1x1 : Shape := ⟨4, ![512, 512, 1, 1]⟩
abbrev S512x512 : Shape := ⟨2, ![512, 512]⟩
abbrev S512x4x48x80 : Shape := ⟨4, ![512, 4, 48, 80]⟩
abbrev S1x512x1x1 : Shape := ⟨4, ![1, 512, 1, 1]⟩
abbrev S4x48x80x512 : Shape := ⟨4, ![4, 48, 80, 512]⟩
abbrev S4x3840x512 : Shape := ⟨3, ![4, 3840, 512]⟩

abbrev nBuf : Space → Nat
  | .hbm => 64
  | .vmem => 0
  | .smem => 0
  | _ => 0

abbrev bufTy : (tb : Table) → Fin (tcTables nBuf tb) → BufTy
  | .hbm, ⟨0, _⟩ => ⟨S4x512x96x160, .f32⟩
  | .hbm, ⟨1, _⟩ => ⟨S512x512x3x3, .f32⟩
  | .hbm, ⟨2, _⟩ => ⟨S512, .f32⟩
  | .hbm, ⟨3, _⟩ => ⟨S_, .i32⟩
  | .hbm, ⟨4, _⟩ => ⟨S_, .f32⟩
  | .hbm, ⟨5, _⟩ => ⟨S4x512x98x162, .f32⟩
  | .hbm, ⟨6, _⟩ => ⟨S4x512x48x80, .f32⟩
  | .hbm, ⟨7, _⟩ => ⟨S512x512x1x1, .f32⟩
  | .hbm, ⟨8, _⟩ => ⟨S512x512, .f32⟩
  | .hbm, ⟨9, _⟩ => ⟨S512x4x48x80, .f32⟩
  | .hbm, ⟨10, _⟩ => ⟨S4x512x48x80, .f32⟩
  | .hbm, ⟨11, _⟩ => ⟨S4x512x48x80, .f32⟩
  | .hbm, ⟨12, _⟩ => ⟨S512x512x1x1, .f32⟩
  | .hbm, ⟨13, _⟩ => ⟨S512x512, .f32⟩
  | .hbm, ⟨14, _⟩ => ⟨S512x4x48x80, .f32⟩
  | .hbm, ⟨15, _⟩ => ⟨S4x512x48x80, .f32⟩
  | .hbm, ⟨16, _⟩ => ⟨S4x512x48x80, .f32⟩
  | .hbm, ⟨17, _⟩ => ⟨S4x512x48x80, .f32⟩
  | .hbm, ⟨18, _⟩ => ⟨S512x512x1x1, .f32⟩
  | .hbm, ⟨19, _⟩ => ⟨S512x512, .f32⟩
  | .hbm, ⟨20, _⟩ => ⟨S512x4x48x80, .f32⟩
  | .hbm, ⟨21, _⟩ => ⟨S4x512x48x80, .f32⟩
  | .hbm, ⟨22, _⟩ => ⟨S4x512x48x80, .f32⟩
  | .hbm, ⟨23, _⟩ => ⟨S4x512x48x80, .f32⟩
  | .hbm, ⟨24, _⟩ => ⟨S512x512x1x1, .f32⟩
  | .hbm, ⟨25, _⟩ => ⟨S512x512, .f32⟩
  | .hbm, ⟨26, _⟩ => ⟨S512x4x48x80, .f32⟩
  | .hbm, ⟨27, _⟩ => ⟨S4x512x48x80, .f32⟩
  | .hbm, ⟨28, _⟩ => ⟨S4x512x48x80, .f32⟩
  | .hbm, ⟨29, _⟩ => ⟨S4x512x48x80, .f32⟩
  | .hbm, ⟨30, _⟩ => ⟨S512x512x1x1, .f32⟩
  | .hbm, ⟨31, _⟩ => ⟨S512x512, .f32⟩
  | .hbm, ⟨32, _⟩ => ⟨S512x4x48x80, .f32⟩
  | .hbm, ⟨33, _⟩ => ⟨S4x512x48x80, .f32⟩
  | .hbm, ⟨34, _⟩ => ⟨S4x512x48x80, .f32⟩
  | .hbm, ⟨35, _⟩ => ⟨S4x512x48x80, .f32⟩
  | .hbm, ⟨36, _⟩ => ⟨S512x512x1x1, .f32⟩
  | .hbm, ⟨37, _⟩ => ⟨S512x512, .f32⟩
  | .hbm, ⟨38, _⟩ => ⟨S512x4x48x80, .f32⟩
  | .hbm, ⟨39, _⟩ => ⟨S4x512x48x80, .f32⟩
  | .hbm, ⟨40, _⟩ => ⟨S4x512x48x80, .f32⟩
  | .hbm, ⟨41, _⟩ => ⟨S4x512x48x80, .f32⟩
  | .hbm, ⟨42, _⟩ => ⟨S512x512x1x1, .f32⟩
  | .hbm, ⟨43, _⟩ => ⟨S512x512, .f32⟩
  | .hbm, ⟨44, _⟩ => ⟨S512x4x48x80, .f32⟩
  | .hbm, ⟨45, _⟩ => ⟨S4x512x48x80, .f32⟩
  | .hbm, ⟨46, _⟩ => ⟨S4x512x48x80, .f32⟩
  | .hbm, ⟨47, _⟩ => ⟨S4x512x48x80, .f32⟩
  | .hbm, ⟨48, _⟩ => ⟨S512x512x1x1, .f32⟩
  | .hbm, ⟨49, _⟩ => ⟨S512x512, .f32⟩
  | .hbm, ⟨50, _⟩ => ⟨S512x4x48x80, .f32⟩
  | .hbm, ⟨51, _⟩ => ⟨S4x512x48x80, .f32⟩
  | .hbm, ⟨52, _⟩ => ⟨S4x512x48x80, .f32⟩
  | .hbm, ⟨53, _⟩ => ⟨S4x512x48x80, .f32⟩
  | .hbm, ⟨54, _⟩ => ⟨S512x512x1x1, .f32⟩
  | .hbm, ⟨55, _⟩ => ⟨S512x512, .f32⟩
  | .hbm, ⟨56, _⟩ => ⟨S512x4x48x80, .f32⟩
  | .hbm, ⟨57, _⟩ => ⟨S4x512x48x80, .f32⟩
  | .hbm, ⟨58, _⟩ => ⟨S4x512x48x80, .f32⟩
  | .hbm, ⟨59, _⟩ => ⟨S1x512x1x1, .f32⟩
  | .hbm, ⟨60, _⟩ => ⟨S4x512x48x80, .f32⟩
  | .hbm, ⟨61, _⟩ => ⟨S4x512x48x80, .f32⟩
  | .hbm, ⟨62, _⟩ => ⟨S4x48x80x512, .f32⟩
  | .hbm, ⟨63, _⟩ => ⟨S4x3840x512, .f32⟩
  | _, _ => ⟨S4x512x96x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩

abbrev nD : Nat := 1
abbrev τ : Topo := Topo.v7x

variable {F : FTy → Type} [FloatOps F]
-- ==== Heads.lean ====
abbrev S4x3840x512 : Shape := ⟨3, ![4, 3840, 512]⟩
abbrev S36x512x1x1 : Shape := ⟨4, ![36, 512, 1, 1]⟩
abbrev S36 : Shape := ⟨1, ![36]⟩
abbrev S18x512x3x3 : Shape := ⟨4, ![18, 512, 3, 3]⟩
abbrev S18 : Shape := ⟨1, ![18]⟩
abbrev S8x128 : Shape := ⟨2, ![8, 128]⟩
abbrev S36x512 : Shape := ⟨2, ![36, 512]⟩
abbrev S_ : Shape := ⟨0, ![]⟩
abbrev S9x512x128 : Shape := ⟨3, ![9, 512, 128]⟩
abbrev S36x1 : Shape := ⟨2, ![36, 1]⟩
abbrev S36x2 : Shape := ⟨2, ![36, 2]⟩
abbrev S9x512x3x3 : Shape := ⟨4, ![9, 512, 3, 3]⟩
abbrev S3x3x512x9 : Shape := ⟨4, ![3, 3, 512, 9]⟩
abbrev S9x512x9 : Shape := ⟨3, ![9, 512, 9]⟩
abbrev S1 : Shape := ⟨1, ![1]⟩
abbrev S128 : Shape := ⟨1, ![128]⟩
abbrev S9 : Shape := ⟨1, ![9]⟩
abbrev S1x128 : Shape := ⟨2, ![1, 128]⟩
abbrev S4x3840x9 : Shape := ⟨3, ![4, 3840, 9]⟩
abbrev S1x3840x512 : Shape := ⟨3, ![1, 3840, 512]⟩
abbrev S1x3840x9 : Shape := ⟨3, ![1, 3840, 9]⟩
abbrev S50x82x512 : Shape := ⟨3, ![50, 82, 512]⟩
abbrev S3840x512 : Shape := ⟨2, ![3840, 512]⟩
abbrev S48x80x512 : Shape := ⟨3, ![48, 80, 512]⟩
abbrev S3840x256 : Shape := ⟨2, ![3840, 256]⟩
abbrev S1x256x128 : Shape := ⟨3, ![1, 256, 128]⟩
abbrev S256x128 : Shape := ⟨2, ![256, 128]⟩
abbrev S3840x128 : Shape := ⟨2, ![3840, 128]⟩
abbrev S3840x1 : Shape := ⟨2, ![3840, 1]⟩
abbrev S1x9 : Shape := ⟨2, ![1, 9]⟩
abbrev S3840x9 : Shape := ⟨2, ![3840, 9]⟩

abbrev nBuf : Space → Nat
  | .hbm => 62
  | .vmem => 16
  | .smem => 0
  | _ => 0

abbrev bufTy : (tb : Table) → Fin (tcTables nBuf tb) → BufTy
  | .hbm, ⟨0, _⟩ => ⟨S4x3840x512, .f32⟩
  | .hbm, ⟨1, _⟩ => ⟨S36x512x1x1, .f32⟩
  | .hbm, ⟨2, _⟩ => ⟨S36, .f32⟩
  | .hbm, ⟨3, _⟩ => ⟨S18x512x3x3, .f32⟩
  | .hbm, ⟨4, _⟩ => ⟨S18, .f32⟩
  | .hbm, ⟨5, _⟩ => ⟨S36, .i32⟩
  | .hbm, ⟨6, _⟩ => ⟨S36, .i1⟩
  | .hbm, ⟨7, _⟩ => ⟨S36, .i32⟩
  | .hbm, ⟨8, _⟩ => ⟨S36, .i1⟩
  | .hbm, ⟨9, _⟩ => ⟨S36, .i1⟩
  | .hbm, ⟨10, _⟩ => ⟨S36, .i1⟩
  | .hbm, ⟨11, _⟩ => ⟨S8x128, .f32⟩
  | .hbm, ⟨12, _⟩ => ⟨S36x512, .f32⟩
  | .hbm, ⟨13, _⟩ => ⟨S_, .f32⟩
  | .hbm, ⟨14, _⟩ => ⟨S9x512x128, .f32⟩
  | .hbm, ⟨15, _⟩ => ⟨S_, .i32⟩
  | .hbm, ⟨16, _⟩ => ⟨S36, .i32⟩
  | .hbm, ⟨17, _⟩ => ⟨S36, .i32⟩
  | .hbm, ⟨18, _⟩ => ⟨S36, .i32⟩
  | .hbm, ⟨19, _⟩ => ⟨S36x1, .i32⟩
  | .hbm, ⟨20, _⟩ => ⟨S36x512, .f32⟩
  | .hbm, ⟨21, _⟩ => ⟨S_, .i32⟩
  | .hbm, ⟨22, _⟩ => ⟨S36, .i32⟩
  | .hbm, ⟨23, _⟩ => ⟨S36, .i32⟩
  | .hbm, ⟨24, _⟩ => ⟨S36, .i32⟩
  | .hbm, ⟨25, _⟩ => ⟨S_, .i32⟩
  | .hbm, ⟨26, _⟩ => ⟨S36, .i32⟩
  | .hbm, ⟨27, _⟩ => ⟨S36, .i32⟩
  | .hbm, ⟨28, _⟩ => ⟨S36x1, .i32⟩
  | .hbm, ⟨29, _⟩ => ⟨S36x1, .i32⟩
  | .hbm, ⟨30, _⟩ => ⟨S36x2, .i32⟩
  | .hbm, ⟨31, _⟩ => ⟨S9x512x128, .f32⟩
  | .hbm, ⟨32, _⟩ => ⟨S9x512x3x3, .f32⟩
  | .hbm, ⟨33, _⟩ => ⟨S3x3x512x9, .f32⟩
  | .hbm, ⟨34, _⟩ => ⟨S9x512x9, .f32⟩
  | .hbm, ⟨35, _⟩ => ⟨S_, .i32⟩
  | .hbm, ⟨36, _⟩ => ⟨S1, .i32⟩
  | .hbm, ⟨37, _⟩ => ⟨S9x512x128, .f32⟩
  | .hbm, ⟨38, _⟩ => ⟨S_, .f32⟩
  | .hbm, ⟨39, _⟩ => ⟨S128, .f32⟩
  | .hbm, ⟨40, _⟩ => ⟨S_, .i32⟩
  | .hbm, ⟨41, _⟩ => ⟨S36, .i32⟩
  | .hbm, ⟨42, _⟩ => ⟨S36, .i32⟩
  | .hbm, ⟨43, _⟩ => ⟨S36, .i32⟩
  | .hbm, ⟨44, _⟩ => ⟨S36x1, .i32⟩
  | .hbm, ⟨45, _⟩ => ⟨S36, .f32⟩
  | .hbm, ⟨46, _⟩ => ⟨S_, .i32⟩
  | .hbm, ⟨47, _⟩ => ⟨S36, .i32⟩
  | .hbm, ⟨48, _⟩ => ⟨S36, .i32⟩
  | .hbm, ⟨49, _⟩ => ⟨S36, .i32⟩
  | .hbm, ⟨50, _⟩ => ⟨S36x1, .i32⟩
  | .hbm, ⟨51, _⟩ => ⟨S128, .f32⟩
  | .hbm, ⟨52, _⟩ => ⟨S9, .f32⟩
  | .hbm, ⟨53, _⟩ => ⟨S_, .i32⟩
  | .hbm, ⟨54, _⟩ => ⟨S1, .i32⟩
  | .hbm, ⟨55, _⟩ => ⟨S128, .f32⟩
  | .hbm, ⟨56, _⟩ => ⟨S1x128, .f32⟩
  | .hbm, ⟨57, _⟩ => ⟨S4x3840x9, .f32⟩
  | .hbm, ⟨58, _⟩ => ⟨S4x3840x9, .f32⟩
  | .hbm, ⟨59, _⟩ => ⟨S4x3840x9, .f32⟩
  | .hbm, ⟨60, _⟩ => ⟨S4x3840x9, .f32⟩
  | .hbm, ⟨61, _⟩ => ⟨S4x3840x9, .f32⟩
  | .local _ .vmem, ⟨0, _⟩ => ⟨S1x3840x512, .f32⟩
  | .local _ .vmem, ⟨1, _⟩ => ⟨S1x3840x512, .f32⟩
  | .local _ .vmem, ⟨2, _⟩ => ⟨S9x512x128, .f32⟩
  | .local _ .vmem, ⟨3, _⟩ => ⟨S1x128, .f32⟩
  | .local _ .vmem, ⟨4, _⟩ => ⟨S8x128, .f32⟩
  | .local _ .vmem, ⟨5, _⟩ => ⟨S1x3840x9, .f32⟩
  | .local _ .vmem, ⟨6, _⟩ => ⟨S1x3840x9, .f32⟩
  | .local _ .vmem, ⟨7, _⟩ => ⟨S1x3840x9, .f32⟩
  | .local _ .vmem, ⟨8, _⟩ => ⟨S1x3840x9, .f32⟩
  | .local _ .vmem, ⟨9, _⟩ => ⟨S1x3840x9, .f32⟩
  | .local _ .vmem, ⟨10, _⟩ => ⟨S1x3840x9, .f32⟩
  | .local _ .vmem, ⟨11, _⟩ => ⟨S1x3840x9, .f32⟩
  | .local _ .vmem, ⟨12, _⟩ => ⟨S1x3840x9, .f32⟩
  | .local _ .vmem, ⟨13, _⟩ => ⟨S1x3840x9, .f32⟩
  | .local _ .vmem, ⟨14, _⟩ => ⟨S1x3840x9, .f32⟩
  | .local _ .vmem, ⟨15, _⟩ => ⟨S50x82x512, .f32⟩
  | _, _ => ⟨S4x3840x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_cst : Ref sig .tc := ⟨.hbm, 11, rfl⟩
abbrev main_v0 : Ref sig .tc := ⟨.hbm, 12, rfl⟩
abbrev main_cst_5 : Ref sig .tc := ⟨.hbm, 13, rfl⟩
abbrev main_v1 : Ref sig .tc := ⟨.hbm, 14, rfl⟩
abbrev main_c_6 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_7 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_8 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_9 : Ref sig .tc := ⟨.hbm, 35, rfl⟩
abbrev main_v19 : Ref sig .tc := ⟨.hbm, 36, rfl⟩
abbrev main_v20 : Ref sig .tc := ⟨.hbm, 37, rfl⟩
abbrev main_cst_10 : Ref sig .tc := ⟨.hbm, 38, rfl⟩
abbrev main_v21 : Ref sig .tc := ⟨.hbm, 39, rfl⟩
abbrev main_c_11 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_12 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_13 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36_0 : Ref sig .tc := ⟨.hbm, 57, rfl⟩
abbrev main_v36_1 : Ref sig .tc := ⟨.hbm, 58, rfl⟩
abbrev main_v36_2 : Ref sig .tc := ⟨.hbm, 59, rfl⟩
abbrev main_v36_3 : Ref sig .tc := ⟨.hbm, 60, rfl⟩
abbrev main_v36_4 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3840x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x3840x9 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3840x9 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3840x9 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x3840x9 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3840x9 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HeadsSpecIdeal.lean ====
abbrev S4x3840x512 : Shape := ⟨3, ![4, 3840, 512]⟩
abbrev S36x512x1x1 : Shape := ⟨4, ![36, 512, 1, 1]⟩
abbrev S36 : Shape := ⟨1, ![36]⟩
abbrev S18x512x3x3 : Shape := ⟨4, ![18, 512, 3, 3]⟩
abbrev S18 : Shape := ⟨1, ![18]⟩
abbrev S9x4 : Shape := ⟨2, ![9, 4]⟩
abbrev S4x48x80x512 : Shape := ⟨4, ![4, 48, 80, 512]⟩
abbrev S4x512x48x80 : Shape := ⟨4, ![4, 512, 48, 80]⟩
abbrev S_ : Shape := ⟨0, ![]⟩
abbrev S36x512 : Shape := ⟨2, ![36, 512]⟩
abbrev S36x4x48x80 : Shape := ⟨4, ![36, 4, 48, 80]⟩
abbrev S4x36x48x80 : Shape := ⟨4, ![4, 36, 48, 80]⟩
abbrev S1x36x1x1 : Shape := ⟨4, ![1, 36, 1, 1]⟩
abbrev S4x512x50x82 : Shape := ⟨4, ![4, 512, 50, 82]⟩
abbrev S18x512x1x1 : Shape := ⟨4, ![18, 512, 1, 1]⟩
abbrev S18x512 : Shape := ⟨2, ![18, 512]⟩
abbrev S18x4x48x80 : Shape := ⟨4, ![18, 4, 48, 80]⟩
abbrev S4x18x48x80 : Shape := ⟨4, ![4, 18, 48, 80]⟩
abbrev S1x18x1x1 : Shape := ⟨4, ![1, 18, 1, 1]⟩
abbrev S80 : Shape := ⟨1, ![80]⟩
abbrev S48 : Shape := ⟨1, ![48]⟩
abbrev S48x80 : Shape := ⟨2, ![48, 80]⟩
abbrev S3840x1 : Shape := ⟨2, ![3840, 1]⟩
abbrev S9x1 : Shape := ⟨2, ![9, 1]⟩
abbrev S9 : Shape := ⟨1, ![9]⟩
abbrev S1x9 : Shape := ⟨2, ![1, 9]⟩
abbrev S3840x9 : Shape := ⟨2, ![3840, 9]⟩
abbrev S4x9x4x3840 : Shape := ⟨4, ![4, 9, 4, 3840]⟩
abbrev S4x3840x9x4 : Shape := ⟨4, ![4, 3840, 9, 4]⟩
abbrev S4x9x48x80 : Shape := ⟨4, ![4, 9, 48, 80]⟩
abbrev S4x9x3840 : Shape := ⟨3, ![4, 9, 3840]⟩
abbrev S4x3840x9 : Shape := ⟨3, ![4, 3840, 9]⟩
abbrev S4x3840x9x1 : Shape := ⟨4, ![4, 3840, 9, 1]⟩
abbrev S1x3840x9 : Shape := ⟨3, ![1, 3840, 9]⟩

abbrev nBuf : Space → Nat
  | .hbm => 221
  | .vmem => 0
  | .smem => 0
  | _ => 0

abbrev hbmTy0_0 (i : Nat) : BufTy := match i % 128 with
  | 0 => ⟨S4x3840x512, .f32⟩
  | 1 => ⟨S36x512x1x1, .f32⟩
  | 2 => ⟨S36, .f32⟩
  | 3 => ⟨S18x512x3x3, .f32⟩
  | 4 => ⟨S18, .f32⟩
  | 5 => ⟨S9x4, .f32⟩
  | 6 => ⟨S4x48x80x512, .f32⟩
  | 7 => ⟨S4x512x48x80, .f32⟩
  | 8 => ⟨S_, .i32⟩
  | 9 => ⟨S_, .f32⟩
  | 10 => ⟨S4x512x48x80, .f32⟩
  | 11 => ⟨S36x512, .f32⟩
  | 12 => ⟨S36x4x48x80, .f32⟩
  | 13 => ⟨S4x36x48x80, .f32⟩
  | 14 => ⟨S1x36x1x1, .f32⟩
  | 15 => ⟨S4x36x48x80, .f32⟩
  | 16 => ⟨S4x36x48x80, .f32⟩
  | 17 => ⟨S_, .i32⟩
  | 18 => ⟨S_, .f32⟩
  | 19 => ⟨S4x512x50x82, .f32⟩
  | 20 => ⟨S4x512x48x80, .f32⟩
  | 21 => ⟨S18x512x1x1, .f32⟩
  | 22 => ⟨S18x512, .f32⟩
  | 23 => ⟨S18x4x48x80, .f32⟩
  | 24 => ⟨S4x18x48x80, .f32⟩
  | 25 => ⟨S4x512x48x80, .f32⟩
  | 26 => ⟨S18x512x1x1, .f32⟩
  | 27 => ⟨S18x512, .f32⟩
  | 28 => ⟨S18x4x48x80, .f32⟩
  | 29 => ⟨S4x18x48x80, .f32⟩
  | 30 => ⟨S4x18x48x80, .f32⟩
  | 31 => ⟨S4x512x48x80, .f32⟩
  | 32 => ⟨S18x512x1x1, .f32⟩
  | 33 => ⟨S18x512, .f32⟩
  | 34 => ⟨S18x4x48x80, .f32⟩
  | 35 => ⟨S4x18x48x80, .f32⟩
  | 36 => ⟨S4x18x48x80, .f32⟩
  | 37 => ⟨S4x512x48x80, .f32⟩
  | 38 => ⟨S18x512x1x1, .f32⟩
  | 39 => ⟨S18x512, .f32⟩
  | 40 => ⟨S18x4x48x80, .f32⟩
  | 41 => ⟨S4x18x48x80, .f32⟩
  | 42 => ⟨S4x18x48x80, .f32⟩
  | 43 => ⟨S4x512x48x80, .f32⟩
  | 44 => ⟨S18x512x1x1, .f32⟩
  | 45 => ⟨S18x512, .f32⟩
  | 46 => ⟨S18x4x48x80, .f32⟩
  | 47 => ⟨S4x18x48x80, .f32⟩
  | 48 => ⟨S4x18x48x80, .f32⟩
  | 49 => ⟨S4x512x48x80, .f32⟩
  | 50 => ⟨S18x512x1x1, .f32⟩
  | 51 => ⟨S18x512, .f32⟩
  | 52 => ⟨S18x4x48x80, .f32⟩
  | 53 => ⟨S4x18x48x80, .f32⟩
  | 54 => ⟨S4x18x48x80, .f32⟩
  | 55 => ⟨S4x512x48x80, .f32⟩
  | 56 => ⟨S18x512x1x1, .f32⟩
  | 57 => ⟨S18x512, .f32⟩
  | 58 => ⟨S18x4x48x80, .f32⟩
  | 59 => ⟨S4x18x48x80, .f32⟩
  | 60 => ⟨S4x18x48x80, .f32⟩
  | 61 => ⟨S4x512x48x80, .f32⟩
  | 62 => ⟨S18x512x1x1, .f32⟩
  | 63 => ⟨S18x512, .f32⟩
  | 64 => ⟨S18x4x48x80, .f32⟩
  | 65 => ⟨S4x18x48x80, .f32⟩
  | 66 => ⟨S4x18x48x80, .f32⟩
  | 67 => ⟨S4x512x48x80, .f32⟩
  | 68 => ⟨S18x512x1x1, .f32⟩
  | 69 => ⟨S18x512, .f32⟩
  | 70 => ⟨S18x4x48x80, .f32⟩
  | 71 => ⟨S4x18x48x80, .f32⟩
  | 72 => ⟨S4x18x48x80, .f32⟩
  | 73 => ⟨S1x18x1x1, .f32⟩
  | 74 => ⟨S4x18x48x80, .f32⟩
  | 75 => ⟨S4x18x48x80, .f32⟩
  | 76 => ⟨S80, .i32⟩
  | 77 => ⟨S_, .i32⟩
  | 78 => ⟨S80, .i32⟩
  | 79 => ⟨S80, .i32⟩
  | 80 => ⟨S80, .f32⟩
  | 81 => ⟨S48, .i32⟩
  | 82 => ⟨S_, .i32⟩
  | 83 => ⟨S48, .i32⟩
  | 84 => ⟨S48, .i32⟩
  | 85 => ⟨S48, .f32⟩
  | 86 => ⟨S48x80, .f32⟩
  | 87 => ⟨S48x80, .f32⟩
  | 88 => ⟨S3840x1, .f32⟩
  | 89 => ⟨S3840x1, .f32⟩
  | 90 => ⟨S9x1, .f32⟩
  | 91 => ⟨S9, .f32⟩
  | 92 => ⟨S1x9, .f32⟩
  | 93 => ⟨S3840x9, .f32⟩
  | 94 => ⟨S3840x9, .f32⟩
  | 95 => ⟨S3840x9, .f32⟩
  | 96 => ⟨S9x1, .f32⟩
  | 97 => ⟨S9, .f32⟩
  | 98 => ⟨S1x9, .f32⟩
  | 99 => ⟨S3840x9, .f32⟩
  | 100 => ⟨S3840x9, .f32⟩
  | 101 => ⟨S3840x9, .f32⟩
  | 102 => ⟨S9x1, .f32⟩
  | 103 => ⟨S9, .f32⟩
  | 104 => ⟨S1x9, .f32⟩
  | 105 => ⟨S3840x9, .f32⟩
  | 106 => ⟨S3840x9, .f32⟩
  | 107 => ⟨S3840x9, .f32⟩
  | 108 => ⟨S9x1, .f32⟩
  | 109 => ⟨S9, .f32⟩
  | 110 => ⟨S1x9, .f32⟩
  | 111 => ⟨S3840x9, .f32⟩
  | 112 => ⟨S3840x9, .f32⟩
  | 113 => ⟨S3840x9, .f32⟩
  | 114 => ⟨S4x9x4x3840, .f32⟩
  | 115 => ⟨S4x3840x9x4, .f32⟩
  | 116 => ⟨S4x9x48x80, .f32⟩
  | 117 => ⟨S4x9x3840, .f32⟩
  | 118 => ⟨S4x3840x9, .f32⟩
  | 119 => ⟨S3840x9, .f32⟩
  | 120 => ⟨S_, .f32⟩
  | 121 => ⟨S3840x9, .f32⟩
  | 122 => ⟨S3840x9, .f32⟩
  | 123 => ⟨S3840x9, .f32⟩
  | 124 => ⟨S_, .f32⟩
  | 125 => ⟨S3840x9, .f32⟩
  | 126 => ⟨S3840x9, .f32⟩
  | 127 => ⟨S_, .f32⟩
  | _ => ⟨S4x3840x512, .f32⟩

abbrev hbmTy0_1 (i : Nat) : BufTy := match i % 128 with
  | 0 => ⟨S3840x9, .f32⟩
  | 1 => ⟨S3840x9, .f32⟩
  | 2 => ⟨S3840x9, .f32⟩
  | 3 => ⟨S_, .f32⟩
  | 4 => ⟨S3840x9, .f32⟩
  | 5 => ⟨S3840x9, .f32⟩
  | 6 => ⟨S3840x9, .f32⟩
  | 7 => ⟨S4x3840x9x1, .f32⟩
  | 8 => ⟨S4x3840x9, .f32⟩
  | 9 => ⟨S1x3840x9, .f32⟩
  | 10 => ⟨S4x3840x9, .f32⟩
  | 11 => ⟨S4x3840x9, .f32⟩
  | 12 => ⟨S1x3840x9, .f32⟩
  | 13 => ⟨S4x3840x9, .f32⟩
  | 14 => ⟨S4x3840x9, .f32⟩
  | 15 => ⟨S4x3840x9x1, .f32⟩
  | 16 => ⟨S4x3840x9, .f32⟩
  | 17 => ⟨S1x3840x9, .f32⟩
  | 18 => ⟨S4x3840x9, .f32⟩
  | 19 => ⟨S4x3840x9, .f32⟩
  | 20 => ⟨S1x3840x9, .f32⟩
  | 21 => ⟨S4x3840x9, .f32⟩
  | 22 => ⟨S4x3840x9, .f32⟩
  | 23 => ⟨S4x3840x9x1, .f32⟩
  | 24 => ⟨S4x3840x9, .f32⟩
  | 25 => ⟨S4x3840x9, .f32⟩
  | 26 => ⟨S1x3840x9, .f32⟩
  | 27 => ⟨S4x3840x9, .f32⟩
  | 28 => ⟨S4x3840x9, .f32⟩
  | 29 => ⟨S4x3840x9x1, .f32⟩
  | 30 => ⟨S4x3840x9, .f32⟩
  | 31 => ⟨S4x3840x9, .f32⟩
  | 32 => ⟨S1x3840x9, .f32⟩
  | 33 => ⟨S4x3840x9, .f32⟩
  | 34 => ⟨S4x3840x9, .f32⟩
  | 35 => ⟨S_, .f32⟩
  | 36 => ⟨S4x3840x9, .f32⟩
  | 37 => ⟨S4x3840x9, .f32⟩
  | 38 => ⟨S4x3840x9, .f32⟩
  | 39 => ⟨S_, .f32⟩
  | 40 => ⟨S4x3840x9, .f32⟩
  | 41 => ⟨S4x3840x9, .f32⟩
  | 42 => ⟨S_, .f32⟩
  | 43 => ⟨S4x3840x9, .f32⟩
  | 44 => ⟨S4x3840x9, .f32⟩
  | 45 => ⟨S_, .f32⟩
  | 46 => ⟨S4x3840x9, .f32⟩
  | 47 => ⟨S4x3840x9, .f32⟩
  | 48 => ⟨S4x3840x9, .f32⟩
  | 49 => ⟨S_, .f32⟩
  | 50 => ⟨S4x3840x9, .f32⟩
  | 51 => ⟨S4x3840x9, .f32⟩
  | 52 => ⟨S_, .f32⟩
  | 53 => ⟨S4x3840x9, .f32⟩
  | 54 => ⟨S4x3840x9, .f32⟩
  | 55 => ⟨S_, .f32⟩
  | 56 => ⟨S4x3840x9, .f32⟩
  | 57 => ⟨S4x3840x9, .f32⟩
  | 58 => ⟨S4x3840x9, .f32⟩
  | 59 => ⟨S_, .f32⟩
  | 60 => ⟨S4x3840x9, .f32⟩
  | 61 => ⟨S4x3840x9, .f32⟩
  | 62 => ⟨S_, .f32⟩
  | 63 => ⟨S4x3840x9, .f32⟩
  | 64 => ⟨S4x3840x9, .f32⟩
  | 65 => ⟨S_, .f32⟩
  | 66 => ⟨S4x3840x9, .f32⟩
  | 67 => ⟨S4x3840x9, .f32⟩
  | 68 => ⟨S4x3840x9, .f32⟩
  | 69 => ⟨S_, .f32⟩
  | 70 => ⟨S4x3840x9, .f32⟩
  | 71 => ⟨S4x3840x9, .f32⟩
  | 72 => ⟨S_, .f32⟩
  | 73 => ⟨S4x3840x9, .f32⟩
  | 74 => ⟨S4x3840x9, .f32⟩
  | 75 => ⟨S4x3840x9, .f32⟩
  | 76 => ⟨S_, .f32⟩
  | 77 => ⟨S4x3840x9, .f32⟩
  | 78 => ⟨S4x3840x9, .f32⟩
  | 79 => ⟨S4x3840x9, .f32⟩
  | 80 => ⟨S_, .f32⟩
  | 81 => ⟨S4x3840x9, .f32⟩
  | 82 => ⟨S4x3840x9, .f32⟩
  | 83 => ⟨S_, .f32⟩
  | 84 => ⟨S4x3840x9, .f32⟩
  | 85 => ⟨S4x3840x9, .i1⟩
  | 86 => ⟨S_, .f32⟩
  | 87 => ⟨S4x3840x9, .f32⟩
  | 88 => ⟨S4x3840x9, .i1⟩
  | 89 => ⟨S4x3840x9, .i1⟩
  | 90 => ⟨S_, .f32⟩
  | 91 => ⟨S4x3840x9, .f32⟩
  | 92 => ⟨S4x3840x9, .f32⟩
  | _ => ⟨S4x3840x512, .f32⟩

abbrev hbmTy (i : Nat) : BufTy := match i / 128 with
  | 0 => hbmTy0_0 i
  | 1 => hbmTy0_1 i
  | _ => ⟨S4x3840x512, .f32⟩

abbrev bufTy : (tb : Table) → Fin (tcTables nBuf tb) → BufTy
  | .hbm, ⟨i, _⟩ => hbmTy i
  | _, _ => ⟨S4x3840x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_c_1 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_c_2 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_cst_3 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_cst_4 : Ref sig .tc := ⟨.hbm, 124, rfl⟩
abbrev main_v111 : Ref sig .tc := ⟨.hbm, 125, rfl⟩
abbrev main_v112 : Ref sig .tc := ⟨.hbm, 126, rfl⟩
abbrev main_cst_5 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_cst_6 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_cst_7 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_cst_8 : Ref sig .tc := ⟨.hbm, 167, rfl⟩
abbrev main_v150 : Ref sig .tc := ⟨.hbm, 168, rfl⟩
abbrev main_v151 : Ref sig .tc := ⟨.hbm, 169, rfl⟩
abbrev main_cst_9 : Ref sig .tc := ⟨.hbm, 170, rfl⟩
abbrev main_v152 : Ref sig .tc := ⟨.hbm, 171, rfl⟩
abbrev main_v153 : Ref sig .tc := ⟨.hbm, 172, rfl⟩
abbrev main_cst_10 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_cst_11 : Ref sig .tc := ⟨.hbm, 177, rfl⟩
abbrev main_v157 : Ref sig .tc := ⟨.hbm, 178, rfl⟩
abbrev main_v158 : Ref sig .tc := ⟨.hbm, 179, rfl⟩
abbrev main_cst_12 : Ref sig .tc := ⟨.hbm, 180, rfl⟩
abbrev main_v159 : Ref sig .tc := ⟨.hbm, 181, rfl⟩
abbrev main_v160 : Ref sig .tc := ⟨.hbm, 182, rfl⟩
abbrev main_cst_13 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_cst_14 : Ref sig .tc := ⟨.hbm, 187, rfl⟩
abbrev main_v164 : Ref sig .tc := ⟨.hbm, 188, rfl⟩
abbrev main_v165 : Ref sig .tc := ⟨.hbm, 189, rfl⟩
abbrev main_cst_15 : Ref sig .tc := ⟨.hbm, 190, rfl⟩
abbrev main_v166 : Ref sig .tc := ⟨.hbm, 191, rfl⟩
abbrev main_v167 : Ref sig .tc := ⟨.hbm, 192, rfl⟩
abbrev main_cst_16 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_cst_17 : Ref sig .tc := ⟨.hbm, 197, rfl⟩
abbrev main_v171 : Ref sig .tc := ⟨.hbm, 198, rfl⟩
abbrev main_v172 : Ref sig .tc := ⟨.hbm, 199, rfl⟩
abbrev main_cst_18 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_cst_19 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_cst_20 : Ref sig .tc := ⟨.hbm, 208, rfl⟩
abbrev main_v179 : Ref sig .tc := ⟨.hbm, 209, rfl⟩
abbrev main_v180 : Ref sig .tc := ⟨.hbm, 210, rfl⟩
abbrev main_cst_21 : Ref sig .tc := ⟨.hbm, 211, rfl⟩
abbrev main_v181 : Ref sig .tc := ⟨.hbm, 212, rfl⟩
abbrev main_v182 : Ref sig .tc := ⟨.hbm, 213, rfl⟩
abbrev main_cst_22 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_cst_23 : Ref sig .tc := ⟨.hbm, 218, rfl⟩
abbrev main_call2_v0 : Ref sig .tc := ⟨.hbm, 219, rfl⟩
abbrev main_v186 : Ref sig .tc := ⟨.hbm, 220, rfl⟩

abbrev nD : Nat := 1
abbrev τ : Topo := Topo.v7x

variable {F : FTy → Type} [FloatOps F]
-- ==== Suppress.lean ====
abbrev S4x3840x9 : Shape := ⟨3, ![4, 3840, 9]⟩
abbrev S4x34560 : Shape := ⟨2, ![4, 34560]⟩
abbrev S4x2000 : Shape := ⟨2, ![4, 2000]⟩
abbrev S_ : Shape := ⟨0, ![]⟩
abbrev S4x2000x1 : Shape := ⟨3, ![4, 2000, 1]⟩
abbrev S1 : Shape := ⟨1, ![1]⟩
abbrev S1x1x1 : Shape := ⟨3, ![1, 1, 1]⟩
abbrev S4x2048 : Shape := ⟨2, ![4, 2048]⟩
abbrev S300x4x4 : Shape := ⟨3, ![300, 4, 4]⟩
abbrev S4x1 : Shape := ⟨2, ![4, 1]⟩
abbrev S4 : Shape := ⟨1, ![4]⟩
abbrev S4x4 : Shape := ⟨2, ![4, 4]⟩
abbrev S1x4x4 : Shape := ⟨3, ![1, 4, 4]⟩
abbrev S4x300x4 : Shape := ⟨3, ![4, 300, 4]⟩
abbrev S4x1x1 : Shape := ⟨3, ![4, 1, 1]⟩
abbrev S4x300x1 : Shape := ⟨3, ![4, 300, 1]⟩
abbrev S4x300x5 : Shape := ⟨3, ![4, 300, 5]⟩

abbrev nBuf : Space → Nat
  | .hbm => 124
  | .vmem => 8
  | .smem => 0
  | _ => 0

abbrev bufTy : (tb : Table) → Fin (tcTables nBuf tb) → BufTy
  | .hbm, ⟨0, _⟩ => ⟨S4x3840x9, .f32⟩
  | .hbm, ⟨1, _⟩ => ⟨S4x3840x9, .f32⟩
  | .hbm, ⟨2, _⟩ => ⟨S4x3840x9, .f32⟩
  | .hbm, ⟨3, _⟩ => ⟨S4x3840x9, .f32⟩
  | .hbm, ⟨4, _⟩ => ⟨S4x3840x9, .f32⟩
  | .hbm, ⟨5, _⟩ => ⟨S4x34560, .f32⟩
  | .hbm, ⟨6, _⟩ => ⟨S4x2000, .f32⟩
  | .hbm, ⟨7, _⟩ => ⟨S4x2000, .i32⟩
  | .hbm, ⟨8, _⟩ => ⟨S4x34560, .f32⟩
  | .hbm, ⟨9, _⟩ => ⟨S_, .i32⟩
  | .hbm, ⟨10, _⟩ => ⟨S4x2000, .i32⟩
  | .hbm, ⟨11, _⟩ => ⟨S4x2000, .i1⟩
  | .hbm, ⟨12, _⟩ => ⟨S_, .i32⟩
  | .hbm, ⟨13, _⟩ => ⟨S4x2000, .i32⟩
  | .hbm, ⟨14, _⟩ => ⟨S4x2000, .i32⟩
  | .hbm, ⟨15, _⟩ => ⟨S4x2000, .i32⟩
  | .hbm, ⟨16, _⟩ => ⟨S4x2000x1, .i32⟩
  | .hbm, ⟨17, _⟩ => ⟨S1, .i32⟩
  | .hbm, ⟨18, _⟩ => ⟨S_, .i32⟩
  | .hbm, ⟨19, _⟩ => ⟨S4x2000x1, .i32⟩
  | .hbm, ⟨20, _⟩ => ⟨S4x2000x1, .i1⟩
  | .hbm, ⟨21, _⟩ => ⟨S1x1x1, .i32⟩
  | .hbm, ⟨22, _⟩ => ⟨S4x2000x1, .i32⟩
  | .hbm, ⟨23, _⟩ => ⟨S4x2000x1, .i1⟩
  | .hbm, ⟨24, _⟩ => ⟨S4x2000x1, .i1⟩
  | .hbm, ⟨25, _⟩ => ⟨S_, .i1⟩
  | .hbm, ⟨26, _⟩ => ⟨S4x2000, .i1⟩
  | .hbm, ⟨27, _⟩ => ⟨S4x2000, .f32⟩
  | .hbm, ⟨28, _⟩ => ⟨S_, .f32⟩
  | .hbm, ⟨29, _⟩ => ⟨S4x2000, .f32⟩
  | .hbm, ⟨30, _⟩ => ⟨S4x2000, .f32⟩
  | .hbm, ⟨31, _⟩ => ⟨S_, .i32⟩
  | .hbm, ⟨32, _⟩ => ⟨S_, .f32⟩
  | .hbm, ⟨33, _⟩ => ⟨S4x2048, .f32⟩
  | .hbm, ⟨34, _⟩ => ⟨S4x34560, .f32⟩
  | .hbm, ⟨35, _⟩ => ⟨S_, .i32⟩
  | .hbm, ⟨36, _⟩ => ⟨S4x2000, .i32⟩
  | .hbm, ⟨37, _⟩ => ⟨S4x2000, .i1⟩
  | .hbm, ⟨38, _⟩ => ⟨S_, .i32⟩
  | .hbm, ⟨39, _⟩ => ⟨S4x2000, .i32⟩
  | .hbm, ⟨40, _⟩ => ⟨S4x2000, .i32⟩
  | .hbm, ⟨41, _⟩ => ⟨S4x2000, .i32⟩
  | .hbm, ⟨42, _⟩ => ⟨S4x2000x1, .i32⟩
  | .hbm, ⟨43, _⟩ => ⟨S1, .i32⟩
  | .hbm, ⟨44, _⟩ => ⟨S_, .i32⟩
  | .hbm, ⟨45, _⟩ => ⟨S4x2000x1, .i32⟩
  | .hbm, ⟨46, _⟩ => ⟨S4x2000x1, .i1⟩
  | .hbm, ⟨47, _⟩ => ⟨S1x1x1, .i32⟩
  | .hbm, ⟨48, _⟩ => ⟨S4x2000x1, .i32⟩
  | .hbm, ⟨49, _⟩ => ⟨S4x2000x1, .i1⟩
  | .hbm, ⟨50, _⟩ => ⟨S4x2000x1, .i1⟩
  | .hbm, ⟨51, _⟩ => ⟨S_, .i1⟩
  | .hbm, ⟨52, _⟩ => ⟨S4x2000, .i1⟩
  | .hbm, ⟨53, _⟩ => ⟨S4x2000, .f32⟩
  | .hbm, ⟨54, _⟩ => ⟨S_, .f32⟩
  | .hbm, ⟨55, _⟩ => ⟨S4x2000, .f32⟩
  | .hbm, ⟨56, _⟩ => ⟨S4x2000, .f32⟩
  | .hbm, ⟨57, _⟩ => ⟨S_, .i32⟩
  | .hbm, ⟨58, _⟩ => ⟨S_, .f32⟩
  | .hbm, ⟨59, _⟩ => ⟨S4x2048, .f32⟩
  | .hbm, ⟨60, _⟩ => ⟨S4x34560, .f32⟩
  | .hbm, ⟨61, _⟩ => ⟨S_, .i32⟩
  | .hbm, ⟨62, _⟩ => ⟨S4x2000, .i32⟩
  | .hbm, ⟨63, _⟩ => ⟨S4x2000, .i1⟩
  | .hbm, ⟨64, _⟩ => ⟨S_, .i32⟩
  | .hbm, ⟨65, _⟩ => ⟨S4x2000, .i32⟩
  | .hbm, ⟨66, _⟩ => ⟨S4x2000, .i32⟩
  | .hbm, ⟨67, _⟩ => ⟨S4x2000, .i32⟩
  | .hbm, ⟨68, _⟩ => ⟨S4x2000x1, .i32⟩
  | .hbm, ⟨69, _⟩ => ⟨S1, .i32⟩
  | .hbm, ⟨70, _⟩ => ⟨S_, .i32⟩
  | .hbm, ⟨71, _⟩ => ⟨S4x2000x1, .i32⟩
  | .hbm, ⟨72, _⟩ => ⟨S4x2000x1, .i1⟩
  | .hbm, ⟨73, _⟩ => ⟨S1x1x1, .i32⟩
  | .hbm, ⟨74, _⟩ => ⟨S4x2000x1, .i32⟩
  | .hbm, ⟨75, _⟩ => ⟨S4x2000x1, .i1⟩
  | .hbm, ⟨76, _⟩ => ⟨S4x2000x1, .i1⟩
  | .hbm, ⟨77, _⟩ => ⟨S_, .i1⟩
  | .hbm, ⟨78, _⟩ => ⟨S4x2000, .i1⟩
  | .hbm, ⟨79, _⟩ => ⟨S4x2000, .f32⟩
  | .hbm, ⟨80, _⟩ => ⟨S_, .f32⟩
  | .hbm, ⟨81, _⟩ => ⟨S4x2000, .f32⟩
  | .hbm, ⟨82, _⟩ => ⟨S4x2000, .f32⟩
  | .hbm, ⟨83, _⟩ => ⟨S_, .i32⟩
  | .hbm, ⟨84, _⟩ => ⟨S_, .f32⟩
  | .hbm, ⟨85, _⟩ => ⟨S4x2048, .f32⟩
  | .hbm, ⟨86, _⟩ => ⟨S4x34560, .f32⟩
  | .hbm, ⟨87, _⟩ => ⟨S_, .i32⟩
  | .hbm, ⟨88, _⟩ => ⟨S4x2000, .i32⟩
  | .hbm, ⟨89, _⟩ => ⟨S4x2000, .i1⟩
  | .hbm, ⟨90, _⟩ => ⟨S_, .i32⟩
  | .hbm, ⟨91, _⟩ => ⟨S4x2000, .i32⟩
  | .hbm, ⟨92, _⟩ => ⟨S4x2000, .i32⟩
  | .hbm, ⟨93, _⟩ => ⟨S4x2000, .i32⟩
  | .hbm, ⟨94, _⟩ => ⟨S4x2000x1, .i32⟩
  | .hbm, ⟨95, _⟩ => ⟨S1, .i32⟩
  | .hbm, ⟨96, _⟩ => ⟨S_, .i32⟩
  | .hbm, ⟨97, _⟩ => ⟨S4x2000x1, .i32⟩
  | .hbm, ⟨98, _⟩ => ⟨S4x2000x1, .i1⟩
  | .hbm, ⟨99, _⟩ => ⟨S1x1x1, .i32⟩
  | .hbm, ⟨100, _⟩ => ⟨S4x2000x1, .i32⟩
  | .hbm, ⟨101, _⟩ => ⟨S4x2000x1, .i1⟩
  | .hbm, ⟨102, _⟩ => ⟨S4x2000x1, .i1⟩
  | .hbm, ⟨103, _⟩ => ⟨S_, .i1⟩
  | .hbm, ⟨104, _⟩ => ⟨S4x2000, .i1⟩
  | .hbm, ⟨105, _⟩ => ⟨S4x2000, .f32⟩
  | .hbm, ⟨106, _⟩ => ⟨S_, .f32⟩
  | .hbm, ⟨107, _⟩ => ⟨S4x2000, .f32⟩
  | .hbm, ⟨108, _⟩ => ⟨S4x2000, .f32⟩
  | .hbm, ⟨109, _⟩ => ⟨S_, .i32⟩
  | .hbm, ⟨110, _⟩ => ⟨S_, .f32⟩
  | .hbm, ⟨111, _⟩ => ⟨S4x2048, .f32⟩
  | .hbm, ⟨112, _⟩ => ⟨S_, .f32⟩
  | .hbm, ⟨113, _⟩ => ⟨S_, .f32⟩
  | .hbm, ⟨114, _⟩ => ⟨S4x2048, .f32⟩
  | .hbm, ⟨115, _⟩ => ⟨S300x4x4, .f32⟩
  | .hbm, ⟨116, _⟩ => ⟨S4x1, .f32⟩
  | .hbm, ⟨117, _⟩ => ⟨S4x300x4, .f32⟩
  | .hbm, ⟨118, _⟩ => ⟨S4, .f32⟩
  | .hbm, ⟨119, _⟩ => ⟨S4, .i32⟩
  | .hbm, ⟨120, _⟩ => ⟨S4, .f32⟩
  | .hbm, ⟨121, _⟩ => ⟨S4x1x1, .f32⟩
  | .hbm, ⟨122, _⟩ => ⟨S4x300x1, .f32⟩
  | .hbm, ⟨123, _⟩ => ⟨S4x300x5, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S300x4x4, .f32⟩
  | .local _ .vmem, ⟨6, _⟩ => ⟨S4x1, .f32⟩
  | .local _ .vmem, ⟨7, _⟩ => ⟨S4x2048, .f32⟩
  | _, _ => ⟨S4x3840x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_values : Ref sig .tc := ⟨.hbm, 6, rfl⟩
abbrev main_indices : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v2 : Ref sig .tc := ⟨.hbm, 30, rfl⟩
abbrev main_c : Ref sig .tc := ⟨.hbm, 31, rfl⟩
abbrev main_call1_v0 : Ref sig .tc := ⟨.hbm, 32, rfl⟩
abbrev main_v3 : Ref sig .tc := ⟨.hbm, 33, rfl⟩
abbrev main_v4 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_cst : Ref sig .tc := ⟨.hbm, 54, rfl⟩
abbrev main_call2_v14 : Ref sig .tc := ⟨.hbm, 55, rfl⟩
abbrev main_v5 : Ref sig .tc := ⟨.hbm, 56, rfl⟩
abbrev main_c_0 : Ref sig .tc := ⟨.hbm, 57, rfl⟩
abbrev main_call3_v0 : Ref sig .tc := ⟨.hbm, 58, rfl⟩
abbrev main_v6 : Ref sig .tc := ⟨.hbm, 59, rfl⟩
abbrev main_v7 : Ref sig .tc := ⟨.hbm, 60, rfl⟩
abbrev main_call4_c : Ref sig .tc := ⟨.hbm, 61, rfl⟩
abbrev main_call4_v0 : Ref sig .tc := ⟨.hbm, 62, rfl⟩
abbrev main_call4_v1 : Ref sig .tc := ⟨.hbm, 63, rfl⟩
abbrev main_call4_c_0 : Ref sig .tc := ⟨.hbm, 64, rfl⟩
abbrev main_call4_v2 : Ref sig .tc := ⟨.hbm, 65, rfl⟩
abbrev main_call4_v3 : Ref sig .tc := ⟨.hbm, 66, rfl⟩
abbrev main_call4_v4 : Ref sig .tc := ⟨.hbm, 67, rfl⟩
abbrev main_call4_v5 : Ref sig .tc := ⟨.hbm, 68, rfl⟩
abbrev main_call4_c_1 : Ref sig .tc := ⟨.hbm, 69, rfl⟩
abbrev main_call4_c_2 : Ref sig .tc := ⟨.hbm, 70, rfl⟩
abbrev main_call4_v6 : Ref sig .tc := ⟨.hbm, 71, rfl⟩
abbrev main_call4_v7 : Ref sig .tc := ⟨.hbm, 72, rfl⟩
abbrev main_call4_v8 : Ref sig .tc := ⟨.hbm, 73, rfl⟩
abbrev main_call4_v9 : Ref sig .tc := ⟨.hbm, 74, rfl⟩
abbrev main_call4_v10 : Ref sig .tc := ⟨.hbm, 75, rfl⟩
abbrev main_call4_v11 : Ref sig .tc := ⟨.hbm, 76, rfl⟩
abbrev main_call4_c_3 : Ref sig .tc := ⟨.hbm, 77, rfl⟩
abbrev main_call4_v12 : Ref sig .tc := ⟨.hbm, 78, rfl⟩
abbrev main_call4_v13 : Ref sig .tc := ⟨.hbm, 79, rfl⟩
abbrev main_call4_cst : Ref sig .tc := ⟨.hbm, 80, rfl⟩
abbrev main_call4_v14 : Ref sig .tc := ⟨.hbm, 81, rfl⟩
abbrev main_v8 : Ref sig .tc := ⟨.hbm, 82, rfl⟩
abbrev main_c_1 : Ref sig .tc := ⟨.hbm, 83, rfl⟩
abbrev main_call5_v0 : Ref sig .tc := ⟨.hbm, 84, rfl⟩
abbrev main_v9 : Ref sig .tc := ⟨.hbm, 85, rfl⟩
abbrev main_v10 : Ref sig .tc := ⟨.hbm, 86, rfl⟩
abbrev main_call6_c : Ref sig .tc := ⟨.hbm, 87, rfl⟩
abbrev main_call6_v0 : Ref sig .tc := ⟨.hbm, 88, rfl⟩
abbrev main_call6_v1 : Ref sig .tc := ⟨.hbm, 89, rfl⟩
abbrev main_call6_c_0 : Ref sig .tc := ⟨.hbm, 90, rfl⟩
abbrev main_call6_v2 : Ref sig .tc := ⟨.hbm, 91, rfl⟩
abbrev main_call6_v3 : Ref sig .tc := ⟨.hbm, 92, rfl⟩
abbrev main_call6_v4 : Ref sig .tc := ⟨.hbm, 93, rfl⟩
abbrev main_call6_v5 : Ref sig .tc := ⟨.hbm, 94, rfl⟩
abbrev main_call6_c_1 : Ref sig .tc := ⟨.hbm, 95, rfl⟩
abbrev main_call6_c_2 : Ref sig .tc := ⟨.hbm, 96, rfl⟩
abbrev main_call6_v6 : Ref sig .tc := ⟨.hbm, 97, rfl⟩
abbrev main_call6_v7 : Ref sig .tc := ⟨.hbm, 98, rfl⟩
abbrev main_call6_v8 : Ref sig .tc := ⟨.hbm, 99, rfl⟩
abbrev main_call6_v9 : Ref sig .tc := ⟨.hbm, 100, rfl⟩
abbrev main_call6_v10 : Ref sig .tc := ⟨.hbm, 101, rfl⟩
abbrev main_call6_v11 : Ref sig .tc := ⟨.hbm, 102, rfl⟩
abbrev main_call6_c_3 : Ref sig .tc := ⟨.hbm, 103, rfl⟩
abbrev main_call6_v12 : Ref sig .tc := ⟨.hbm, 104, rfl⟩
abbrev main_call6_v13 : Ref sig .tc := ⟨.hbm, 105, rfl⟩
abbrev main_call6_cst : Ref sig .tc := ⟨.hbm, 106, rfl⟩
abbrev main_call6_v14 : Ref sig .tc := ⟨.hbm, 107, rfl⟩
abbrev main_v11 : Ref sig .tc := ⟨.hbm, 108, rfl⟩
abbrev main_c_2 : Ref sig .tc := ⟨.hbm, 109, rfl⟩
abbrev main_call7_v0 : Ref sig .tc := ⟨.hbm, 110, rfl⟩
abbrev main_v12 : Ref sig .tc := ⟨.hbm, 111, rfl⟩
abbrev main_cst : Ref sig .tc := ⟨.hbm, 112, rfl⟩
abbrev main_call8_v0 : Ref sig .tc := ⟨.hbm, 113, rfl⟩
abbrev main_v13 : Ref sig .tc := ⟨.hbm, 114, rfl⟩
abbrev main_v14_0 : Ref sig .tc := ⟨.hbm, 115, rfl⟩
abbrev main_v14_1 : Ref sig .tc := ⟨.hbm, 116, rfl⟩
abbrev main_v15 : Ref sig .tc := ⟨.hbm, 117, rfl⟩
abbrev main_v16 : Ref sig .tc := ⟨.hbm, 118, rfl⟩
abbrev main_v17 : Ref sig .tc := ⟨.hbm, 119, rfl⟩
abbrev main_v18 : Ref sig .tc := ⟨.hbm, 120, rfl⟩
abbrev main_v19 : Ref sig .tc := ⟨.hbm, 121, rfl⟩
abbrev main_v20 : Ref sig .tc := ⟨.hbm, 122, rfl⟩
abbrev main_v21 : Ref sig .tc := ⟨.hbm, 123, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c300_i32 : BitVec 32 := 300#32
  let v16 : BitVec 32 := Scalar.addi c0_i32 c300_i32
  let c1_i32 : BitVec 32 := 1#32
  ⟨c0_i32, v16, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v112 : Index := Scalar.indexCast arg8
  let c0_48 : Index := 0#32
  let c0_49 : Index := 0#32
  ![v112.toNat, 0, 0]
abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S300x4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== SuppressSpecIdeal.lean ====
abbrev S4x3840x9 : Shape := ⟨3, ![4, 3840, 9]⟩
abbrev S4x34560 : Shape := ⟨2, ![4, 34560]⟩
abbrev S4x34560x1 : Shape := ⟨3, ![4, 34560, 1]⟩
abbrev S4x34560x4 : Shape := ⟨3, ![4, 34560, 4]⟩
abbrev S4x2000 : Shape := ⟨2, ![4, 2000]⟩
abbrev S4x2000x1 : Shape := ⟨3, ![4, 2000, 1]⟩
abbrev S_ : Shape := ⟨0, ![]⟩
abbrev S1 : Shape := ⟨1, ![1]⟩
abbrev S1x1x1 : Shape := ⟨3, ![1, 1, 1]⟩
abbrev S4x2000x4 : Shape := ⟨3, ![4, 2000, 4]⟩
abbrev S4x1x2000 : Shape := ⟨3, ![4, 1, 2000]⟩
abbrev S4x2000x2000 : Shape := ⟨3, ![4, 2000, 2000]⟩
abbrev S2000 : Shape := ⟨1, ![2000]⟩
abbrev S300x4x4 : Shape := ⟨3, ![300, 4, 4]⟩
abbrev S300x4 : Shape := ⟨2, ![300, 4]⟩
abbrev S4 : Shape := ⟨1, ![4]⟩
abbrev S4x1x1 : Shape := ⟨3, ![4, 1, 1]⟩
abbrev S4x1x4 : Shape := ⟨3, ![4, 1, 4]⟩
abbrev S4x4 : Shape := ⟨2, ![4, 4]⟩
abbrev S4x1 : Shape := ⟨2, ![4, 1]⟩
abbrev S1x4x4 : Shape := ⟨3, ![1, 4, 4]⟩
abbrev S1x4 : Shape := ⟨2, ![1, 4]⟩
abbrev S4x300x4 : Shape := ⟨3, ![4, 300, 4]⟩
abbrev S4x300x1 : Shape := ⟨3, ![4, 300, 1]⟩
abbrev S4x300x5 : Shape := ⟨3, ![4, 300, 5]⟩

abbrev nBuf : Space → Nat
  | .hbm => 175
  | .vmem => 0
  | .smem => 0
  | _ => 0

abbrev hbmTy0_0 (i : Nat) : BufTy := match i % 128 with
  | 0 => ⟨S4x3840x9, .f32⟩
  | 1 => ⟨S4x3840x9, .f32⟩
  | 2 => ⟨S4x3840x9, .f32⟩
  | 3 => ⟨S4x3840x9, .f32⟩
  | 4 => ⟨S4x3840x9, .f32⟩
  | 5 => ⟨S4x34560, .f32⟩
  | 6 => ⟨S4x34560, .f32⟩
  | 7 => ⟨S4x34560, .f32⟩
  | 8 => ⟨S4x34560, .f32⟩
  | 9 => ⟨S4x34560x1, .f32⟩
  | 10 => ⟨S4x34560x1, .f32⟩
  | 11 => ⟨S4x34560x1, .f32⟩
  | 12 => ⟨S4x34560x1, .f32⟩
  | 13 => ⟨S4x34560x4, .f32⟩
  | 14 => ⟨S4x34560, .f32⟩
  | 15 => ⟨S4x2000, .f32⟩
  | 16 => ⟨S4x2000, .i32⟩
  | 17 => ⟨S4x2000x1, .i32⟩
  | 18 => ⟨S_, .i32⟩
  | 19 => ⟨S4x2000x1, .i32⟩
  | 20 => ⟨S4x2000x1, .i1⟩
  | 21 => ⟨S_, .i32⟩
  | 22 => ⟨S4x2000x1, .i32⟩
  | 23 => ⟨S4x2000x1, .i32⟩
  | 24 => ⟨S4x2000x1, .i32⟩
  | 25 => ⟨S1, .i32⟩
  | 26 => ⟨S_, .i32⟩
  | 27 => ⟨S4x2000x1, .i32⟩
  | 28 => ⟨S4x2000x1, .i1⟩
  | 29 => ⟨S1x1x1, .i32⟩
  | 30 => ⟨S4x2000x1, .i32⟩
  | 31 => ⟨S4x2000x1, .i1⟩
  | 32 => ⟨S4x2000x1, .i1⟩
  | 33 => ⟨S_, .i1⟩
  | 34 => ⟨S4x2000, .i1⟩
  | 35 => ⟨S4x2000x4, .f32⟩
  | 36 => ⟨S4x2000x4, .i1⟩
  | 37 => ⟨S_, .f32⟩
  | 38 => ⟨S4x2000x4, .f32⟩
  | 39 => ⟨S4x2000x4, .f32⟩
  | 40 => ⟨S4x2000x1, .f32⟩
  | 41 => ⟨S4x2000, .f32⟩
  | 42 => ⟨S4x2000x1, .f32⟩
  | 43 => ⟨S4x2000, .f32⟩
  | 44 => ⟨S4x2000x1, .f32⟩
  | 45 => ⟨S4x2000, .f32⟩
  | 46 => ⟨S4x2000x1, .f32⟩
  | 47 => ⟨S4x2000, .f32⟩
  | 48 => ⟨S4x2000, .f32⟩
  | 49 => ⟨S_, .f32⟩
  | 50 => ⟨S4x2000, .f32⟩
  | 51 => ⟨S4x2000, .f32⟩
  | 52 => ⟨S4x2000, .f32⟩
  | 53 => ⟨S_, .f32⟩
  | 54 => ⟨S4x2000, .f32⟩
  | 55 => ⟨S4x2000, .f32⟩
  | 56 => ⟨S4x2000, .f32⟩
  | 57 => ⟨S4x2000x1, .f32⟩
  | 58 => ⟨S4x1x2000, .f32⟩
  | 59 => ⟨S4x2000x2000, .f32⟩
  | 60 => ⟨S4x2000x2000, .f32⟩
  | 61 => ⟨S4x2000x2000, .f32⟩
  | 62 => ⟨S4x2000x1, .f32⟩
  | 63 => ⟨S4x1x2000, .f32⟩
  | 64 => ⟨S4x2000x2000, .f32⟩
  | 65 => ⟨S4x2000x2000, .f32⟩
  | 66 => ⟨S4x2000x2000, .f32⟩
  | 67 => ⟨S4x2000x2000, .f32⟩
  | 68 => ⟨S_, .f32⟩
  | 69 => ⟨S4x2000x2000, .f32⟩
  | 70 => ⟨S4x2000x2000, .f32⟩
  | 71 => ⟨S_, .f32⟩
  | 72 => ⟨S4x2000x2000, .f32⟩
  | 73 => ⟨S4x2000x2000, .f32⟩
  | 74 => ⟨S4x2000x1, .f32⟩
  | 75 => ⟨S4x1x2000, .f32⟩
  | 76 => ⟨S4x2000x2000, .f32⟩
  | 77 => ⟨S4x2000x2000, .f32⟩
  | 78 => ⟨S4x2000x2000, .f32⟩
  | 79 => ⟨S4x2000x1, .f32⟩
  | 80 => ⟨S4x1x2000, .f32⟩
  | 81 => ⟨S4x2000x2000, .f32⟩
  | 82 => ⟨S4x2000x2000, .f32⟩
  | 83 => ⟨S4x2000x2000, .f32⟩
  | 84 => ⟨S4x2000x2000, .f32⟩
  | 85 => ⟨S_, .f32⟩
  | 86 => ⟨S4x2000x2000, .f32⟩
  | 87 => ⟨S4x2000x2000, .f32⟩
  | 88 => ⟨S_, .f32⟩
  | 89 => ⟨S4x2000x2000, .f32⟩
  | 90 => ⟨S4x2000x2000, .f32⟩
  | 91 => ⟨S4x2000x2000, .f32⟩
  | 92 => ⟨S4x2000x1, .f32⟩
  | 93 => ⟨S4x1x2000, .f32⟩
  | 94 => ⟨S4x2000x2000, .f32⟩
  | 95 => ⟨S4x2000x2000, .f32⟩
  | 96 => ⟨S4x2000x2000, .f32⟩
  | 97 => ⟨S4x2000x2000, .f32⟩
  | 98 => ⟨S4x2000x2000, .f32⟩
  | 99 => ⟨S2000, .i32⟩
  | 100 => ⟨S_, .f32⟩
  | 101 => ⟨S4x2000, .f32⟩
  | 102 => ⟨S4x2000, .i1⟩
  | 103 => ⟨S_, .f32⟩
  | 104 => ⟨S300x4x4, .f32⟩
  | 105 => ⟨S_, .i1⟩
  | 106 => ⟨S300x4, .i1⟩
  | 107 => ⟨S_, .i32⟩
  | 108 => ⟨S2000, .i32⟩
  | 109 => ⟨S4x2000x2000, .f32⟩
  | 110 => ⟨S4x2000x4, .f32⟩
  | 111 => ⟨S_, .i32⟩
  | 112 => ⟨S4x2000, .i1⟩
  | 113 => ⟨S300x4x4, .f32⟩
  | 114 => ⟨S300x4, .i1⟩
  | 115 => ⟨S_, .i32⟩
  | 116 => ⟨S_, .i1⟩
  | 117 => ⟨S_, .i1⟩
  | 118 => ⟨S4, .i1⟩
  | 119 => ⟨S_, .i32⟩
  | 120 => ⟨S_, .i32⟩
  | 121 => ⟨S4x2000, .i32⟩
  | 122 => ⟨S4x2000, .i32⟩
  | 123 => ⟨S4x2000, .i32⟩
  | 124 => ⟨S_, .i32⟩
  | 125 => ⟨S4, .i32⟩
  | 126 => ⟨S_, .i32⟩
  | 127 => ⟨S_, .i32⟩
  | _ => ⟨S4x3840x9, .f32⟩

abbrev hbmTy0_1 (i : Nat) : BufTy := match i % 128 with
  | 0 => ⟨S4, .i32⟩
  | 1 => ⟨S4, .i32⟩
  | 2 => ⟨S4x1x1, .i32⟩
  | 3 => ⟨S_, .i32⟩
  | 4 => ⟨S4x1x1, .i32⟩
  | 5 => ⟨S4x1x1, .i1⟩
  | 6 => ⟨S_, .i32⟩
  | 7 => ⟨S4x1x1, .i32⟩
  | 8 => ⟨S4x1x1, .i32⟩
  | 9 => ⟨S4x1x1, .i32⟩
  | 10 => ⟨S4x1x2000, .f32⟩
  | 11 => ⟨S4x2000, .f32⟩
  | 12 => ⟨S4x1x1, .i32⟩
  | 13 => ⟨S_, .i32⟩
  | 14 => ⟨S4x1x1, .i32⟩
  | 15 => ⟨S4x1x1, .i1⟩
  | 16 => ⟨S_, .i32⟩
  | 17 => ⟨S4x1x1, .i32⟩
  | 18 => ⟨S4x1x1, .i32⟩
  | 19 => ⟨S4x1x1, .i32⟩
  | 20 => ⟨S4x1x4, .f32⟩
  | 21 => ⟨S4x4, .f32⟩
  | 22 => ⟨S4x1, .i1⟩
  | 23 => ⟨S4x1, .f32⟩
  | 24 => ⟨S4x4, .f32⟩
  | 25 => ⟨S4x4, .f32⟩
  | 26 => ⟨S_, .f32⟩
  | 27 => ⟨S4x2000, .f32⟩
  | 28 => ⟨S4x2000, .i1⟩
  | 29 => ⟨S4x2000, .i1⟩
  | 30 => ⟨S1x4x4, .f32⟩
  | 31 => ⟨S_, .i32⟩
  | 32 => ⟨S_, .i32⟩
  | 33 => ⟨S300x4x4, .f32⟩
  | 34 => ⟨S1x4, .i1⟩
  | 35 => ⟨S_, .i32⟩
  | 36 => ⟨S300x4, .i1⟩
  | 37 => ⟨S_, .i32⟩
  | 38 => ⟨S_, .i32⟩
  | 39 => ⟨S4x300x4, .f32⟩
  | 40 => ⟨S300x4, .i32⟩
  | 41 => ⟨S_, .i32⟩
  | 42 => ⟨S4, .i32⟩
  | 43 => ⟨S4, .f32⟩
  | 44 => ⟨S4x1x1, .f32⟩
  | 45 => ⟨S4x300x1, .f32⟩
  | 46 => ⟨S4x300x5, .f32⟩
  | _ => ⟨S4x3840x9, .f32⟩

abbrev hbmTy (i : Nat) : BufTy := match i / 128 with
  | 0 => hbmTy0_0 i
  | 1 => hbmTy0_1 i
  | _ => ⟨S4x3840x9, .f32⟩

abbrev bufTy : (tb : Table) → Fin (tcTables nBuf tb) → BufTy
  | .hbm, ⟨i, _⟩ => hbmTy i
  | _, _ => ⟨S4x3840x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_values : Ref sig .tc := ⟨.hbm, 15, rfl⟩
abbrev main_indices : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_c_2 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_c_3 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_0 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_1 : Ref sig .tc := ⟨.hbm, 68, rfl⟩
abbrev main_v38 : Ref sig .tc := ⟨.hbm, 69, rfl⟩
abbrev main_v39 : Ref sig .tc := ⟨.hbm, 70, rfl⟩
abbrev main_cst_2 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_3 : Ref sig .tc := ⟨.hbm, 85, rfl⟩
abbrev main_v53 : Ref sig .tc := ⟨.hbm, 86, rfl⟩
abbrev main_v54 : Ref sig .tc := ⟨.hbm, 87, rfl⟩
abbrev main_cst_4 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_5 : Ref sig .tc := ⟨.hbm, 100, rfl⟩
abbrev main_v66 : Ref sig .tc := ⟨.hbm, 101, rfl⟩
abbrev main_v67 : Ref sig .tc := ⟨.hbm, 102, rfl⟩
abbrev main_cst_6 : Ref sig .tc := ⟨.hbm, 103, rfl⟩
abbrev main_v68 : Ref sig .tc := ⟨.hbm, 104, rfl⟩
abbrev main_c : Ref sig .tc := ⟨.hbm, 105, rfl⟩
abbrev main_v69 : Ref sig .tc := ⟨.hbm, 106, rfl⟩
abbrev main_c_7 : Ref sig .tc := ⟨.hbm, 107, rfl⟩
abbrev main_v70_0 : Ref sig .tc := ⟨.hbm, 108, rfl⟩
abbrev main_v70_1 : Ref sig .tc := ⟨.hbm, 109, rfl⟩
abbrev main_v70_2 : Ref sig .tc := ⟨.hbm, 110, rfl⟩
abbrev main_v70_3 : Ref sig .tc := ⟨.hbm, 111, rfl⟩
abbrev main_v70_4 : Ref sig .tc := ⟨.hbm, 112, rfl⟩
abbrev main_v70_5 : Ref sig .tc := ⟨.hbm, 113, rfl⟩
abbrev main_v70_6 : Ref sig .tc := ⟨.hbm, 114, rfl⟩
abbrev main_while0c_c_15 : Ref sig .tc := ⟨.hbm, 115, rfl⟩
abbrev main_while0c_v78 : Ref sig .tc := ⟨.hbm, 116, rfl⟩
abbrev main_while0b_c_15 : Ref sig .tc := ⟨.hbm, 117, rfl⟩
abbrev main_while0b_v78 : Ref sig .tc := ⟨.hbm, 118, rfl⟩
abbrev main_while0b_c_16 : Ref sig .tc := ⟨.hbm, 119, rfl⟩
abbrev main_while0b_call1_v0 : Ref sig .tc := ⟨.hbm, 120, rfl⟩
abbrev main_while0b_call1_v1 : Ref sig .tc := ⟨.hbm, 121, rfl⟩
abbrev main_while0b_call1_v2 : Ref sig .tc := ⟨.hbm, 122, rfl⟩
abbrev main_while0b_v79 : Ref sig .tc := ⟨.hbm, 123, rfl⟩
abbrev main_while0b_c_17 : Ref sig .tc := ⟨.hbm, 124, rfl⟩
abbrev main_while0b_v80 : Ref sig .tc := ⟨.hbm, 125, rfl⟩
abbrev main_while0b_c_18 : Ref sig .tc := ⟨.hbm, 126, rfl⟩
abbrev main_while0b_call2_v0 : Ref sig .tc := ⟨.hbm, 127, rfl⟩
abbrev main_while0b_call2_v1 : Ref sig .tc := ⟨.hbm, 128, rfl⟩
abbrev main_while0b_v81 : Ref sig .tc := ⟨.hbm, 129, rfl⟩
abbrev main_while0b_v82 : Ref sig .tc := ⟨.hbm, 130, rfl⟩
abbrev main_while0b_call3_c : Ref sig .tc := ⟨.hbm, 131, rfl⟩
abbrev main_while0b_call3_v0 : Ref sig .tc := ⟨.hbm, 132, rfl⟩
abbrev main_while0b_call3_v1 : Ref sig .tc := ⟨.hbm, 133, rfl⟩
abbrev main_while0b_call3_c_0 : Ref sig .tc := ⟨.hbm, 134, rfl⟩
abbrev main_while0b_call3_v2 : Ref sig .tc := ⟨.hbm, 135, rfl⟩
abbrev main_while0b_call3_v3 : Ref sig .tc := ⟨.hbm, 136, rfl⟩
abbrev main_while0b_call3_v4 : Ref sig .tc := ⟨.hbm, 137, rfl⟩
abbrev main_while0b_v83 : Ref sig .tc := ⟨.hbm, 138, rfl⟩
abbrev main_while0b_v84 : Ref sig .tc := ⟨.hbm, 139, rfl⟩
abbrev main_while0b_v85 : Ref sig .tc := ⟨.hbm, 140, rfl⟩
abbrev main_while0b_call4_c : Ref sig .tc := ⟨.hbm, 141, rfl⟩
abbrev main_while0b_call4_v0 : Ref sig .tc := ⟨.hbm, 142, rfl⟩
abbrev main_while0b_call4_v1 : Ref sig .tc := ⟨.hbm, 143, rfl⟩
abbrev main_while0b_call4_c_0 : Ref sig .tc := ⟨.hbm, 144, rfl⟩
abbrev main_while0b_call4_v2 : Ref sig .tc := ⟨.hbm, 145, rfl⟩
abbrev main_while0b_call4_v3 : Ref sig .tc := ⟨.hbm, 146, rfl⟩
abbrev main_while0b_call4_v4 : Ref sig .tc := ⟨.hbm, 147, rfl⟩
abbrev main_while0b_v86 : Ref sig .tc := ⟨.hbm, 148, rfl⟩
abbrev main_while0b_v87 : Ref sig .tc := ⟨.hbm, 149, rfl⟩
abbrev main_while0b_v88 : Ref sig .tc := ⟨.hbm, 150, rfl⟩
abbrev main_while0b_v89 : Ref sig .tc := ⟨.hbm, 151, rfl⟩
abbrev main_while0b_v90 : Ref sig .tc := ⟨.hbm, 152, rfl⟩
abbrev main_while0b_v91 : Ref sig .tc := ⟨.hbm, 153, rfl⟩
abbrev main_while0b_cst_19 : Ref sig .tc := ⟨.hbm, 154, rfl⟩
abbrev main_while0b_v92 : Ref sig .tc := ⟨.hbm, 155, rfl⟩
abbrev main_while0b_v93 : Ref sig .tc := ⟨.hbm, 156, rfl⟩
abbrev main_while0b_v94 : Ref sig .tc := ⟨.hbm, 157, rfl⟩
abbrev main_while0b_call5_v0 : Ref sig .tc := ⟨.hbm, 158, rfl⟩
abbrev main_while0b_call5_c : Ref sig .tc := ⟨.hbm, 159, rfl⟩
abbrev main_while0b_call5_c_0 : Ref sig .tc := ⟨.hbm, 160, rfl⟩
abbrev main_while0b_v95 : Ref sig .tc := ⟨.hbm, 161, rfl⟩
abbrev main_while0b_call6_v0 : Ref sig .tc := ⟨.hbm, 162, rfl⟩
abbrev main_while0b_call6_c : Ref sig .tc := ⟨.hbm, 163, rfl⟩
abbrev main_while0b_v96 : Ref sig .tc := ⟨.hbm, 164, rfl⟩
abbrev main_while0b_c_20 : Ref sig .tc := ⟨.hbm, 165, rfl⟩
abbrev main_while0b_v97 : Ref sig .tc := ⟨.hbm, 166, rfl⟩
abbrev main_v71 : Ref sig .tc := ⟨.hbm, 167, rfl⟩
abbrev main_v72 : Ref sig .tc := ⟨.hbm, 168, rfl⟩
abbrev main_c_8 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩

abbrev nD : Nat := 1
abbrev τ : Topo := Topo.v7x

variable {F : FTy → Type} [FloatOps F]

abbrev main_while0_count : Scf.Loop 32 := ⟨0#32, 300#32, 1#32⟩
-- ==== Proof.ConvSpec.lean ====
/- The convolution as mathematics: a padded image, one filter tap, and the sum over the nine taps. -/
module

public import proofs.«01_k».proof.KernelIdeal
public import Idealize.ShloMosaic.Lib.Pointwise

@[expose] public section

noncomputable section

namespace Cert.Conv

open Idealize.ShloMosaic Cert.KernelIdeal

/-- The image with one ring of zeros around it, at row `r` and column `s` of the padded plane. -/
def padAt (x : FVec Ideal S4x512x96x160 .f32) (n : Fin 4) (k : Fin 512) (r s : ℕ) : EReal :=
  if h : 1 ≤ r ∧ r < 97 ∧ 1 ≤ s ∧ s < 161 then x (ix4 n k ⟨r - 1, by omega⟩ ⟨s - 1, by omega⟩) else 0

/-- One tap of the filter: the products over the channels at stride two. -/
def tap (x : FVec Ideal S4x512x96x160 .f32) (w : FVec Ideal S512x512x3x3 .f32) (n : Fin 4) (o : Fin 512) (r s : ℕ)
    (i j : Fin 3) : EReal :=
  ∑ k : Fin 512, padAt x n k (2 * r + i) (2 * s + j) * w (ix4 o k i j)

/-- The feature at output channel `o`, row `r`, column `s`: the nine taps in order, and the bias. -/
def convAt (x : FVec Ideal S4x512x96x160 .f32) (w : FVec Ideal S512x512x3x3 .f32) (b : FVec Ideal S512 .f32)
    (n : Fin 4) (o : Fin 512) (r s : ℕ) : EReal :=
  tap x w n o r s 0 0 + tap x w n o r s 0 1 + tap x w n o r s 0 2 + tap x w n o r s 1 0 + tap x w n o r s 1 1
    + tap x w n o r s 1 2 + tap x w n o r s 2 0 + tap x w n o r s 2 1 + tap x w n o r s 2 2 + b (ix1 o)

end Cert.Conv

end
-- ==== Proof.ConvRef.lean ====
/- The reference's feature array, element by element. -/
module

public import proofs.«01_k».proof.Proof.ConvSpec
public import proofs.«01_k».proof.Proof.Gen.ReferenceIdeal.Run
public import Idealize.ShloMosaic.Lib.Tactic.CleanTypes
public import Idealize.ShloMosaic.Lib.Pointwise

@[expose] public section

noncomputable section

namespace Cert.Conv

open Cert.ReferenceIdeal Cert.ReferenceIdeal.Gen Idealize.ShloMosaic Idealize.ShloMosaic.TcCoe Cert.ReferenceIdeal.Value

/-- The word zero converted to a float is zero. -/
theorem zero_word : FloatOps.sitofp (F := Ideal) FTy.f32 (0#32) = 0 := by
  simp [FloatOps.sitofp]

theorem cong_add {a b c d : EReal} (h : a = b) (h' : c = d) : a + c = b + d := h ▸ h' ▸ rfl

/-- A padded element written as a choice between an element of the image and zero. -/
theorem pad_branch (x : FVec Ideal S4x512x96x160 .f32) (n : Fin 4) (k : Fin 512) {p : Prop} [Decidable p] {a b : ℕ}
    {ha : p → a < 96} {hb : p → b < 160} {r s : ℕ} (hp : p → 1 ≤ r ∧ r < 97 ∧ 1 ≤ s ∧ s < 161)
    (hq : 1 ≤ r ∧ r < 97 ∧ 1 ≤ s ∧ s < 161 → p) (hr : p → a = r - 1) (hs : p → b = s - 1) :
    (if h : p then x (ix4 n k ⟨a, ha h⟩ ⟨b, hb h⟩) else 0) = padAt x n k r s := by
  unfold padAt
  by_cases h : p
  · obtain rfl := hr h
    obtain rfl := hs h
    rw [dif_pos h, dif_pos (hp h)]
  · rw [dif_neg h, dif_neg fun h' => h (hq h')]

set_option maxRecDepth 16384 in
set_option maxHeartbeats 4000000 in
/-- The reference's result at image `n`, flat position `p`, channel `o` is the convolution there. -/
theorem ref_at (m : (ℓ : Loc nD τ sig) → Buf (Elt Ideal) ℓ) (c : Dev nD) (n : Fin 4) (p : Fin 3840) (o : Fin 512) :
    res_main_v58 m c (ix3 n p o)
      = convAt (m ((c.tc : Thread nD τ).loc main_arg0)) (m ((c.tc : Thread nD τ).loc main_arg1))
          (m ((c.tc : Thread nD τ).loc main_arg2)) n o (p / 80) (p % 80) := by
  unfold res_main_v58
  generalize m ((c.tc : Thread nD τ).loc main_arg0) = x
  generalize m ((c.tc : Thread nD τ).loc main_arg1) = w
  generalize m ((c.tc : Thread nD τ).loc main_arg2) = b
  clean_types
  pointwise
  simp only [zero_word]
  unfold convAt tap
  simp only [Fin.val_zero, Fin.val_one, Fin.val_two]
  refine cong_add (cong_add (cong_add (cong_add (cong_add (cong_add (cong_add (cong_add (cong_add ?_ ?_) ?_) ?_) ?_) ?_) ?_) ?_) ?_) rfl
  all_goals
    refine Finset.sum_congr rfl fun k _ => (mul_comm _ _).trans (congrArg (· * _) ?_)
    exact pad_branch x n k (by omega) (by omega) (fun _ => by omega) (fun _ => by omega)

end Cert.Conv

end
-- ==== Proof.ConvHost.lean ====
/- What the host code lays out for the convolution's windows, element by element. -/
module

public import proofs.«01_k».proof.Proof.ConvRef
public import proofs.«01_k».proof.Proof.Gen.KernelIdeal.Value
public import Idealize.ShloMosaic.Lib.StableHlo.RunRead
public import Idealize.ShloMosaic.Lib.StableHlo.ReadAt

@[expose] public section

noncomputable section

namespace Cert.Conv

open Cert.KernelIdeal Cert.KernelIdeal.Gen Idealize.ShloMosaic Idealize.ShloMosaic.TcCoe

variable (m : (ℓ : Loc nD τ sig) → Buf (Elt Ideal) ℓ) (c : Dev nD)

/-- Outside the image the padded image is zero. -/
theorem padAt_out (x : FVec Ideal S4x512x96x160 .f32) (n : Fin 4) (k : Fin 512) (r s : ℕ) (h : 97 ≤ r) : padAt x n k r s = 0 := by
  unfold padAt
  exact dif_neg fun h' => by omega

set_option maxHeartbeats 4000000 in
/-- The even rows and even columns of the padded image, and zero rows below. -/
theorem host_ee (n : Fin 4) (r : Fin 56) (s : Fin 81) (k : Fin 512) :
    V m c main_v8 (ix4 n r s k) = padAt (m ((c.tc : Thread nD τ).loc main_arg0)) n k (2 * r) (2 * s) := by
  after_reads_simp
  simp only [StableHlo.TRef.toBuf, StableHlo.TRef.ofBuf]
  clean_types
  simp only [cast_eq]
  pointwise
  simp only [zero_word]
  by_cases h : (r : ℕ) < 49
  · rw [dif_pos h]
    exact pad_branch _ n k (by omega) (by omega) (fun _ => by omega) (fun _ => by omega)
  · rw [dif_neg h, padAt_out _ _ _ _ _ (by omega)]

set_option maxHeartbeats 4000000 in
/-- The even rows and odd columns of the padded image, and zero rows below. -/
theorem host_eo (n : Fin 4) (r : Fin 56) (s : Fin 81) (k : Fin 512) :
    V m c main_v9 (ix4 n r s k) = padAt (m ((c.tc : Thread nD τ).loc main_arg0)) n k (2 * r) (2 * s + 1) := by
  after_reads_simp
  simp only [StableHlo.TRef.toBuf, StableHlo.TRef.ofBuf]
  clean_types
  simp only [cast_eq]
  pointwise
  simp only [zero_word]
  by_cases h : (r : ℕ) < 49
  · rw [dif_pos h]
    exact pad_branch _ n k (by omega) (by omega) (fun _ => by omega) (fun _ => by omega)
  · rw [dif_neg h, padAt_out _ _ _ _ _ (by omega)]

set_option maxHeartbeats 4000000 in
/-- The odd rows and even columns of the padded image. -/
theorem host_oe (n : Fin 4) (r : Fin 48) (s : Fin 81) (k : Fin 512) :
    V m c main_v5 (ix4 n r s k) = padAt (m ((c.tc : Thread nD τ).loc main_arg0)) n k (2 * r + 1) (2 * s) := by
  after_reads_simp
  simp only [StableHlo.TRef.toBuf, StableHlo.TRef.ofBuf]
  clean_types
  simp only [cast_eq]
  pointwise
  simp only [zero_word]
  exact pad_branch _ n k (by omega) (by omega) (fun _ => by omega) (fun _ => by omega)

set_option maxHeartbeats 4000000 in
/-- The odd rows and odd columns of the padded image. -/
theorem host_oo (n : Fin 4) (r : Fin 48) (s : Fin 81) (k : Fin 512) :
    V m c main_v7 (ix4 n r s k) = padAt (m ((c.tc : Thread nD τ).loc main_arg0)) n k (2 * r + 1) (2 * s + 1) := by
  after_reads_simp
  simp only [StableHlo.TRef.toBuf, StableHlo.TRef.ofBuf]
  clean_types
  simp only [cast_eq]
  pointwise
  simp only [zero_word]
  exact pad_branch _ n k (by omega) (by omega) (fun _ => by omega) (fun _ => by omega)

set_option maxHeartbeats 4000000 in
/-- The weights, tap by tap. -/
theorem host_w (i : Fin 9) (k o : Fin 512) :
    V m c main_v11 (ix3 i k o) = m ((c.tc : Thread nD τ).loc main_arg1) (ix4 o k ⟨i / 3, by omega⟩ ⟨i % 3, by omega⟩) := by
  after_reads_simp
  clean_types
  pointwise

set_option maxHeartbeats 4000000 in
/-- The bias as a row. -/
theorem host_b (i : Fin 1) (o : Fin 512) : V m c main_v12 (ix2 i o) = m ((c.tc : Thread nD τ).loc main_arg2) (ix1 o) := by
  after_reads_simp
  clean_types
  pointwise

end Cert.Conv

end
-- ==== Proof.ConvBlock.lean ====
/- What one grid point of the convolution leaves in its block, element by element. -/
module

public import proofs.«01_k».proof.Proof.ConvRef
public import proofs.«01_k».proof.Proof.Gen.KernelIdeal.Value
public import Idealize.ShloMosaic.Lib.Tactic.CleanTypes
public import Idealize.ShloMosaic.Lib.Pipeline.ValueKit.Tiles

@[expose] public section

noncomputable section

namespace Cert.Conv

open Cert.KernelIdeal Cert.KernelIdeal.Gen Idealize.ShloMosaic Idealize.ShloMosaic.TcCoe

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

theorem pad_eq (X : FVec Ideal S4x512x96x160 .f32) (n : Fin 4) (k : Fin 512) {r r' s s' : ℕ} (hr : r = r') (hs : s = s') :
    padAt X n k r s = padAt X n k r' s' := by rw [hr, hs]

/-- One tap of the kernel: the products summed over the channels, where the left factors are a row of the padded image
    and the right factors a filter's weights. -/
theorem tap_of (X : FVec Ideal S4x512x96x160 .f32) (W : FVec Ideal S512x512x3x3 .f32) (n : Fin 4) (o : Fin 512) (r s : ℕ)
    (i j : Fin 3) {f g : Fin 512 → EReal} (hf : ∀ k, f k = padAt X n k (2 * r + i) (2 * s + j)) (hg : ∀ k, g k = W (ix4 o k i j)) :
    (∑ k : Fin 512, f k * g k) = tap X W n o r s i j :=
  Finset.sum_congr rfl fun k _ => congrArg₂ (· * ·) (hf k) (hg k)

set_option maxHeartbeats 4000000 in
/-- The block that one grid point stores: where the windows hold rows of the padded image, of which the first is row `16 * R`
    (`x0`, `x1` the even columns of even rows, `x2`, `x3` the odd ones, `x4`, `x5` those of odd rows), it is the convolution. -/
theorem block_at (X : FVec Ideal S4x512x96x160 .f32) (W : FVec Ideal S512x512x3x3 .f32) (B : FVec Ideal S512 .f32) (n : Fin 4) (R : ℕ)
    (x0 x1 x2 x3 x4 x5 : Vec Ideal S1x8x81x512 .f32) (w : Vec Ideal S9x512x512 .f32) (b : Vec Ideal S1x512 .f32)
    (h0 : ∀ (a : Fin 8) (s : Fin 81) (k : Fin 512), x0 (ix4 0 a s k) = padAt X n k (2 * (8 * R + a)) (2 * s))
    (h1 : ∀ (a : Fin 8) (s : Fin 81) (k : Fin 512), x1 (ix4 0 a s k) = padAt X n k (2 * (8 * (R + 1) + a)) (2 * s))
    (h2 : ∀ (a : Fin 8) (s : Fin 81) (k : Fin 512), x2 (ix4 0 a s k) = padAt X n k (2 * (8 * R + a)) (2 * s + 1))
    (h3 : ∀ (a : Fin 8) (s : Fin 81) (k : Fin 512), x3 (ix4 0 a s k) = padAt X n k (2 * (8 * (R + 1) + a)) (2 * s + 1))
    (h4 : ∀ (a : Fin 8) (s : Fin 81) (k : Fin 512), x4 (ix4 0 a s k) = padAt X n k (2 * (8 * R + a) + 1) (2 * s))
    (h5 : ∀ (a : Fin 8) (s : Fin 81) (k : Fin 512), x5 (ix4 0 a s k) = padAt X n k (2 * (8 * R + a) + 1) (2 * s + 1))
    (hw : ∀ (i : Fin 9) (k o : Fin 512), w (ix3 i k o) = W (ix4 o k ⟨i / 3, by omega⟩ ⟨i % 3, by omega⟩))
    (hb : ∀ o : Fin 512, b (ix2 0 o) = B (ix1 o)) (q : Fin 640) (o : Fin 512) :
    out0_8 x0 x1 x2 x3 x4 x5 w b (ix3 0 q o) = convAt X W B n o (8 * R + q / 80) (q % 80) := by
  unfold out0_8
  rw [View.canon_unit_zero zero3]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, View.ld_apply]
  unfold convAt
  refine cong_add (cong_add (cong_add (cong_add (cong_add (cong_add (cong_add (cong_add (cong_add ?_ ?_) ?_) ?_) ?_) ?_) ?_) ?_) ?_) (hb o)
  all_goals
    refine tap_of X W n o _ _ _ _ (fun k => ?_) (fun k => hw _ k o)
  all_goals simp only [Fin.val_zero, Fin.val_one, Fin.val_two]
  · exact (h0 _ _ k).trans (pad_eq X n k (by simp) (by simp))
  · exact (h2 _ _ k).trans (pad_eq X n k (by simp) (by simp))
  · exact (h0 _ _ k).trans (pad_eq X n k (by simp) (by simp; omega))
  · exact (h4 _ _ k).trans (pad_eq X n k (by simp) (by simp))
  · exact (h5 _ _ k).trans (pad_eq X n k (by simp) (by simp))
  · exact (h4 _ _ k).trans (pad_eq X n k (by simp) (by simp; omega))
  · split
    · exact (h0 _ _ k).trans (pad_eq X n k (by simp; omega) (by simp))
    · exact (h1 _ _ k).trans (pad_eq X n k (by simp; omega) (by simp))
  · split
    · exact (h2 _ _ k).trans (pad_eq X n k (by simp; omega) (by simp))
    · exact (h3 _ _ k).trans (pad_eq X n k (by simp; omega) (by simp))
  · split
    · exact (h0 _ _ k).trans (pad_eq X n k (by simp; omega) (by simp; omega))
    · exact (h1 _ _ k).trans (pad_eq X n k (by simp; omega) (by simp; omega))

end Cert.Conv

end
-- ==== Proof.ConvArray.lean ====
/- The feature array after the run, element by element. -/
module

public import proofs.«01_k».proof.Proof.ConvHost
public import proofs.«01_k».proof.Proof.ConvBlock
public import Idealize.ShloMosaic.Lib.Pipeline.ValueKit

@[expose] public section

noncomputable section

namespace Cert.Conv

open Cert.KernelIdeal Cert.KernelIdeal.Gen Idealize.ShloMosaic Idealize.ShloMosaic.TcCoe

variable (m : (ℓ : Loc nD τ sig) → Buf (Elt Ideal) ℓ) (c : Dev nD)

/-- The features as one array: image, flat position, channel. -/
def feat (x : FVec Ideal S4x512x96x160 .f32) (w : FVec Ideal S512x512x3x3 .f32) (b : FVec Ideal S512 .f32) : FVec Ideal S4x3840x512 .f32 :=
  fun i => convAt x w b (i 0) (i 2) ((i 1).val / 80) ((i 1).val % 80)

/-- There are twenty-four grid points. -/
theorem pt_lt (t : Fin cfg0.N) : t.val < 24 := t.isLt

/-- The image that a grid point works on. -/
def img (t : Fin cfg0.N) : Fin 4 := ⟨t.val / 6, by have := pt_lt t; omega⟩

/-- The block of window 0 that a grid point works on. -/
theorem idx0 : ∀ t : Fin cfg0.N, win0_0.index t = ![t.val / 6, t.val % 6, 0, 0] := by decide +kernel
/-- The block of window 1 that a grid point works on. -/
theorem idx1 : ∀ t : Fin cfg0.N, win0_1.index t = ![t.val / 6, t.val % 6 + 1, 0, 0] := by decide +kernel
/-- The block of window 2 that a grid point works on. -/
theorem idx2 : ∀ t : Fin cfg0.N, win0_2.index t = ![t.val / 6, t.val % 6, 0, 0] := by decide +kernel
/-- The block of window 3 that a grid point works on. -/
theorem idx3 : ∀ t : Fin cfg0.N, win0_3.index t = ![t.val / 6, t.val % 6 + 1, 0, 0] := by decide +kernel
/-- The block of window 4 that a grid point works on. -/
theorem idx4 : ∀ t : Fin cfg0.N, win0_4.index t = ![t.val / 6, t.val % 6, 0, 0] := by decide +kernel
/-- The block of window 5 that a grid point works on. -/
theorem idx5 : ∀ t : Fin cfg0.N, win0_5.index t = ![t.val / 6, t.val % 6, 0, 0] := by decide +kernel
/-- The block of window 6 that a grid point works on. -/
theorem idx6 : ∀ t : Fin cfg0.N, win0_6.index t = ![0, 0, 0] := by decide +kernel
/-- The block of window 7 that a grid point works on. -/
theorem idx7 : ∀ t : Fin cfg0.N, win0_7.index t = ![0, 0] := by decide +kernel
/-- The block of window 8 that a grid point works on. -/
theorem idx8 : ∀ t : Fin cfg0.N, win0_8.index t = ![t.val / 6, t.val % 6, 0] := by decide +kernel

/-- Window 0's block as rows of the padded image. -/
theorem blk0 (t : Fin cfg0.N) (a : Fin 8) (s : Fin 81) (k : Fin 512) :
    iblk m c 0 t (ix4 0 a s k) = padAt (m ((c.tc : Thread nD τ).loc main_arg0)) (img t) k (2 * (8 * (t.val % 6) + a)) (2 * s) := by
  refine Eq.trans ?_ (host_ee m c (img t) ⟨8 * (t.val % 6) + a, by have := pt_lt t; omega⟩ s k)
  blk_simp [iblk]
  refine congrArg _ (funext fun d => Fin.ext ?_)
  fin_cases d <;> blk_simp [idx0, img] <;> simp <;> omega

/-- Window 1's block as rows of the padded image. -/
theorem blk1 (t : Fin cfg0.N) (a : Fin 8) (s : Fin 81) (k : Fin 512) :
    iblk m c 1 t (ix4 0 a s k) = padAt (m ((c.tc : Thread nD τ).loc main_arg0)) (img t) k (2 * (8 * (t.val % 6 + 1) + a)) (2 * s) := by
  refine Eq.trans ?_ (host_ee m c (img t) ⟨8 * (t.val % 6 + 1) + a, by have := pt_lt t; omega⟩ s k)
  blk_simp [iblk]
  refine congrArg _ (funext fun d => Fin.ext ?_)
  fin_cases d <;> blk_simp [idx1, img] <;> simp <;> omega

/-- Window 2's block as rows of the padded image. -/
theorem blk2 (t : Fin cfg0.N) (a : Fin 8) (s : Fin 81) (k : Fin 512) :
    iblk m c 2 t (ix4 0 a s k) = padAt (m ((c.tc : Thread nD τ).loc main_arg0)) (img t) k (2 * (8 * (t.val % 6) + a)) (2 * s + 1) := by
  refine Eq.trans ?_ (host_eo m c (img t) ⟨8 * (t.val % 6) + a, by have := pt_lt t; omega⟩ s k)
  blk_simp [iblk]
  refine congrArg _ (funext fun d => Fin.ext ?_)
  fin_cases d <;> blk_simp [idx2, img] <;> simp <;> omega

/-- Window 3's block as rows of the padded image. -/
theorem blk3 (t : Fin cfg0.N) (a : Fin 8) (s : Fin 81) (k : Fin 512) :
    iblk m c 3 t (ix4 0 a s k) = padAt (m ((c.tc : Thread nD τ).loc main_arg0)) (img t) k (2 * (8 * (t.val % 6 + 1) + a)) (2 * s + 1) := by
  refine Eq.trans ?_ (host_eo m c (img t) ⟨8 * (t.val % 6 + 1) + a, by have := pt_lt t; omega⟩ s k)
  blk_simp [iblk]
  refine congrArg _ (funext fun d => Fin.ext ?_)
  fin_cases d <;> blk_simp [idx3, img] <;> simp <;> omega

/-- Window 4's block as rows of the padded image. -/
theorem blk4 (t : Fin cfg0.N) (a : Fin 8) (s : Fin 81) (k : Fin 512) :
    iblk m c 4 t (ix4 0 a s k) = padAt (m ((c.tc : Thread nD τ).loc main_arg0)) (img t) k (2 * (8 * (t.val % 6) + a) + 1) (2 * s) := by
  refine Eq.trans ?_ (host_oe m c (img t) ⟨8 * (t.val % 6) + a, by have := pt_lt t; omega⟩ s k)
  blk_simp [iblk]
  refine congrArg _ (funext fun d => Fin.ext ?_)
  fin_cases d <;> blk_simp [idx4, img] <;> simp <;> omega

/-- Window 5's block as rows of the padded image. -/
theorem blk5 (t : Fin cfg0.N) (a : Fin 8) (s : Fin 81) (k : Fin 512) :
    iblk m c 5 t (ix4 0 a s k) = padAt (m ((c.tc : Thread nD τ).loc main_arg0)) (img t) k (2 * (8 * (t.val % 6) + a) + 1) (2 * s + 1) := by
  refine Eq.trans ?_ (host_oo m c (img t) ⟨8 * (t.val % 6) + a, by have := pt_lt t; omega⟩ s k)
  blk_simp [iblk]
  refine congrArg _ (funext fun d => Fin.ext ?_)
  fin_cases d <;> blk_simp [idx5, img] <;> simp <;> omega

/-- Window 6's block is the whole array of weights. -/
theorem blk6 (t : Fin cfg0.N) (i : Fin 9) (k o : Fin 512) :
    iblk m c 6 t (ix3 i k o) = m ((c.tc : Thread nD τ).loc main_arg1) (ix4 o k ⟨i / 3, by omega⟩ ⟨i % 3, by omega⟩) := by
  refine Eq.trans ?_ (host_w m c i k o)
  blk_simp [iblk]
  refine congrArg _ (funext fun d => Fin.ext ?_)
  fin_cases d <;> blk_simp [idx6] <;> simp

/-- Window 7's block is the whole bias. -/
theorem blk7 (t : Fin cfg0.N) (o : Fin 512) : iblk m c 7 t (ix2 0 o) = m ((c.tc : Thread nD τ).loc main_arg2) (ix1 o) := by
  refine Eq.trans ?_ (host_b m c 0 o)
  blk_simp [iblk]
  refine congrArg _ (funext fun d => Fin.ext ?_)
  fin_cases d <;> blk_simp [idx7] <;> simp

/-- After the run the result array holds the features. -/
theorem final : (dats m 0 c).arrAt 8 cfg0.N
    = feat (m ((c.tc : Thread nD τ).loc main_arg0)) (m ((c.tc : Thread nD τ).loc main_arg1)) (m ((c.tc : Thread nD τ).loc main_arg2)) := by
  refine (dats m 0 c).arrAt_eq_of_covers 8 _ (by decide +kernel) fun t hf y => ?_
  blk_simp
  rw [after0_8]
  have hy : y = ix3 0 (y 1) (y 2) := by
    funext d
    fin_cases d
    · exact Subsingleton.elim (α := Fin 1) _ _
    · rfl
    · rfl
  have h1 : (y 1 : ℕ) < 640 := (y 1).isLt
  have e0 : (((win0_8.blk t).view.emb y) 0 : Fin 4) = img t := Fin.ext (by
    have h0 : (y 0 : ℕ) < 1 := (y 0).isLt
    blk_simp [idx8, img])
  have e1 : ((((win0_8.blk t).view.emb y) 1 : Fin 3840) : ℕ) = 640 * (t.val % 6) + (y 1 : ℕ) := by
    blk_simp [idx8]
    simp
    omega
  have e2 : (((win0_8.blk t).view.emb y) 2 : Fin 512) = y 2 := Fin.ext (by
    blk_simp [idx8])
  unfold feat
  rw [e0, e1, e2]
  conv_lhs => rw [hy]
  refine (block_at (m ((c.tc : Thread nD τ).loc main_arg0)) (m ((c.tc : Thread nD τ).loc main_arg1)) (m ((c.tc : Thread nD τ).loc main_arg2))
    (img t) (t.val % 6) _ _ _ _ _ _ _ _ (blk0 m c t) (blk1 m c t) (blk2 m c t) (blk3 m c t) (blk4 m c t) (blk5 m c t) (blk6 m c t)
    (blk7 m c t) (y 1) (y 2)).trans ?_
  congr 1 <;> omega

end Cert.Conv

end
-- ==== Proof.HeadsSpec.lean ====
/- The two heads and the boxes as mathematics. -/
module

public import proofs.«01_k».proof.HeadsIdeal
public import Idealize.ShloMosaic.Lib.Pointwise

@[expose] public section

noncomputable section

namespace Cert.Rpn

open Idealize.ShloMosaic Cert.HeadsIdeal

/-- The features of image `n` with a border of zeros of one row and one column: channel `k` at row `r`, column `s`. -/
def around (f : FVec Ideal S4x3840x512 .f32) (n : Fin 4) (k : Fin 512) (r s : ℕ) : EReal :=
  if h : (1 ≤ r ∧ r < 49) ∧ (1 ≤ s ∧ s < 81) then f (ix3 n ⟨(r - 1) * 80 + (s - 1), by omega⟩ k) else 0

theorem around_eq (f : FVec Ideal S4x3840x512 .f32) (n : Fin 4) (k : Fin 512) {r r' s s' : ℕ} (hr : r = r') (hs : s = s') :
    around f n k r s = around f n k r' s' := by rw [hr, hs]

theorem cong_add {a b c d : EReal} (h : a = b) (h' : c = d) : a + c = b + d := h ▸ h' ▸ rfl

/-- The location's own feature is the padded one a row and a column further. -/
theorem around_mid (f : FVec Ideal S4x3840x512 .f32) (n : Fin 4) (k : Fin 512) (q : Fin 3840) :
    around f n k (1 + q.val / 80) (1 + q.val % 80) = f (ix3 n q k) := by
  unfold around
  rw [dif_pos ⟨by omega, by omega⟩]
  exact congrArg (fun z => f (ix3 n z k)) (Fin.ext (by simp; omega))

/-- The box head: delta `j` of location `q`. -/
def delta (f : FVec Ideal S4x3840x512 .f32) (wb : FVec Ideal S36x512x1x1 .f32) (bb : FVec Ideal S36 .f32) (n : Fin 4) (q : Fin 3840) (j : Fin 36) : EReal :=
  ∑ k : Fin 512, f (ix3 n q k) * wb (ix4 j k 0 0) + bb (ix1 j)

/-- One tap of the class head. -/
def classTap (f : FVec Ideal S4x3840x512 .f32) (wc : FVec Ideal S18x512x3x3 .f32) (n : Fin 4) (q : Fin 3840) (o : Fin 18) (i j : Fin 3) : EReal :=
  ∑ k : Fin 512, around f n k (i.val + q.val / 80) (j.val + q.val % 80) * wc (ix4 o k i j)

/-- The class head: output `o` of location `q`. -/
def classAt (f : FVec Ideal S4x3840x512 .f32) (wc : FVec Ideal S18x512x3x3 .f32) (bc : FVec Ideal S18 .f32) (n : Fin 4) (q : Fin 3840) (o : Fin 18) : EReal :=
  classTap f wc n q o 0 0 + classTap f wc n q o 0 1 + classTap f wc n q o 0 2 + classTap f wc n q o 1 0 + classTap f wc n q o 1 1
    + classTap f wc n q o 1 2 + classTap f wc n q o 2 0 + classTap f wc n q o 2 1 + classTap f wc n q o 2 2 + bc (ix1 o)

/-- The anchors' widths. -/
def wide : Fin 9 → ℝ := ![184, 368, 736, 128, 256, 512, 88, 176, 352]
/-- The anchors' heights. -/
def high : Fin 9 → ℝ := ![96, 192, 384, 128, 256, 512, 176, 352, 704]
/-- An anchor's middle along an axis, at the location with number `t` along it. -/
def mid (t : ℕ) : EReal := (((t : ℝ) * 32 + 8 : ℝ) : EReal)

/-- A box's lower edge: the middle `p` of an anchor of size `w` moved by `d`, less half its size scaled by `e`, clipped. -/
def lower (lim : BitVec 32) (d e w p : EReal) : EReal :=
  min (max (d * w + p - Ideal.ofBits .f32 1056964608#32 * (Ideal.exp e * w)) 0) (Ideal.ofBits .f32 lim)
/-- A box's upper edge. -/
def upper (lim : BitVec 32) (d e w p : EReal) : EReal :=
  min (max (d * w + p + Ideal.ofBits .f32 1056964608#32 * (Ideal.exp e * w)) 0) (Ideal.ofBits .f32 lim)
/-- The score of a box, or the mark of a box that is too small. -/
def keepBig (x1 y1 x2 y2 s : EReal) : EReal :=
  Scalar.select (IntOp.andi (BitVec.ofBool (decide (Ideal.ofBits .f32 1098907648#32 ≤ x2 - x1 + 1))) (BitVec.ofBool (decide (Ideal.ofBits .f32 1098907648#32 ≤ y2 - y1 + 1))))
    s (Ideal.ofBits .f32 4048155338#32)

section Results

variable (f : FVec Ideal S4x3840x512 .f32) (wb : FVec Ideal S36x512x1x1 .f32) (bb : FVec Ideal S36 .f32) (wc : FVec Ideal S18x512x3x3 .f32) (bc : FVec Ideal S18 .f32)
  (n : Fin 4) (q : Fin 3840) (a : Fin 9)

/-- The left edge of box `a` of location `q`. -/
def left : EReal := lower 1159720960#32 (delta f wb bb n q ⟨4 * a + 0, by omega⟩) (delta f wb bb n q ⟨4 * a + 2, by omega⟩) (wide a : ℝ) (mid (q.val % 80))
/-- Its upper edge. -/
def top : EReal := lower 1153425408#32 (delta f wb bb n q ⟨4 * a + 1, by omega⟩) (delta f wb bb n q ⟨4 * a + 3, by omega⟩) (high a : ℝ) (mid (q.val / 80))
/-- Its right edge. -/
def right : EReal := upper 1159720960#32 (delta f wb bb n q ⟨4 * a + 0, by omega⟩) (delta f wb bb n q ⟨4 * a + 2, by omega⟩) (wide a : ℝ) (mid (q.val % 80))
/-- Its lower edge. -/
def bottom : EReal := upper 1153425408#32 (delta f wb bb n q ⟨4 * a + 1, by omega⟩) (delta f wb bb n q ⟨4 * a + 3, by omega⟩) (high a : ℝ) (mid (q.val / 80))
/-- Its score. -/
def scoreOf : EReal := keepBig (left f wb bb n q a) (top f wb bb n q a) (right f wb bb n q a) (bottom f wb bb n q a) (classAt f wc bc n q ⟨9 + a, by omega⟩)

end Results

end Cert.Rpn

end
-- ==== Proof.HeadsScatter.lean ====
/- The host code's gathers and scatters of the heads' weights and biases, read at an index. -/
module

public import proofs.«01_k».proof.Proof.HeadsSpec
public import proofs.«01_k».proof.Proof.Gen.HeadsIdeal
public import Idealize.ShloMosaic.Lib.Pointwise
public import Idealize.ShloMosaic.Lib.Routing.OpsSet

@[expose] public section

set_option maxRecDepth 16384

noncomputable section

namespace Cert.Rpn

open Cert.HeadsIdeal Cert.HeadsIdeal.Gen Idealize.ShloMosaic Idealize.ShloMosaic.Routing

variable {α : Type}

/-- Where the update of row `e`, channel `k` lands: at its two index words and its channel. -/
theorem lands_box (idx : IVec S36x2 32) (e : Fin 36) (k : Fin 512) (ι : S9x512x128.Idx) :
    scatter_S9x512x128_S36x2_S36x512_1_02_02_1.resultIdx? (ix2 e k) idx = some ι
      ↔ (idx (ix2 e 0)).toInt = ((ι 0).val : Int) ∧ k.val = (ι 1).val ∧ (idx (ix2 e 1)).toInt = ((ι 2).val : Int) := by
  rw [resultIdx?_eq_some]
  have s0 : scatter_S9x512x128_S36x2_S36x512_1_02_02_1.start (ix2 e k) idx (0 : Fin 3) = (idx (ix2 e 0)).toInt := by
    refine congrArg (fun z => (idx z).toInt) (funext fun d => Fin.ext ?_)
    fin_cases d <;> rfl
  have s1 : scatter_S9x512x128_S36x2_S36x512_1_02_02_1.start (ix2 e k) idx (1 : Fin 3) = 0 := rfl
  have s2 : scatter_S9x512x128_S36x2_S36x512_1_02_02_1.start (ix2 e k) idx (2 : Fin 3) = (idx (ix2 e 1)).toInt := by
    refine congrArg (fun z => (idx z).toInt) (funext fun d => Fin.ext ?_)
    fin_cases d <;> rfl
  have w0 : scatter_S9x512x128_S36x2_S36x512_1_02_02_1.window (ix2 e k) (0 : Fin 3) = 0 := rfl
  have w1 : scatter_S9x512x128_S36x2_S36x512_1_02_02_1.window (ix2 e k) (1 : Fin 3) = k.val := rfl
  have w2 : scatter_S9x512x128_S36x2_S36x512_1_02_02_1.window (ix2 e k) (2 : Fin 3) = 0 := rfl
  constructor
  · intro h
    have h0 := h (0 : Fin 3)
    have h1 := h (1 : Fin 3)
    have h2 := h (2 : Fin 3)
    rw [s0, w0] at h0
    rw [s1, w1] at h1
    rw [s2, w2] at h2
    exact ⟨by simpa using h0, by simpa using h1, by simpa using h2⟩
  · rintro ⟨h0, h1, h2⟩ a
    have ha : a = (0 : Fin 3) ∨ a = (1 : Fin 3) ∨ a = (2 : Fin 3) := by
      match a with
      | ⟨0, _⟩ => exact Or.inl rfl
      | ⟨1, _⟩ => exact Or.inr (Or.inl rfl)
      | ⟨2, _⟩ => exact Or.inr (Or.inr rfl)
    rcases ha with rfl | rfl | rfl
    · rw [s0, w0]; simpa using h0
    · rw [s1, w1]; simpa using h1
    · rw [s2, w2]; simpa using h2

/-- Where the class weight of tap `t`, channel `k`, anchor `a` lands. -/
theorem lands_class (idx : IVec S1 32) (t : Fin 9) (k : Fin 512) (a : Fin 9) (ι : S9x512x128.Idx) :
    scatter_S9x512x128_S1_S9x512x9_012_n_2_0.resultIdx? (ix3 t k a) idx = some ι
      ↔ t.val = (ι 0).val ∧ k.val = (ι 1).val ∧ (idx (ix1 0)).toInt + (a.val : Int) = ((ι 2).val : Int) := by
  rw [resultIdx?_eq_some]
  have s0 : scatter_S9x512x128_S1_S9x512x9_012_n_2_0.start (ix3 t k a) idx (0 : Fin 3) = 0 := rfl
  have s1 : scatter_S9x512x128_S1_S9x512x9_012_n_2_0.start (ix3 t k a) idx (1 : Fin 3) = 0 := rfl
  have s2 : scatter_S9x512x128_S1_S9x512x9_012_n_2_0.start (ix3 t k a) idx (2 : Fin 3) = (idx (ix1 0)).toInt := by
    refine congrArg (fun z => (idx z).toInt) (funext fun d => Fin.ext ?_)
    fin_cases d <;> rfl
  have w0 : scatter_S9x512x128_S1_S9x512x9_012_n_2_0.window (ix3 t k a) (0 : Fin 3) = t.val := rfl
  have w1 : scatter_S9x512x128_S1_S9x512x9_012_n_2_0.window (ix3 t k a) (1 : Fin 3) = k.val := rfl
  have w2 : scatter_S9x512x128_S1_S9x512x9_012_n_2_0.window (ix3 t k a) (2 : Fin 3) = a.val := rfl
  constructor
  · intro h
    have h0 := h (0 : Fin 3)
    have h1 := h (1 : Fin 3)
    have h2 := h (2 : Fin 3)
    rw [s0, w0] at h0
    rw [s1, w1] at h1
    rw [s2, w2] at h2
    exact ⟨by simpa using h0, by simpa using h1, by simpa using h2⟩
  · rintro ⟨h0, h1, h2⟩ a
    have ha : a = (0 : Fin 3) ∨ a = (1 : Fin 3) ∨ a = (2 : Fin 3) := by
      match a with
      | ⟨0, _⟩ => exact Or.inl rfl
      | ⟨1, _⟩ => exact Or.inr (Or.inl rfl)
      | ⟨2, _⟩ => exact Or.inr (Or.inr rfl)
    rcases ha with rfl | rfl | rfl
    · rw [s0, w0]; simpa using h0
    · rw [s1, w1]; simpa using h1
    · rw [s2, w2]; simpa using h2

/-- Where the bias of row `e` lands. -/
theorem lands_bias (idx : IVec S36x1 32) (e : Fin 36) (ι : S128.Idx) :
    scatter_S128_S36x1_S36_n_0_0_1.resultIdx? (ix1 e) idx = some ι ↔ (idx (ix2 e 0)).toInt = ((ι 0).val : Int) := by
  rw [resultIdx?_eq_some]
  have s0 : scatter_S128_S36x1_S36_n_0_0_1.start (ix1 e) idx (0 : Fin 1) = (idx (ix2 e 0)).toInt := by
    refine congrArg (fun z => (idx z).toInt) (funext fun d => Fin.ext ?_)
    fin_cases d <;> rfl
  have w0 : scatter_S128_S36x1_S36_n_0_0_1.window (ix1 e) (0 : Fin 1) = 0 := rfl
  constructor
  · intro h
    have h0 := h (0 : Fin 1)
    rw [s0, w0] at h0
    simpa using h0
  · rintro h0 a
    obtain rfl : a = (0 : Fin 1) := Subsingleton.elim (α := Fin 1) _ _
    rw [s0, w0]
    simpa using h0

/-- Where the class bias of anchor `a` lands. -/
theorem lands_class_bias (idx : IVec S1 32) (a : Fin 9) (ι : S128.Idx) :
    scatter_S128_S1_S9_0_n_0_0.resultIdx? (ix1 a) idx = some ι ↔ (idx (ix1 0)).toInt + (a.val : Int) = ((ι 0).val : Int) := by
  rw [resultIdx?_eq_some]
  have s0 : scatter_S128_S1_S9_0_n_0_0.start (ix1 a) idx (0 : Fin 1) = (idx (ix1 0)).toInt := by
    refine congrArg (fun z => (idx z).toInt) (funext fun d => Fin.ext ?_)
    fin_cases d <;> rfl
  have w0 : scatter_S128_S1_S9_0_n_0_0.window (ix1 a) (0 : Fin 1) = a.val := rfl
  constructor
  · intro h
    have h0 := h (0 : Fin 1)
    rw [s0, w0] at h0
    simpa using h0
  · rintro h0 b
    obtain rfl : b = (0 : Fin 1) := Subsingleton.elim (α := Fin 1) _ _
    rw [s0, w0]
    simpa using h0

/-- A row of the box weights picked by an index word. -/
theorem take_row (x : S36x512.Idx → α) (idx : IVec S36x1 32) (e : Fin 36) (k : Fin 512) (j : Fin 36) (h : (idx (ix2 e 0)).toInt = (j.val : Int)) :
    Host.gather gather_S36x512_S36x1_S36x512_1_0_n_n_0_1_1512 x idx (ix2 e k) = x (ix2 j k) := by
  unfold Host.gather
  refine congrArg x (funext fun a => Fin.ext ?_)
  show gather_S36x512_S36x1_S36x512_1_0_n_n_0_1_1512.start (ix2 e k) idx a + gather_S36x512_S36x1_S36x512_1_0_n_n_0_1_1512.batchCoord (ix2 e k) a
      + gather_S36x512_S36x1_S36x512_1_0_n_n_0_1_1512.offCoord (ix2 e k) a = _
  have ha : a = (0 : Fin 2) ∨ a = (1 : Fin 2) := by
    match a with
    | ⟨0, _⟩ => exact Or.inl rfl
    | ⟨1, _⟩ => exact Or.inr rfl
  rcases ha with rfl | rfl
  · have s0 : gather_S36x512_S36x1_S36x512_1_0_n_n_0_1_1512.start (ix2 e k) idx (0 : Fin 2) = min (idx (ix2 e 0)).toInt.toNat 35 := by
      refine congrArg (fun z => min (idx z).toInt.toNat 35) (funext fun d => Fin.ext ?_)
      fin_cases d <;> rfl
    have b0 : gather_S36x512_S36x1_S36x512_1_0_n_n_0_1_1512.batchCoord (ix2 e k) (0 : Fin 2) = 0 := rfl
    have o0 : gather_S36x512_S36x1_S36x512_1_0_n_n_0_1_1512.offCoord (ix2 e k) (0 : Fin 2) = 0 := rfl
    rw [s0, b0, o0, h]
    show min ((j.val : Int)).toNat 35 + 0 + 0 = j.val
    simp
    omega
  · have s1 : gather_S36x512_S36x1_S36x512_1_0_n_n_0_1_1512.start (ix2 e k) idx (1 : Fin 2) = 0 := rfl
    have b1 : gather_S36x512_S36x1_S36x512_1_0_n_n_0_1_1512.batchCoord (ix2 e k) (1 : Fin 2) = 0 := rfl
    have o1 : gather_S36x512_S36x1_S36x512_1_0_n_n_0_1_1512.offCoord (ix2 e k) (1 : Fin 2) = k.val := rfl
    rw [s1, b1, o1]
    show 0 + 0 + k.val = k.val
    simp

/-- A bias picked by an index word. -/
theorem take_bias (x : S36.Idx → α) (idx : IVec S36x1 32) (e : Fin 36) (j : Fin 36) (h : (idx (ix2 e 0)).toInt = (j.val : Int)) :
    Host.gather gather_S36_S36x1_S36_n_0_n_n_0_1_1 x idx (ix1 e) = x (ix1 j) := by
  unfold Host.gather
  refine congrArg x (funext fun a => Fin.ext ?_)
  show gather_S36_S36x1_S36_n_0_n_n_0_1_1.start (ix1 e) idx a + gather_S36_S36x1_S36_n_0_n_n_0_1_1.batchCoord (ix1 e) a
      + gather_S36_S36x1_S36_n_0_n_n_0_1_1.offCoord (ix1 e) a = _
  obtain rfl : a = (0 : Fin 1) := Subsingleton.elim (α := Fin 1) _ _
  have s0 : gather_S36_S36x1_S36_n_0_n_n_0_1_1.start (ix1 e) idx (0 : Fin 1) = min (idx (ix2 e 0)).toInt.toNat 35 := by
    refine congrArg (fun z => min (idx z).toInt.toNat 35) (funext fun d => Fin.ext ?_)
    fin_cases d <;> rfl
  have b0 : gather_S36_S36x1_S36_n_0_n_n_0_1_1.batchCoord (ix1 e) (0 : Fin 1) = 0 := rfl
  have o0 : gather_S36_S36x1_S36_n_0_n_n_0_1_1.offCoord (ix1 e) (0 : Fin 1) = 0 := rfl
  rw [s0, b0, o0, h]
  show min ((j.val : Int)).toNat 35 + 0 + 0 = j.val
  simp
  omega

end Cert.Rpn

end
-- ==== Proof.HeadsHost.lean ====
/- What the host code lays out for the heads' windows, element by element. -/
module

public import proofs.«01_k».proof.Proof.HeadsScatter
public import proofs.«01_k».proof.Proof.Gen.HeadsIdeal.Value
public import Idealize.ShloMosaic.Lib.StableHlo.RunRead
public import Idealize.ShloMosaic.Lib.StableHlo.ReadAt
public import Idealize.ShloMosaic.Lib.Tactic.CleanTypes

@[expose] public section

set_option maxRecDepth 16384

noncomputable section

namespace Cert.Rpn

open Cert.HeadsIdeal Cert.HeadsIdeal.Gen Idealize.ShloMosaic Idealize.ShloMosaic.TcCoe Idealize.ShloMosaic.Routing

/-- The rows that the host code picks, as words. -/
def rowWords : IVec S36 32 := fun i => lit0 (S36.rowMajor i)
/-- The columns that the host code writes, as words. -/
def colWords : IVec S36 32 := fun i => lit1 (S36.rowMajor i)
/-- The picked rows, one word each. -/
def rowIdx : IVec S36x1 32 :=
  broadcastInDim S36x1 ![0] bcast_S36_S36x1_0 (select (constantI S36 1 0#1) (addi rowWords (broadcastInDim S36 ![] bcast_S_S36 (constantI S_ 32 36#32))) rowWords)
/-- The written columns, one word each. -/
def colIdx : IVec S36x1 32 :=
  broadcastInDim S36x1 ![0] bcast_S36_S36x1_0 (select (constantI S36 1 0#1) (addi colWords (broadcastInDim S36 ![] bcast_S_S36 (constantI S_ 32 128#32))) colWords)
/-- The middle tap beside each written column. -/
def tapCol : IVec S36x2 32 :=
  concatenate S36x2 1 [⟨S36x1, broadcastInDim S36x1 ![0] bcast_S36_S36x1_0 (id (broadcastInDim S36 ![] bcast_S_S36 (constantI S_ 32 4#32)))⟩, ⟨S36x1, colIdx⟩] concatenates_S36x1_S36x1_S36x2_d1
/-- The first class column. -/
def classIdx : IVec S1 32 := broadcastInDim S1 ![] bcast_S_S1 (constantI S_ 32 64#32)
/-- The class weights of the foreground, tap by tap. -/
def classW (wc : FVec Ideal S18x512x3x3 .f32) : FVec Ideal S9x512x9 .f32 :=
  shapeCast S9x512x9 (transpose S3x3x512x9 [2, 3, 1, 0] (extractStridedSlice S9x512x3x3 ![9, 0, 0, 0] wc slices_S18x512x3x3_S9x512x3x3_9_0_0_0) transposes_S9x512x3x3_S3x3x512x9_2_3_1_0) shapeCasts_S3x3x512x9_S9x512x9
/-- The picked rows of the box weights. -/
def boxW (wb : FVec Ideal S36x512x1x1 .f32) : FVec Ideal S36x512 .f32 :=
  Host.gather gather_S36x512_S36x1_S36x512_1_0_n_n_0_1_1512 (shapeCast S36x512 wb shapeCasts_S36x512x1x1_S36x512) rowIdx
/-- The weights of the heads as one array of columns. -/
def weights (wb : FVec Ideal S36x512x1x1 .f32) (wc : FVec Ideal S18x512x3x3 .f32) : FVec Ideal S9x512x128 .f32 :=
  Host.scatter scatter_S9x512x128_S1_S9x512x9_012_n_2_0 (fun _ b => b)
    (Host.scatter scatter_S9x512x128_S36x2_S36x512_1_02_02_1 (fun _ b => b) (broadcastInDim S9x512x128 ![] bcast_S_S9x512x128 (constant S_ .f32 0x00000000#32)) tapCol (boxW wb))
    classIdx (classW wc)
/-- The biases of the heads as one row of columns. -/
def biases (bb : FVec Ideal S36 .f32) (bc : FVec Ideal S18 .f32) : FVec Ideal S1x128 .f32 :=
  shapeCast S1x128 (Host.scatter scatter_S128_S1_S9_0_n_0_0 (fun _ b => b)
    (Host.scatter scatter_S128_S36x1_S36_n_0_0_1 (fun _ b => b) (broadcastInDim S128 ![] bcast_S_S128 (constant S_ .f32 0x00000000#32)) colIdx
      (Host.gather gather_S36_S36x1_S36_n_0_n_n_0_1_1 bb rowIdx))
    classIdx (extractStridedSlice S9 ![9] bc slices_S18_S9_9)) shapeCasts_S128_S1x128
/-- The anchors' numbers. -/
def anchors : FVec Ideal S8x128 .f32 := fun i => FloatOps.ofBits .f32 (lit2 (S8x128.rowMajor i))

section Reads

variable (m : (ℓ : Loc nD τ sig) → Buf (Elt Ideal) ℓ) (c : Dev nD)

set_option maxHeartbeats 4000000 in
theorem host_w : V m c main_v20 = weights (m ((c.tc : Thread nD τ).loc main_arg1)) (m ((c.tc : Thread nD τ).loc main_arg3)) := by
  after_reads_simp
  rfl

set_option maxHeartbeats 4000000 in
theorem host_b : V m c main_v35 = biases (m ((c.tc : Thread nD τ).loc main_arg2)) (m ((c.tc : Thread nD τ).loc main_arg4)) := by
  after_reads_simp
  rfl

set_option maxHeartbeats 4000000 in
theorem host_a : V m c main_cst = anchors := by
  after_reads_simp
  rfl

end Reads

/-- The row picked for each update. -/
def rowOf : Fin 36 → Fin 36 := fun e => ⟨4 * (e.val % 9) + e.val / 9, by omega⟩
/-- The column written by each update. -/
def colOf : Fin 36 → Fin 128 := fun e => ⟨16 * (e.val / 9) + e.val % 9, by omega⟩

theorem row_lit : ∀ e : Fin 36, (rowWords (ix1 e)).toInt = ((rowOf e).val : Int) := by decide +kernel
theorem col_lit : ∀ e : Fin 36, (colWords (ix1 e)).toInt = ((colOf e).val : Int) := by decide +kernel

theorem row_at_word (e : Fin 36) : (rowIdx (ix2 e 0)).toInt = ((rowOf e).val : Int) := by
  unfold rowIdx
  generalize hw : rowWords = w
  pointwise
  exact hw ▸ row_lit e

theorem col_at_word (e : Fin 36) : (colIdx (ix2 e 0)).toInt = ((colOf e).val : Int) := by
  unfold colIdx
  generalize hw : colWords = w
  pointwise
  exact hw ▸ col_lit e

theorem tap_at_word (e : Fin 36) : (tapCol (ix2 e 0)).toInt = 4 := by
  unfold tapCol
  simp only [id_eq]
  generalize colIdx = w
  pointwise
  rfl

theorem tapcol_at_word (e : Fin 36) : tapCol (ix2 e 1) = colIdx (ix2 e 0) := by
  unfold tapCol
  simp only [id_eq]
  generalize colIdx = w
  pointwise

theorem class_word : (classIdx (ix1 0)).toInt = 64 := by
  unfold classIdx
  pointwise
  rfl

theorem classW_at (wc : FVec Ideal S18x512x3x3 .f32) (t : Fin 9) (k : Fin 512) (a : Fin 9) :
    classW wc (ix3 t k a) = wc (ix4 ⟨9 + a, by omega⟩ k ⟨t / 3, by omega⟩ ⟨t % 3, by omega⟩) := by
  unfold classW
  pointwise

theorem boxW_at (wb : FVec Ideal S36x512x1x1 .f32) (e : Fin 36) (k : Fin 512) : boxW wb (ix2 e k) = wb (ix4 (rowOf e) k 0 0) := by
  unfold boxW
  rw [take_row _ _ e k (rowOf e) (row_at_word e)]
  pointwise

theorem zeros_at (i : S9x512x128.Idx) : (broadcastInDim S9x512x128 ![] bcast_S_S9x512x128 (constant (F := Ideal) S_ .f32 0x00000000#32)) i = 0 := by
  show Ideal.ofBits .f32 0x00000000#32 = 0
  simp [Ideal.ofBits, Ideal.ieee]

/-- The weight of anchor `a`'s class column. -/
theorem weights_class (wb : FVec Ideal S36x512x1x1 .f32) (wc : FVec Ideal S18x512x3x3 .f32) (t : Fin 9) (k : Fin 512) (a : Fin 9) (o : Fin 128) (ho : o.val = 64 + a.val) :
    weights wb wc (ix3 t k o) = wc (ix4 ⟨9 + a, by omega⟩ k ⟨t / 3, by omega⟩ ⟨t % 3, by omega⟩) := by
  unfold weights
  refine scatter_set_hit _ _ _ _ _ _ (fun y hy => ?_) (ix3 t k a) ?_
  · obtain ⟨t', k', a', rfl⟩ : ∃ (t' : Fin 9) (k' : Fin 512) (a' : Fin 9), y = ix3 t' k' a' := ⟨y 0, y 1, y 2, by funext d; fin_cases d <;> rfl⟩
    rw [lands_class, class_word] at hy
    obtain ⟨h0, h1, h2⟩ := hy
    obtain rfl : t' = t := Fin.ext h0
    obtain rfl : k' = k := Fin.ext h1
    obtain rfl : a' = a := Fin.ext (by
      have h2' : (64 : Int) + a'.val = (o.val : Int) := h2
      omega)
    exact classW_at wc t' k' a'
  · rw [lands_class, class_word]
    exact ⟨rfl, rfl, by show (64 : Int) + a.val = (o.val : Int); omega⟩

/-- A column before the class columns is the box scatter's. -/
theorem weights_box (wb : FVec Ideal S36x512x1x1 .f32) (wc : FVec Ideal S18x512x3x3 .f32) (t : Fin 9) (k : Fin 512) (o : Fin 128) (ho : o.val < 64) :
    weights wb wc (ix3 t k o) = Host.scatter scatter_S9x512x128_S36x2_S36x512_1_02_02_1 (fun _ b => b) (broadcastInDim S9x512x128 ![] bcast_S_S9x512x128 (constant S_ .f32 0x00000000#32)) tapCol (boxW wb) (ix3 t k o) := by
  unfold weights
  refine scatter_set_miss _ _ _ _ _ fun y hy => ?_
  obtain ⟨t', k', a', rfl⟩ : ∃ (t' : Fin 9) (k' : Fin 512) (a' : Fin 9), y = ix3 t' k' a' := ⟨y 0, y 1, y 2, by funext d; fin_cases d <;> rfl⟩
  rw [lands_class, class_word] at hy
  have h2 : (64 : Int) + a'.val = (o.val : Int) := hy.2.2
  omega

/-- Off the middle tap a box column is zero. -/
theorem weights_off (wb : FVec Ideal S36x512x1x1 .f32) (wc : FVec Ideal S18x512x3x3 .f32) (t : Fin 9) (k : Fin 512) (o : Fin 128) (ho : o.val < 64) (ht : t.val ≠ 4) :
    weights wb wc (ix3 t k o) = 0 := by
  rw [weights_box wb wc t k o ho]
  refine (scatter_set_miss _ _ _ _ _ fun y hy => ?_).trans (zeros_at _)
  obtain ⟨e, k', rfl⟩ : ∃ (e : Fin 36) (k' : Fin 512), y = ix2 e k' := ⟨y 0, y 1, by funext d; fin_cases d <;> rfl⟩
  rw [lands_box, tap_at_word] at hy
  have h0 : (4 : Int) = (t.val : Int) := hy.1
  omega

/-- At the middle tap, column `16 g + a` is row `4 a + g` of the box weights. -/
theorem weights_mid (wb : FVec Ideal S36x512x1x1 .f32) (wc : FVec Ideal S18x512x3x3 .f32) (k : Fin 512) (e : Fin 36) :
    weights wb wc (ix3 4 k (colOf e)) = wb (ix4 (rowOf e) k 0 0) := by
  have ho : (colOf e).val < 64 := by show 16 * (e.val / 9) + e.val % 9 < 64; omega
  rw [weights_box wb wc 4 k _ ho]
  refine scatter_set_hit _ _ _ _ _ _ (fun y hy => ?_) (ix2 e k) ?_
  · obtain ⟨e', k', rfl⟩ : ∃ (e' : Fin 36) (k' : Fin 512), y = ix2 e' k' := ⟨y 0, y 1, by funext d; fin_cases d <;> rfl⟩
    rw [lands_box, tapcol_at_word, col_at_word] at hy
    obtain rfl : k' = k := Fin.ext hy.2.1
    have h2 : ((colOf e').val : Int) = ((colOf e).val : Int) := hy.2.2
    have h3 : 16 * (e'.val / 9) + e'.val % 9 = 16 * (e.val / 9) + e.val % 9 := Int.ofNat.inj h2
    obtain rfl : e' = e := Fin.ext (by omega)
    exact boxW_at wb e' k'
  · rw [lands_box, tap_at_word, tapcol_at_word, col_at_word]
    exact ⟨rfl, rfl, rfl⟩

/-- A column of the biases, read from the row of biases before its reshape. -/
theorem biases_class (bb : FVec Ideal S36 .f32) (bc : FVec Ideal S18 .f32) (a : Fin 9) (o : Fin 128) (ho : o.val = 64 + a.val) :
    biases bb bc (ix2 0 o) = bc (ix1 ⟨9 + a, by omega⟩) := by
  unfold biases
  generalize hS : Host.scatter scatter_S128_S1_S9_0_n_0_0 _ _ _ _ = S
  pointwise
  rw [← hS]
  refine scatter_set_hit _ _ _ _ _ _ (fun y hy => ?_) (ix1 a) ?_
  · obtain ⟨a', rfl⟩ : ∃ a' : Fin 9, y = ix1 a' := ⟨y 0, by funext d; fin_cases d; rfl⟩
    rw [lands_class_bias, class_word] at hy
    obtain rfl : a' = a := Fin.ext (by
      have h2' : (64 : Int) + a'.val = (o.val : Int) := hy
      omega)
    pointwise
  · rw [lands_class_bias, class_word]
    show (64 : Int) + a.val = (o.val : Int)
    omega

/-- The bias of column `16 g + a` is bias `4 a + g` of the box head. -/
theorem biases_mid (bb : FVec Ideal S36 .f32) (bc : FVec Ideal S18 .f32) (e : Fin 36) : biases bb bc (ix2 0 (colOf e)) = bb (ix1 (rowOf e)) := by
  have ho : (colOf e).val < 64 := by show 16 * (e.val / 9) + e.val % 9 < 64; omega
  unfold biases
  generalize hS : Host.scatter scatter_S128_S1_S9_0_n_0_0 _ _ _ _ = S
  pointwise
  rw [← hS]
  refine (scatter_set_miss _ _ _ _ _ fun y hy => ?_).trans ?_
  · obtain ⟨a', rfl⟩ : ∃ a' : Fin 9, y = ix1 a' := ⟨y 0, by funext d; fin_cases d; rfl⟩
    rw [lands_class_bias, class_word] at hy
    have h2 : (64 : Int) + a'.val = ((colOf e).val : Int) := hy
    omega
  · refine scatter_set_hit _ _ _ _ _ _ (fun y hy => ?_) (ix1 e) ?_
    · obtain ⟨e', rfl⟩ : ∃ e' : Fin 36, y = ix1 e' := ⟨y 0, by funext d; fin_cases d; rfl⟩
      rw [lands_bias, col_at_word] at hy
      have h2 : ((colOf e').val : Int) = ((colOf e).val : Int) := hy
      have h3 : 16 * (e'.val / 9) + e'.val % 9 = 16 * (e.val / 9) + e.val % 9 := Int.ofNat.inj h2
      obtain rfl : e' = e := Fin.ext (by omega)
      exact take_bias bb rowIdx e' (rowOf e') (row_at_word e')
    · rw [lands_bias, col_at_word]
      rfl

end Cert.Rpn

end
-- ==== Proof.HeadsBlock.lean ====
/- What one grid point of the heads' call leaves in its five blocks, element by element. -/
module

public import proofs.«01_k».proof.Proof.HeadsSpec
public import proofs.«01_k».proof.Proof.Gen.HeadsIdeal.Frame
public import Idealize.ShloMosaic.Lib.Pointwise
public import Idealize.ShloMosaic.Lib.VecWindow
public import Idealize.ShloMosaic.Lib.Tactic.CleanTypes
public import Idealize.ShloMosaic.Lib.Pipeline.ValueKit.Tiles

@[expose] public section

set_option maxRecDepth 16384

noncomputable section

namespace Cert.Rpn

open Cert.HeadsIdeal Cert.HeadsIdeal.Gen Idealize.ShloMosaic Idealize.ShloMosaic.TcCoe

/-- The channels `h` to `h + 256` of a tap's products. -/
def halfOf (f : FVec Ideal S4x3840x512 .f32) (w : Vec Ideal S9x512x128 .f32) (n : Fin 4) (q : Fin 3840) (o : Fin 128) (i j : ℕ) (t : Fin 9) (h : ℕ) (hh : h + 256 ≤ 512) : EReal :=
  ∑ k : Fin 256, around f n ⟨h + k, by omega⟩ (i + q.val / 80) (j + q.val % 80) * w (ix3 t ⟨h + k, by omega⟩ o)

/-- A tap's products summed over the channels. -/
def tapOf (f : FVec Ideal S4x3840x512 .f32) (w : Vec Ideal S9x512x128 .f32) (n : Fin 4) (q : Fin 3840) (o : Fin 128) (i j : ℕ) (t : Fin 9) : EReal :=
  ∑ k : Fin 512, around f n k (i + q.val / 80) (j + q.val % 80) * w (ix3 t k o)

theorem tapOf_eq (f : FVec Ideal S4x3840x512 .f32) (w : Vec Ideal S9x512x128 .f32) (n : Fin 4) (q : Fin 3840) (o : Fin 128) (i j : ℕ) (t : Fin 9) :
    tapOf f w n q o i j t = halfOf f w n q o i j t 0 (by omega) + halfOf f w n q o i j t 256 (by omega) := by
  unfold tapOf halfOf
  refine (Fin.sum_univ_add (a := 256) (b := 256) _).trans (cong_add (Finset.sum_congr rfl fun k _ => ?_) (Finset.sum_congr rfl fun k _ => ?_))
  · have e : Fin.castAdd 256 k = (⟨0 + k, by omega⟩ : Fin 512) := Fin.ext (by simp)
    rw [e]
  · have e : Fin.natAdd 256 k = (⟨256 + k, by omega⟩ : Fin 512) := rfl
    rw [e]

section Point

variable (c : Dev nD) (a1 : Memref sig .tc .vmem S1x3840x512 .f32) (h1 : a1.IsWhole) (a2 : Memref sig .tc .vmem S9x512x128 .f32) (h2 : a2.IsWhole)
  (a3 : Memref sig .tc .vmem S1x128 .f32) (h3 : a3.IsWhole) (a4 : Memref sig .tc .vmem S8x128 .f32) (h4 : a4.IsWhole)
  (a10 : Memref sig .tc .vmem S50x82x512 .f32)
  (x0 : Vec Ideal S1x3840x512 .f32) (x1 : Vec Ideal S9x512x128 .f32) (x2 : Vec Ideal S1x128 .f32) (x3 : Vec Ideal S8x128 .f32)

theorem scratch_at (f : FVec Ideal S4x3840x512 .f32) (n : Fin 4) (hx : ∀ (q : Fin 3840) (k : Fin 512), x0 (ix3 0 q k) = f (ix3 n q k))
    (r : Fin 50) (s : Fin 82) (k : Fin 512) :
    a10.view.read (Elt Ideal) (a10.view.writes (Elt Ideal) a10.view.junk (kernelRun0_A.sl.HS0_2 c a1 h1 x0)) (ix3 r s k) = around f n k r s := by
  unfold kernelRun0_A.sl.HS0_2
  have h0 : View.readAt (Elt Ideal) a1.view (Rect.unit ![0, 0, 0] S1x3840x512.size inb_S1x3840x512_S1x3840x512_0_0_0).toLoadRect (h1.unread x0) = x0 := by
    funext y
    rw [View.readAt_apply, h1.read_unread]
    refine congrArg _ (funext fun d => Fin.ext ?_)
    fin_cases d <;> simp [Rect.idx_unit_val]
  rw [h0]
  unfold around
  split
  · next h =>
    have hr : (r : ℕ) - 1 < 48 := by omega
    have hs : (s : ℕ) - 1 < 80 := by omega
    rw [View.read_writes_cons_unit a10.view _ _ _ _ (ix3 r s k) rfl, dif_pos ?_]
    rotate_left
    · intro d
      fin_cases d <;> simp <;> omega
    refine Eq.trans (congrArg (k0_pay3 x0) (a₂ := ix3 ⟨r - 1, hr⟩ ⟨s - 1, hs⟩ k) (funext fun d => Fin.ext ?_)) ?_
    · fin_cases d <;> simp [Rect.unitLocal_val]
    pointwise [k0_pay3]
    exact hx _ k
  · next h =>
    rw [View.read_writes_cons_unit a10.view _ _ _ _ (ix3 r s k) rfl, dif_neg fun hh => h ?_]
    · rw [View.read_writes_full]
      pointwise [k0_pay2]
    · have p0 := hh 0
      have p1 := hh 1
      simp at p0 p1
      omega

theorem load_at (f : FVec Ideal S4x3840x512 .f32) (n : Fin 4) (hx : ∀ (q : Fin 3840) (k : Fin 512), x0 (ix3 0 q k) = f (ix3 n q k))
    (i j : ℕ) (inb : ∀ a, (![i, j, 0] : Fin 3 → ℕ) a + S48x80x512.size a ≤ S50x82x512.size a) (a : Fin 48) (b : Fin 80) (k : Fin 512) :
    a10.view.readCov (kernelRun0_A.sl.HS0_2 c a1 h1 x0) (Rect.unit (s := S50x82x512) ![i, j, 0] S48x80x512.size inb).toLoadRect (ix3 a b k)
      = around f n k (i + a) (j + b) := by
  have hi := inb 0
  have hj := inb 1
  simp at hi hj
  refine Eq.trans ?_ (scratch_at c a1 h1 a10 x0 f n hx ⟨i + a, by omega⟩ ⟨j + b, by omega⟩ k)
  unfold View.readCov
  rw [View.readAt_apply]
  refine congrArg _ (funext fun d => Fin.ext ?_)
  fin_cases d <;> simp [Rect.idx_unit_val]

theorem weight_at (i h : ℕ) (inb : ∀ a, (![i, h, 0] : Fin 3 → ℕ) a + S1x256x128.size a ≤ S9x512x128.size a) (k : Fin 256) (o : Fin 128) (hi : i < 9) (hh : h + k < 512) :
    a2.view.readAt (Elt Ideal) (Rect.unit (s := S9x512x128) ![i, h, 0] S1x256x128.size inb).toLoadRect (h2.unread x1) (ix3 0 k o) = x1 (ix3 ⟨i, hi⟩ ⟨h + k, hh⟩ o) := by
  rw [View.readAt_apply, h2.read_unread]
  refine congrArg _ (funext fun d => Fin.ext ?_)
  fin_cases d <;> simp [Rect.idx_unit_val]

/-- The head at position `q`, column `o`: the nine taps' products and the bias. -/
theorem head_at (f : FVec Ideal S4x3840x512 .f32) (n : Fin 4) (hx : ∀ (q : Fin 3840) (k : Fin 512), x0 (ix3 0 q k) = f (ix3 n q k)) (q : Fin 3840) (o : Fin 128) :
    kernelRun0_A.sl.r_8 c a1 h1 a2 h2 a3 h3 a10 x0 x1 x2 (ix2 q o)
      = tapOf f x1 n q o 0 0 0 + tapOf f x1 n q o 0 1 1 + tapOf f x1 n q o 0 2 2 + tapOf f x1 n q o 1 0 3 + tapOf f x1 n q o 1 1 4 + tapOf f x1 n q o 1 2 5 + tapOf f x1 n q o 2 0 6 + tapOf f x1 n q o 2 1 7 + tapOf f x1 n q o 2 2 8 + x2 (ix2 0 o) := by
  unfold kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  pointwise [k0_pay4, k0_pay5, k0_pay6, k0_pay7, k0_pay8, k0_pay9, k0_pay10, k0_pay11, k0_pay12, k0_pay13, k0_pay14]
  simp only [tapOf_eq, ← add_assoc]
  refine cong_add (cong_add (cong_add (cong_add (cong_add (cong_add (cong_add (cong_add (cong_add (cong_add (cong_add (cong_add (cong_add (cong_add (cong_add (cong_add (cong_add (cong_add ?_ ?_) ?_) ?_) ?_) ?_) ?_) ?_) ?_) ?_) ?_) ?_) ?_) ?_) ?_) ?_) ?_) ?_) ?_
  case refine_19 =>
    rw [View.readAt_apply, h3.read_unread]
    refine congrArg _ (funext fun d => Fin.ext ?_)
    fin_cases d <;> simp [Rect.idx_unit_val]
  all_goals
    refine Finset.sum_congr rfl fun k _ => congrArg₂ (· * ·) ?_ ?_
    · exact (load_at c a1 h1 a10 x0 f n hx _ _ _ _ _ _).trans (congrArg (fun z => around f n z _ _) (Fin.ext (by simp)))
    · exact (weight_at a2 h2 x1 _ _ _ k o (by decide) (by omega)).trans (congrArg x1 (by simp))

/-- A row of the anchors' numbers, loaded by the kernel. -/
theorem anchor_at (i : ℕ) (inb : ∀ a, (![i, 0] : Fin 2 → ℕ) a + S1x9.size a ≤ S8x128.size a) (a : Fin 9) (hi : i < 8) :
    a4.view.readAt (Elt Ideal) (Rect.unit (s := S8x128) ![i, 0] S1x9.size inb).toLoadRect (h4.unread x3) (ix2 0 a) = x3 (ix2 ⟨i, hi⟩ ⟨a, by omega⟩) := by
  rw [View.readAt_apply, h4.read_unread]
  refine congrArg _ (funext fun d => Fin.ext ?_)
  fin_cases d <;> simp [Rect.idx_unit_val]

/-- The word with a location's column. -/
theorem col_word : ∀ q : Fin 3840, (Scalar.select
        (IntOp.andi
          (IntOp.xori (IntOp.cmpi CmpIPredicate.slt (IntOp.remsi ArithUnit.vector (BitVec.ofNat 32 q.val) 80#32) 0#32)
            (Scalar.cmpi CmpIPredicate.slt 80#32 0#32))
          (IntOp.cmpi CmpIPredicate.ne (IntOp.remsi ArithUnit.vector (BitVec.ofNat 32 q.val) 80#32) 0#32))
        (IntOp.addi (IntOp.remsi ArithUnit.vector (BitVec.ofNat 32 q.val) 80#32) 80#32)
        (IntOp.remsi ArithUnit.vector (BitVec.ofNat 32 q.val) 80#32)).toInt = ((q.val % 80 : ℕ) : ℤ) := by
  decide +kernel

/-- The word with a location's row. -/
theorem row_word : ∀ q : Fin 3840, (Scalar.select
        (IntOp.andi
          (IntOp.cmpi CmpIPredicate.ne
            (IntOp.subi (BitVec.setWidth 32 (IntOp.cmpi CmpIPredicate.sgt (BitVec.ofNat 32 q.val) 0#32))
              (BitVec.setWidth 32 (IntOp.cmpi CmpIPredicate.slt (BitVec.ofNat 32 q.val) 0#32)))
            (Scalar.subi (Scalar.extui (Scalar.cmpi CmpIPredicate.sgt 80#32 0#32))
              (Scalar.extui (Scalar.cmpi CmpIPredicate.slt 80#32 0#32))))
          (IntOp.cmpi CmpIPredicate.ne (IntOp.remsi ArithUnit.vector (BitVec.ofNat 32 q.val) 80#32) 0#32))
        (IntOp.subi (IntOp.divsi ArithUnit.vector (BitVec.ofNat 32 q.val) 80#32) 1#32)
        (IntOp.divsi ArithUnit.vector (BitVec.ofNat 32 q.val) 80#32)).toInt = ((q.val / 80 : ℕ) : ℤ) := by
  decide +kernel

/-- A word converted to a float is its number. -/
theorem word_real {x : BitVec 32} {t : ℕ} (h : x.toInt = (t : ℤ)) : FloatOps.sitofp (F := Ideal) .f32 x = ((t : ℝ) : EReal) := by
  show (((x.toInt : ℝ)) : EReal) = _
  rw [h]
  norm_cast

theorem col_at (q : Fin 3840) : kernelRun0_A.sl.r_9 (F := Ideal) (ix2 q 0) = (((q.val % 80 : ℕ) : ℝ) : EReal) := by
  unfold kernelRun0_A.sl.r_9 kernelRun0_A.sl.v121
  pointwise [k0_pay15]
  exact word_real (col_word q)

theorem row_at (q : Fin 3840) : k0_pay16 (F := Ideal) kernelRun0_A.sl.v121 (ix2 q 0) = (((q.val / 80 : ℕ) : ℝ) : EReal) := by
  unfold kernelRun0_A.sl.v121
  pointwise [k0_pay16]
  exact word_real (row_word q)

theorem mid_eq (t : ℕ) : ((t : ℝ) : EReal) * Ideal.ofBits .f32 1107296256#32 + ((8 : ℝ) : EReal) = mid t := by
  have e : Ideal.ofBits .f32 1107296256#32 = ((32 : ℝ) : EReal) := by
    simp [Ideal.ofBits, Ideal.ieee]
    norm_cast
    norm_num
  rw [e]
  unfold mid
  norm_cast

/-- The left edges. -/
theorem left_at (c : Dev nD) (i : grid0.Coords) (a5 : Memref sig .tc .vmem S1x3840x9 .f32) (h5 : a5.IsWhole) (a6 : Memref sig .tc .vmem S1x3840x9 .f32) (h6 : a6.IsWhole)
    (a7 : Memref sig .tc .vmem S1x3840x9 .f32) (h7 : a7.IsWhole) (a8 : Memref sig .tc .vmem S1x3840x9 .f32) (h8 : a8.IsWhole) (a9 : Memref sig .tc .vmem S1x3840x9 .f32) (h9 : a9.IsWhole)
    (h10 : a10.IsWhole) (q : Fin 3840) (a : Fin 9) (D : Fin 128 → EReal) (hD : ∀ o, kernelRun0_A.sl.r_8 c a1 h1 a2 h2 a3 h3 a10 x0 x1 x2 (ix2 q o) = D o)
    (hcx : x3 (ix2 ⟨0, by omega⟩ ⟨a, by omega⟩) = ((8 : ℝ) : EReal)) (haw : x3 (ix2 ⟨2, by omega⟩ ⟨a, by omega⟩) = ((wide a : ℝ) : EReal)) :
    out0_A_4 c i a1 h1 a2 h2 a3 h3 a4 h4 a5 h5 a6 h6 a7 h7 a8 h8 a9 h9 a10 h10 x0 x1 x2 x3 (ix3 0 q a) = (lower 1159720960#32 (D ⟨a, by omega⟩) (D ⟨32 + a, by omega⟩) (wide a : ℝ) (mid (q.val % 80))) := by
    have e0 : kernelRun0_A.sl.r_10 c a4 h4 x3 (ix2 0 a) = ((8 : ℝ) : EReal) := (anchor_at a4 h4 x3 0 inb_S8x128_S1x9_0_0 a (by omega)).trans hcx
    have e2 : kernelRun0_A.sl.r_12 c a4 h4 x3 (ix2 0 a) = ((wide a : ℝ) : EReal) := (anchor_at a4 h4 x3 2 inb_S8x128_S1x9_2_0 a (by omega)).trans haw
    have eJ := col_at q
    unfold out0_A_4 kernelRun0_A
    dsimp only
    refine (congrFun (View.read_writes_full VO0_4 _ inb_S1x3840x9_S1x3840x9_0_0_0 _ _) _).trans ?_
    unfold kernelRun0_A.sl.r_16
    generalize kernelRun0_A.sl.r_8 c a1 h1 a2 h2 a3 h3 a10 x0 x1 x2 = H at hD
    generalize kernelRun0_A.sl.r_9 (F := Ideal) = J at eJ ⊢
    generalize kernelRun0_A.sl.r_10 c a4 h4 x3 = R0 at e0 ⊢
    generalize kernelRun0_A.sl.r_12 c a4 h4 x3 = R2 at e2 ⊢
    pointwise [k0_pay29, k0_pay24, k0_pay20, k0_pay18]
    simp only [hD, e0, e2, eJ, mid_eq]
    rfl

/-- The upper edges. -/
theorem top_at (c : Dev nD) (i : grid0.Coords) (a5 : Memref sig .tc .vmem S1x3840x9 .f32) (h5 : a5.IsWhole) (a6 : Memref sig .tc .vmem S1x3840x9 .f32) (h6 : a6.IsWhole)
    (a7 : Memref sig .tc .vmem S1x3840x9 .f32) (h7 : a7.IsWhole) (a8 : Memref sig .tc .vmem S1x3840x9 .f32) (h8 : a8.IsWhole) (a9 : Memref sig .tc .vmem S1x3840x9 .f32) (h9 : a9.IsWhole)
    (h10 : a10.IsWhole) (q : Fin 3840) (a : Fin 9) (D : Fin 128 → EReal) (hD : ∀ o, kernelRun0_A.sl.r_8 c a1 h1 a2 h2 a3 h3 a10 x0 x1 x2 (ix2 q o) = D o)
    (hcy : x3 (ix2 ⟨1, by omega⟩ ⟨a, by omega⟩) = ((8 : ℝ) : EReal)) (hah : x3 (ix2 ⟨3, by omega⟩ ⟨a, by omega⟩) = ((high a : ℝ) : EReal)) :
    out0_A_5 c i a1 h1 a2 h2 a3 h3 a4 h4 a5 h5 a6 h6 a7 h7 a8 h8 a9 h9 a10 h10 x0 x1 x2 x3 (ix3 0 q a) = (lower 1153425408#32 (D ⟨16 + a, by omega⟩) (D ⟨48 + a, by omega⟩) (high a : ℝ) (mid (q.val / 80))) := by
    have e1 : kernelRun0_A.sl.r_11 c a4 h4 x3 (ix2 0 a) = ((8 : ℝ) : EReal) := (anchor_at a4 h4 x3 1 inb_S8x128_S1x9_1_0 a (by omega)).trans hcy
    have e3 : View.readAt (Elt Ideal) a4.view (Rect.unit (s := S8x128) ![3, 0] S1x9.size inb_S8x128_S1x9_3_0).toLoadRect (h4.unread x3) (ix2 0 a) = ((high a : ℝ) : EReal) := (anchor_at a4 h4 x3 3 inb_S8x128_S1x9_3_0 a (by omega)).trans hah
    have eI : k0_pay16 (F := Ideal) kernelRun0_A.sl.v121 (ix2 q 0) = _ := row_at q
    unfold out0_A_5 kernelRun0_A
    dsimp only
    refine (congrFun (View.read_writes_full VO0_5 _ inb_S1x3840x9_S1x3840x9_0_0_0 _ _) _).trans ?_
    unfold kernelRun0_A.sl.r_17
    generalize kernelRun0_A.sl.r_8 c a1 h1 a2 h2 a3 h3 a10 x0 x1 x2 = H at hD
    generalize k0_pay16 (F := Ideal) kernelRun0_A.sl.v121 = I at eI ⊢
    generalize kernelRun0_A.sl.r_11 c a4 h4 x3 = R1 at e1 ⊢
    generalize View.readAt (Elt Ideal) a4.view (Rect.unit (s := S8x128) ![3, 0] S1x9.size inb_S8x128_S1x9_3_0).toLoadRect (h4.unread x3) = R3 at e3 ⊢
    pointwise [k0_pay30, k0_pay25, k0_pay21, k0_pay19]
    simp only [hD, e1, e3, eI, mid_eq]
    rfl

/-- The right edges. -/
theorem right_at (c : Dev nD) (i : grid0.Coords) (a5 : Memref sig .tc .vmem S1x3840x9 .f32) (h5 : a5.IsWhole) (a6 : Memref sig .tc .vmem S1x3840x9 .f32) (h6 : a6.IsWhole)
    (a7 : Memref sig .tc .vmem S1x3840x9 .f32) (h7 : a7.IsWhole) (a8 : Memref sig .tc .vmem S1x3840x9 .f32) (h8 : a8.IsWhole) (a9 : Memref sig .tc .vmem S1x3840x9 .f32) (h9 : a9.IsWhole)
    (h10 : a10.IsWhole) (q : Fin 3840) (a : Fin 9) (D : Fin 128 → EReal) (hD : ∀ o, kernelRun0_A.sl.r_8 c a1 h1 a2 h2 a3 h3 a10 x0 x1 x2 (ix2 q o) = D o)
    (hcx : x3 (ix2 ⟨0, by omega⟩ ⟨a, by omega⟩) = ((8 : ℝ) : EReal)) (haw : x3 (ix2 ⟨2, by omega⟩ ⟨a, by omega⟩) = ((wide a : ℝ) : EReal)) :
    out0_A_6 c i a1 h1 a2 h2 a3 h3 a4 h4 a5 h5 a6 h6 a7 h7 a8 h8 a9 h9 a10 h10 x0 x1 x2 x3 (ix3 0 q a) = (upper 1159720960#32 (D ⟨a, by omega⟩) (D ⟨32 + a, by omega⟩) (wide a : ℝ) (mid (q.val % 80))) := by
    have e0 : kernelRun0_A.sl.r_10 c a4 h4 x3 (ix2 0 a) = ((8 : ℝ) : EReal) := (anchor_at a4 h4 x3 0 inb_S8x128_S1x9_0_0 a (by omega)).trans hcx
    have e2 : kernelRun0_A.sl.r_12 c a4 h4 x3 (ix2 0 a) = ((wide a : ℝ) : EReal) := (anchor_at a4 h4 x3 2 inb_S8x128_S1x9_2_0 a (by omega)).trans haw
    have eJ := col_at q
    unfold out0_A_6 kernelRun0_A
    dsimp only
    refine (congrFun (View.read_writes_full VO0_6 _ inb_S1x3840x9_S1x3840x9_0_0_0 _ _) _).trans ?_
    unfold kernelRun0_A.sl.r_14
    generalize kernelRun0_A.sl.r_8 c a1 h1 a2 h2 a3 h3 a10 x0 x1 x2 = H at hD
    generalize kernelRun0_A.sl.r_9 (F := Ideal) = J at eJ ⊢
    generalize kernelRun0_A.sl.r_10 c a4 h4 x3 = R0 at e0 ⊢
    generalize kernelRun0_A.sl.r_12 c a4 h4 x3 = R2 at e2 ⊢
    pointwise [k0_pay31, k0_pay26, k0_pay22, k0_pay20, k0_pay18]
    simp only [hD, e0, e2, eJ, mid_eq]
    rfl

/-- The lower edges. -/
theorem bottom_at (c : Dev nD) (i : grid0.Coords) (a5 : Memref sig .tc .vmem S1x3840x9 .f32) (h5 : a5.IsWhole) (a6 : Memref sig .tc .vmem S1x3840x9 .f32) (h6 : a6.IsWhole)
    (a7 : Memref sig .tc .vmem S1x3840x9 .f32) (h7 : a7.IsWhole) (a8 : Memref sig .tc .vmem S1x3840x9 .f32) (h8 : a8.IsWhole) (a9 : Memref sig .tc .vmem S1x3840x9 .f32) (h9 : a9.IsWhole)
    (h10 : a10.IsWhole) (q : Fin 3840) (a : Fin 9) (D : Fin 128 → EReal) (hD : ∀ o, kernelRun0_A.sl.r_8 c a1 h1 a2 h2 a3 h3 a10 x0 x1 x2 (ix2 q o) = D o)
    (hcy : x3 (ix2 ⟨1, by omega⟩ ⟨a, by omega⟩) = ((8 : ℝ) : EReal)) (hah : x3 (ix2 ⟨3, by omega⟩ ⟨a, by omega⟩) = ((high a : ℝ) : EReal)) :
    out0_A_7 c i a1 h1 a2 h2 a3 h3 a4 h4 a5 h5 a6 h6 a7 h7 a8 h8 a9 h9 a10 h10 x0 x1 x2 x3 (ix3 0 q a) = (upper 1153425408#32 (D ⟨16 + a, by omega⟩) (D ⟨48 + a, by omega⟩) (high a : ℝ) (mid (q.val / 80))) := by
    have e1 : kernelRun0_A.sl.r_11 c a4 h4 x3 (ix2 0 a) = ((8 : ℝ) : EReal) := (anchor_at a4 h4 x3 1 inb_S8x128_S1x9_1_0 a (by omega)).trans hcy
    have e3 : View.readAt (Elt Ideal) a4.view (Rect.unit (s := S8x128) ![3, 0] S1x9.size inb_S8x128_S1x9_3_0).toLoadRect (h4.unread x3) (ix2 0 a) = ((high a : ℝ) : EReal) := (anchor_at a4 h4 x3 3 inb_S8x128_S1x9_3_0 a (by omega)).trans hah
    have eI : k0_pay16 (F := Ideal) kernelRun0_A.sl.v121 (ix2 q 0) = _ := row_at q
    unfold out0_A_7 kernelRun0_A
    dsimp only
    refine (congrFun (View.read_writes_full VO0_7 _ inb_S1x3840x9_S1x3840x9_0_0_0 _ _) _).trans ?_
    unfold kernelRun0_A.sl.r_15
    generalize kernelRun0_A.sl.r_8 c a1 h1 a2 h2 a3 h3 a10 x0 x1 x2 = H at hD
    generalize k0_pay16 (F := Ideal) kernelRun0_A.sl.v121 = I at eI ⊢
    generalize kernelRun0_A.sl.r_11 c a4 h4 x3 = R1 at e1 ⊢
    generalize View.readAt (Elt Ideal) a4.view (Rect.unit (s := S8x128) ![3, 0] S1x9.size inb_S8x128_S1x9_3_0).toLoadRect (h4.unread x3) = R3 at e3 ⊢
    pointwise [k0_pay32, k0_pay27, k0_pay23, k0_pay21, k0_pay19]
    simp only [hD, e1, e3, eI, mid_eq]
    rfl

/-- The scores. -/
theorem score_at (c : Dev nD) (i : grid0.Coords) (a5 : Memref sig .tc .vmem S1x3840x9 .f32) (h5 : a5.IsWhole) (a6 : Memref sig .tc .vmem S1x3840x9 .f32) (h6 : a6.IsWhole)
    (a7 : Memref sig .tc .vmem S1x3840x9 .f32) (h7 : a7.IsWhole) (a8 : Memref sig .tc .vmem S1x3840x9 .f32) (h8 : a8.IsWhole) (a9 : Memref sig .tc .vmem S1x3840x9 .f32) (h9 : a9.IsWhole)
    (h10 : a10.IsWhole) (q : Fin 3840) (a : Fin 9) (D : Fin 128 → EReal) (hD : ∀ o, kernelRun0_A.sl.r_8 c a1 h1 a2 h2 a3 h3 a10 x0 x1 x2 (ix2 q o) = D o)
    (hcx : x3 (ix2 ⟨0, by omega⟩ ⟨a, by omega⟩) = ((8 : ℝ) : EReal)) (haw : x3 (ix2 ⟨2, by omega⟩ ⟨a, by omega⟩) = ((wide a : ℝ) : EReal))
    (hcy : x3 (ix2 ⟨1, by omega⟩ ⟨a, by omega⟩) = ((8 : ℝ) : EReal)) (hah : x3 (ix2 ⟨3, by omega⟩ ⟨a, by omega⟩) = ((high a : ℝ) : EReal)) :
    out0_A_8 c i a1 h1 a2 h2 a3 h3 a4 h4 a5 h5 a6 h6 a7 h7 a8 h8 a9 h9 a10 h10 x0 x1 x2 x3 (ix3 0 q a) = keepBig (lower 1159720960#32 (D ⟨a, by omega⟩) (D ⟨32 + a, by omega⟩) (wide a : ℝ) (mid (q.val % 80))) (lower 1153425408#32 (D ⟨16 + a, by omega⟩) (D ⟨48 + a, by omega⟩) (high a : ℝ) (mid (q.val / 80))) (upper 1159720960#32 (D ⟨a, by omega⟩) (D ⟨32 + a, by omega⟩) (wide a : ℝ) (mid (q.val % 80))) (upper 1153425408#32 (D ⟨16 + a, by omega⟩) (D ⟨48 + a, by omega⟩) (high a : ℝ) (mid (q.val / 80))) (D ⟨64 + a, by omega⟩) := by
    have e0 : kernelRun0_A.sl.r_10 c a4 h4 x3 (ix2 0 a) = ((8 : ℝ) : EReal) := (anchor_at a4 h4 x3 0 inb_S8x128_S1x9_0_0 a (by omega)).trans hcx
    have e2 : kernelRun0_A.sl.r_12 c a4 h4 x3 (ix2 0 a) = ((wide a : ℝ) : EReal) := (anchor_at a4 h4 x3 2 inb_S8x128_S1x9_2_0 a (by omega)).trans haw
    have eJ := col_at q
    have e1 : kernelRun0_A.sl.r_11 c a4 h4 x3 (ix2 0 a) = ((8 : ℝ) : EReal) := (anchor_at a4 h4 x3 1 inb_S8x128_S1x9_1_0 a (by omega)).trans hcy
    have e3 : View.readAt (Elt Ideal) a4.view (Rect.unit (s := S8x128) ![3, 0] S1x9.size inb_S8x128_S1x9_3_0).toLoadRect (h4.unread x3) (ix2 0 a) = ((high a : ℝ) : EReal) := (anchor_at a4 h4 x3 3 inb_S8x128_S1x9_3_0 a (by omega)).trans hah
    have eI : k0_pay16 (F := Ideal) kernelRun0_A.sl.v121 (ix2 q 0) = _ := row_at q
    unfold out0_A_8 kernelRun0_A
    dsimp only
    refine (congrFun (View.read_writes_full VO0_8 _ inb_S1x3840x9_S1x3840x9_0_0_0 _ _) _).trans ?_
    unfold kernelRun0_A.sl.r_18 kernelRun0_A.sl.r_17 kernelRun0_A.sl.r_16 kernelRun0_A.sl.r_15 kernelRun0_A.sl.r_14 kernelRun0_A.sl.r_13
    generalize kernelRun0_A.sl.r_8 c a1 h1 a2 h2 a3 h3 a10 x0 x1 x2 = H at hD
    generalize kernelRun0_A.sl.r_9 (F := Ideal) = J at eJ ⊢
    generalize kernelRun0_A.sl.r_10 c a4 h4 x3 = R0 at e0 ⊢
    generalize kernelRun0_A.sl.r_12 c a4 h4 x3 = R2 at e2 ⊢
    generalize k0_pay16 (F := Ideal) kernelRun0_A.sl.v121 = I at eI ⊢
    generalize kernelRun0_A.sl.r_11 c a4 h4 x3 = R1 at e1 ⊢
    generalize View.readAt (Elt Ideal) a4.view (Rect.unit (s := S8x128) ![3, 0] S1x9.size inb_S8x128_S1x9_3_0).toLoadRect (h4.unread x3) = R3 at e3 ⊢
    pointwise [k0_pay1, k0_pay28, k0_pay27, k0_pay26, k0_pay25, k0_pay23, k0_pay22, k0_pay24, k0_pay21, k0_pay20, k0_pay19, k0_pay18, k0_pay17]
    simp only [hD, e0, e1, e2, e3, eJ, eI, mid_eq]
    rfl

end Point

end Cert.Rpn

end
-- ==== Proof.HeadsCols.lean ====
/- The windows' blocks at a grid point, and the heads' columns there. -/
module

public import proofs.«01_k».proof.Proof.HeadsHost
public import proofs.«01_k».proof.Proof.HeadsBlock
public import Idealize.ShloMosaic.Lib.Pipeline.ValueKit

@[expose] public section

set_option maxRecDepth 16384

noncomputable section

namespace Cert.Rpn

open Cert.HeadsIdeal Cert.HeadsIdeal.Gen Idealize.ShloMosaic Idealize.ShloMosaic.TcCoe

section Columns

variable (f : FVec Ideal S4x3840x512 .f32) (wb : FVec Ideal S36x512x1x1 .f32) (bb : FVec Ideal S36 .f32) (wc : FVec Ideal S18x512x3x3 .f32) (bc : FVec Ideal S18 .f32)
  (n : Fin 4) (q : Fin 3840)

/-- The column `o` of the heads at a location: nine taps and the bias. -/
def column (o : Fin 128) : EReal :=
  tapOf f (weights wb wc) n q o 0 0 0 + tapOf f (weights wb wc) n q o 0 1 1 + tapOf f (weights wb wc) n q o 0 2 2 + tapOf f (weights wb wc) n q o 1 0 3 + tapOf f (weights wb wc) n q o 1 1 4 + tapOf f (weights wb wc) n q o 1 2 5 + tapOf f (weights wb wc) n q o 2 0 6 + tapOf f (weights wb wc) n q o 2 1 7 + tapOf f (weights wb wc) n q o 2 2 8 + biases bb bc (ix2 0 o)

/-- Off the middle tap a box column adds nothing. -/
theorem tap_off (o : Fin 128) (ho : o.val < 64) (i j : ℕ) (t : Fin 9) (ht : t.val ≠ 4) : tapOf f (weights wb wc) n q o i j t = 0 := by
  unfold tapOf
  refine Finset.sum_eq_zero fun k _ => ?_
  rw [weights_off wb wc t k o ho ht, mul_zero]

/-- A box column is a delta. -/
theorem column_box (e : Fin 36) (o : Fin 128) (j : Fin 36) (ho : o.val = 16 * (e.val / 9) + e.val % 9) (hj : j.val = 4 * (e.val % 9) + e.val / 9) :
    column f wb bb wc bc n q o = delta f wb bb n q j := by
  obtain rfl : o = colOf e := Fin.ext ho
  obtain rfl : j = rowOf e := Fin.ext hj
  have hc : (colOf e).val < 64 := by show 16 * (e.val / 9) + e.val % 9 < 64; omega
  unfold column
  rw [tap_off f wb wc n q _ hc 0 0 0 (by decide), tap_off f wb wc n q _ hc 0 1 1 (by decide), tap_off f wb wc n q _ hc 0 2 2 (by decide), tap_off f wb wc n q _ hc 1 0 3 (by decide),
    tap_off f wb wc n q _ hc 1 2 5 (by decide), tap_off f wb wc n q _ hc 2 0 6 (by decide), tap_off f wb wc n q _ hc 2 1 7 (by decide), tap_off f wb wc n q _ hc 2 2 8 (by decide), biases_mid]
  simp only [zero_add, add_zero]
  unfold delta tapOf
  refine cong_add (Finset.sum_congr rfl fun k _ => ?_) rfl
  rw [around_mid, weights_mid]

/-- A class tap's products. -/
theorem tap_class (a : Fin 9) (o : Fin 128) (ho : o.val = 64 + a.val) (i j : Fin 3) (t : Fin 9) (ht : t.val = 3 * i.val + j.val) :
    tapOf f (weights wb wc) n q o i.val j.val t = classTap f wc n q ⟨9 + a, by omega⟩ i j := by
  unfold tapOf classTap
  refine Finset.sum_congr rfl fun k _ => ?_
  rw [weights_class wb wc t k a o ho]
  have e1 : (⟨t.val / 3, by omega⟩ : Fin 3) = i := Fin.ext (by simp only; omega)
  have e2 : (⟨t.val % 3, by omega⟩ : Fin 3) = j := Fin.ext (by simp only; omega)
  rw [e1, e2]

/-- A class column is a class output. -/
theorem column_class (a : Fin 9) (o : Fin 128) (ho : o.val = 64 + a.val) : column f wb bb wc bc n q o = classAt f wc bc n q ⟨9 + a, by omega⟩ := by
  unfold column classAt
  rw [biases_class bb bc a o ho, ← tap_class f wb wc n q a o ho 0 0 0 rfl, ← tap_class f wb wc n q a o ho 0 1 1 rfl, ← tap_class f wb wc n q a o ho 0 2 2 rfl,
    ← tap_class f wb wc n q a o ho 1 0 3 rfl, ← tap_class f wb wc n q a o ho 1 1 4 rfl, ← tap_class f wb wc n q a o ho 1 2 5 rfl,
    ← tap_class f wb wc n q a o ho 2 0 6 rfl, ← tap_class f wb wc n q a o ho 2 1 7 rfl, ← tap_class f wb wc n q a o ho 2 2 8 rfl]
  rfl

end Columns

/-- The words with the anchors' widths. -/
def wide_word : Fin 9 → BitVec 32 := ![0x43380000#32, 0x43B80000#32, 0x44380000#32, 0x43000000#32, 0x43800000#32, 0x44000000#32, 0x42B00000#32, 0x43300000#32, 0x43B00000#32]
theorem wide_lit : ∀ a : Fin 9, lit2 (S8x128.rowMajor (ix2 ⟨2, by omega⟩ ⟨a, by omega⟩)) = wide_word a := by decide +kernel
/-- The words with the anchors' heights. -/
def high_word : Fin 9 → BitVec 32 := ![0x42C00000#32, 0x43400000#32, 0x43C00000#32, 0x43000000#32, 0x43800000#32, 0x44000000#32, 0x43300000#32, 0x43B00000#32, 0x44300000#32]
theorem high_lit : ∀ a : Fin 9, lit2 (S8x128.rowMajor (ix2 ⟨3, by omega⟩ ⟨a, by omega⟩)) = high_word a := by decide +kernel
theorem midx_lit : ∀ a : Fin 9, lit2 (S8x128.rowMajor (ix2 ⟨0, by omega⟩ ⟨a, by omega⟩)) = 0x41000000#32 := by decide +kernel
theorem midy_lit : ∀ a : Fin 9, lit2 (S8x128.rowMajor (ix2 ⟨1, by omega⟩ ⟨a, by omega⟩)) = 0x41000000#32 := by decide +kernel

theorem anchors_wide (a : Fin 9) : anchors (ix2 ⟨2, by omega⟩ ⟨a, by omega⟩) = ((wide a : ℝ) : EReal) := by
  show Ideal.ofBits .f32 (lit2 (S8x128.rowMajor (ix2 ⟨2, by omega⟩ ⟨a, by omega⟩))) = _
  rw [wide_lit]
  fin_cases a <;> simp [wide_word, wide, Ideal.ofBits, Ideal.ieee] <;> norm_cast <;> norm_num
theorem anchors_high (a : Fin 9) : anchors (ix2 ⟨3, by omega⟩ ⟨a, by omega⟩) = ((high a : ℝ) : EReal) := by
  show Ideal.ofBits .f32 (lit2 (S8x128.rowMajor (ix2 ⟨3, by omega⟩ ⟨a, by omega⟩))) = _
  rw [high_lit]
  fin_cases a <;> simp [high_word, high, Ideal.ofBits, Ideal.ieee] <;> norm_cast <;> norm_num
theorem anchors_midx (a : Fin 9) : anchors (ix2 ⟨0, by omega⟩ ⟨a, by omega⟩) = ((8 : ℝ) : EReal) := by
  show Ideal.ofBits .f32 (lit2 (S8x128.rowMajor (ix2 ⟨0, by omega⟩ ⟨a, by omega⟩))) = _
  rw [midx_lit]
  simp [Ideal.ofBits, Ideal.ieee]
  norm_cast
  norm_num
theorem anchors_midy (a : Fin 9) : anchors (ix2 ⟨1, by omega⟩ ⟨a, by omega⟩) = ((8 : ℝ) : EReal) := by
  show Ideal.ofBits .f32 (lit2 (S8x128.rowMajor (ix2 ⟨1, by omega⟩ ⟨a, by omega⟩))) = _
  rw [midy_lit]
  simp [Ideal.ofBits, Ideal.ieee]
  norm_cast
  norm_num

variable (m : (ℓ : Loc nD τ sig) → Buf (Elt Ideal) ℓ) (c : Dev nD)

/-- The features that the run is given. -/
abbrev F0 : FVec Ideal S4x3840x512 .f32 := m ((c.tc : Thread nD τ).loc main_arg0)
/-- The box weights that it is given. -/
abbrev F1 : FVec Ideal S36x512x1x1 .f32 := m ((c.tc : Thread nD τ).loc main_arg1)
/-- The box biases that it is given. -/
abbrev F2 : FVec Ideal S36 .f32 := m ((c.tc : Thread nD τ).loc main_arg2)
/-- The class weights that it is given. -/
abbrev F3 : FVec Ideal S18x512x3x3 .f32 := m ((c.tc : Thread nD τ).loc main_arg3)
/-- The class biases that it is given. -/
abbrev F4 : FVec Ideal S18 .f32 := m ((c.tc : Thread nD τ).loc main_arg4)

/-- There are four grid points. -/
theorem pt_lt (t : Fin cfg0.N) : t.val < 4 := t.isLt

/-- The image that a grid point works on. -/
def img (t : Fin cfg0.N) : Fin 4 := ⟨t.val, pt_lt t⟩

theorem idx0 : ∀ t : Fin cfg0.N, win0_0.index t = ![t.val, 0, 0] := by decide +kernel
theorem idx1 : ∀ t : Fin cfg0.N, win0_1.index t = ![0, 0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val, 0, 0] := by decide +kernel
theorem idx5 : ∀ t : Fin cfg0.N, win0_5.index t = ![t.val, 0, 0] := by decide +kernel
theorem idx6 : ∀ t : Fin cfg0.N, win0_6.index t = ![t.val, 0, 0] := by decide +kernel
theorem idx7 : ∀ t : Fin cfg0.N, win0_7.index t = ![t.val, 0, 0] := by decide +kernel
theorem idx8 : ∀ t : Fin cfg0.N, win0_8.index t = ![t.val, 0, 0] := by decide +kernel

/-- Window 0's block is the image's features. -/
theorem blk0 (t : Fin cfg0.N) (q : Fin 3840) (k : Fin 512) : iblk m c 0 t (ix3 0 q k) = F0 m c (ix3 (img t) q k) := by
  blk_simp [iblk]
  refine congrArg _ (funext fun d => Fin.ext ?_)
  fin_cases d <;> blk_simp [idx0, img] <;> simp

/-- Window 1's block is all of the weights. -/
theorem blk1 (t : Fin cfg0.N) : iblk m c 1 t = weights (F1 m c) (F3 m c) := by
  funext i
  refine Eq.trans ?_ (congrFun (host_w m c) i)
  blk_simp [iblk]
  refine congrArg _ (funext fun d => Fin.ext ?_)
  fin_cases d <;> blk_simp [idx1] <;> simp

/-- Window 2's block is all of the biases. -/
theorem blk2 (t : Fin cfg0.N) : iblk m c 2 t = biases (F2 m c) (F4 m c) := by
  funext i
  refine Eq.trans ?_ (congrFun (host_b m c) i)
  blk_simp [iblk]
  refine congrArg _ (funext fun d => Fin.ext ?_)
  fin_cases d <;> blk_simp [idx2] <;> simp

/-- Window 3's block is all of the anchors' numbers. -/
theorem blk3 (t : Fin cfg0.N) : iblk m c 3 t = anchors := by
  funext i
  refine Eq.trans ?_ (congrFun (host_a m c) i)
  blk_simp [iblk]
  refine congrArg _ (funext fun d => Fin.ext ?_)
  fin_cases d <;> blk_simp [idx3] <;> simp

/-- The heads at a grid point: the columns of its image. -/
theorem heads_at (t : Fin cfg0.N) (q : Fin 3840) (o : Fin 128) :
    kernelRun0_A.sl.r_8 c (ms0_0 t) (hs0_0 t) (ms0_1 t) (hs0_1 t) (ms0_2 t) (hs0_2 t) scM0_0 (iblk m c 0 t) (iblk m c 1 t) (iblk m c 2 t) (ix2 q o)
      = column (F0 m c) (F1 m c) (F2 m c) (F3 m c) (F4 m c) (img t) q o := by
  refine (head_at c (ms0_0 t) (hs0_0 t) (ms0_1 t) (hs0_1 t) (ms0_2 t) (hs0_2 t) scM0_0 (iblk m c 0 t) (iblk m c 1 t) (iblk m c 2 t) (F0 m c) (img t) (blk0 m c t) q o).trans ?_
  rw [blk1 m c t, blk2 m c t]
  rfl

section Points

variable (t : Fin cfg0.N) (q : Fin 3840) (a : Fin 9)

theorem col0 : column (F0 m c) (F1 m c) (F2 m c) (F3 m c) (F4 m c) (img t) q ⟨a, by omega⟩ = delta (F0 m c) (F1 m c) (F2 m c) (img t) q ⟨4 * a + 0, by omega⟩ :=
  column_box _ _ _ _ _ _ _ ⟨0 + a, by omega⟩ _ _ (by simp only; omega) (by simp only; omega)
theorem col1 : column (F0 m c) (F1 m c) (F2 m c) (F3 m c) (F4 m c) (img t) q ⟨16 + a, by omega⟩ = delta (F0 m c) (F1 m c) (F2 m c) (img t) q ⟨4 * a + 1, by omega⟩ :=
  column_box _ _ _ _ _ _ _ ⟨9 + a, by omega⟩ _ _ (by simp only; omega) (by simp only; omega)
theorem col2 : column (F0 m c) (F1 m c) (F2 m c) (F3 m c) (F4 m c) (img t) q ⟨32 + a, by omega⟩ = delta (F0 m c) (F1 m c) (F2 m c) (img t) q ⟨4 * a + 2, by omega⟩ :=
  column_box _ _ _ _ _ _ _ ⟨18 + a, by omega⟩ _ _ (by simp only; omega) (by simp only; omega)
theorem col3 : column (F0 m c) (F1 m c) (F2 m c) (F3 m c) (F4 m c) (img t) q ⟨48 + a, by omega⟩ = delta (F0 m c) (F1 m c) (F2 m c) (img t) q ⟨4 * a + 3, by omega⟩ :=
  column_box _ _ _ _ _ _ _ ⟨27 + a, by omega⟩ _ _ (by simp only; omega) (by simp only; omega)
theorem col4 : column (F0 m c) (F1 m c) (F2 m c) (F3 m c) (F4 m c) (img t) q ⟨64 + a, by omega⟩ = classAt (F0 m c) (F3 m c) (F4 m c) (img t) q ⟨9 + a, by omega⟩ :=
  column_class _ _ _ _ _ _ _ a _ rfl

end Points

end Cert.Rpn

end
-- ==== Proof.HeadsPoint.lean ====
/- What a grid point leaves in its five blocks, in the arguments. -/
module

public import proofs.«01_k».proof.Proof.HeadsCols

@[expose] public section

set_option maxRecDepth 16384

noncomputable section

namespace Cert.Rpn

open Cert.HeadsIdeal Cert.HeadsIdeal.Gen Idealize.ShloMosaic Idealize.ShloMosaic.TcCoe

section Plain

variable (c : Dev nD) (i : grid0.Coords) (a1 : Memref sig .tc .vmem S1x3840x512 .f32) (h1 : a1.IsWhole) (a2 : Memref sig .tc .vmem S9x512x128 .f32) (h2 : a2.IsWhole)
  (a3 : Memref sig .tc .vmem S1x128 .f32) (h3 : a3.IsWhole) (a4 : Memref sig .tc .vmem S8x128 .f32) (h4 : a4.IsWhole) (a5 : Memref sig .tc .vmem S1x3840x9 .f32) (h5 : a5.IsWhole) (a6 : Memref sig .tc .vmem S1x3840x9 .f32) (h6 : a6.IsWhole)
  (a7 : Memref sig .tc .vmem S1x3840x9 .f32) (h7 : a7.IsWhole) (a8 : Memref sig .tc .vmem S1x3840x9 .f32) (h8 : a8.IsWhole) (a9 : Memref sig .tc .vmem S1x3840x9 .f32) (h9 : a9.IsWhole)
  (a10 : Memref sig .tc .vmem S50x82x512 .f32) (h10 : a10.IsWhole)
  (x0 : Vec Ideal S1x3840x512 .f32) (x1 : Vec Ideal S9x512x128 .f32) (x2 : Vec Ideal S1x128 .f32) (x3 : Vec Ideal S8x128 .f32)
  (q : Fin 3840) (a : Fin 9) (D : Fin 128 → EReal) (hD : ∀ o, kernelRun0_A.sl.r_8 c a1 h1 a2 h2 a3 h3 a10 x0 x1 x2 (ix2 q o) = D o) (hx : x3 = anchors)

include hD hx

theorem left_pt : out0_A_4 c i a1 h1 a2 h2 a3 h3 a4 h4 a5 h5 a6 h6 a7 h7 a8 h8 a9 h9 a10 h10 x0 x1 x2 x3 (ix3 0 q a) = lower 1159720960#32 (D ⟨a, by omega⟩) (D ⟨32 + a, by omega⟩) (wide a : ℝ) (mid (q.val % 80)) :=
  left_at a1 h1 a2 h2 a3 h3 a4 h4 a10 x0 x1 x2 x3 c i a5 h5 a6 h6 a7 h7 a8 h8 a9 h9 h10 q a D hD (by rw [hx]; exact anchors_midx a) (by rw [hx]; exact anchors_wide a)
theorem top_pt : out0_A_5 c i a1 h1 a2 h2 a3 h3 a4 h4 a5 h5 a6 h6 a7 h7 a8 h8 a9 h9 a10 h10 x0 x1 x2 x3 (ix3 0 q a) = lower 1153425408#32 (D ⟨16 + a, by omega⟩) (D ⟨48 + a, by omega⟩) (high a : ℝ) (mid (q.val / 80)) :=
  top_at a1 h1 a2 h2 a3 h3 a4 h4 a10 x0 x1 x2 x3 c i a5 h5 a6 h6 a7 h7 a8 h8 a9 h9 h10 q a D hD (by rw [hx]; exact anchors_midy a) (by rw [hx]; exact anchors_high a)
theorem right_pt : out0_A_6 c i a1 h1 a2 h2 a3 h3 a4 h4 a5 h5 a6 h6 a7 h7 a8 h8 a9 h9 a10 h10 x0 x1 x2 x3 (ix3 0 q a) = upper 1159720960#32 (D ⟨a, by omega⟩) (D ⟨32 + a, by omega⟩) (wide a : ℝ) (mid (q.val % 80)) :=
  right_at a1 h1 a2 h2 a3 h3 a4 h4 a10 x0 x1 x2 x3 c i a5 h5 a6 h6 a7 h7 a8 h8 a9 h9 h10 q a D hD (by rw [hx]; exact anchors_midx a) (by rw [hx]; exact anchors_wide a)
theorem bottom_pt : out0_A_7 c i a1 h1 a2 h2 a3 h3 a4 h4 a5 h5 a6 h6 a7 h7 a8 h8 a9 h9 a10 h10 x0 x1 x2 x3 (ix3 0 q a) = upper 1153425408#32 (D ⟨16 + a, by omega⟩) (D ⟨48 + a, by omega⟩) (high a : ℝ) (mid (q.val / 80)) :=
  bottom_at a1 h1 a2 h2 a3 h3 a4 h4 a10 x0 x1 x2 x3 c i a5 h5 a6 h6 a7 h7 a8 h8 a9 h9 h10 q a D hD (by rw [hx]; exact anchors_midy a) (by rw [hx]; exact anchors_high a)
theorem score_pt : out0_A_8 c i a1 h1 a2 h2 a3 h3 a4 h4 a5 h5 a6 h6 a7 h7 a8 h8 a9 h9 a10 h10 x0 x1 x2 x3 (ix3 0 q a) = keepBig (lower 1159720960#32 (D ⟨a, by omega⟩) (D ⟨32 + a, by omega⟩) (wide a : ℝ) (mid (q.val % 80))) (lower 1153425408#32 (D ⟨16 + a, by omega⟩) (D ⟨48 + a, by omega⟩) (high a : ℝ) (mid (q.val / 80))) (upper 1159720960#32 (D ⟨a, by omega⟩) (D ⟨32 + a, by omega⟩) (wide a : ℝ) (mid (q.val % 80))) (upper 1153425408#32 (D ⟨16 + a, by omega⟩) (D ⟨48 + a, by omega⟩) (high a : ℝ) (mid (q.val / 80))) (D ⟨64 + a, by omega⟩) :=
  score_at a1 h1 a2 h2 a3 h3 a4 h4 a10 x0 x1 x2 x3 c i a5 h5 a6 h6 a7 h7 a8 h8 a9 h9 h10 q a D hD (by rw [hx]; exact anchors_midx a) (by rw [hx]; exact anchors_wide a) (by rw [hx]; exact anchors_midy a) (by rw [hx]; exact anchors_high a)

end Plain

variable (m : (ℓ : Loc nD τ sig) → Buf (Elt Ideal) ℓ) (c : Dev nD)

variable (t : Fin cfg0.N) (q : Fin 3840) (a : Fin 9)

/-- What a grid point leaves of the left edges. -/
theorem point_left : (outsAt0 m c t).1 (ix3 0 q a) = left (F0 m c) (F1 m c) (F2 m c) (img t) q a := by
  unfold outsAt0
  dsimp only
  rw [left_pt (hD := heads_at m c t q) (hx := blk3 m c t)]
  unfold left
  rw [col0, col2]

/-- What a grid point leaves of the upper edges. -/
theorem point_top : (outsAt0 m c t).2.1 (ix3 0 q a) = top (F0 m c) (F1 m c) (F2 m c) (img t) q a := by
  unfold outsAt0
  dsimp only
  rw [top_pt (hD := heads_at m c t q) (hx := blk3 m c t)]
  unfold top
  rw [col1, col3]

/-- What a grid point leaves of the right edges. -/
theorem point_right : (outsAt0 m c t).2.2.1 (ix3 0 q a) = right (F0 m c) (F1 m c) (F2 m c) (img t) q a := by
  unfold outsAt0
  dsimp only
  rw [right_pt (hD := heads_at m c t q) (hx := blk3 m c t)]
  unfold right
  rw [col0, col2]

/-- What a grid point leaves of the lower edges. -/
theorem point_bottom : (outsAt0 m c t).2.2.2.1 (ix3 0 q a) = bottom (F0 m c) (F1 m c) (F2 m c) (img t) q a := by
  unfold outsAt0
  dsimp only
  rw [bottom_pt (hD := heads_at m c t q) (hx := blk3 m c t)]
  unfold bottom
  rw [col1, col3]

/-- What a grid point leaves of the scores. -/
theorem point_score : (outsAt0 m c t).2.2.2.2 (ix3 0 q a) = scoreOf (F0 m c) (F1 m c) (F2 m c) (F3 m c) (F4 m c) (img t) q a := by
  unfold outsAt0
  dsimp only
  rw [score_pt (hD := heads_at m c t q) (hx := blk3 m c t)]
  unfold scoreOf left top right bottom
  rw [col0, col1, col2, col3, col4]

end Cert.Rpn

end
-- ==== Proof.HeadsArray.lean ====
/- The five result arrays after the run, element by element. -/
module

public import proofs.«01_k».proof.Proof.HeadsPoint
public import Idealize.ShloMosaic.Lib.Pipeline.ValueKit

@[expose] public section

set_option maxRecDepth 16384

noncomputable section

namespace Cert.Rpn

open Cert.HeadsIdeal Cert.HeadsIdeal.Gen Idealize.ShloMosaic Idealize.ShloMosaic.TcCoe

variable (m : (ℓ : Loc nD τ sig) → Buf (Elt Ideal) ℓ) (c : Dev nD)

/-- After the run the array of window 4 holds the left edges. -/
theorem final_left : (dats m 0 c).arrAt 4 cfg0.N = fun i => left (F0 m c) (F1 m c) (F2 m c) (i 0) (i 1) (i 2) := by
  refine (dats m 0 c).arrAt_eq_of_covers 4 _ (by decide +kernel) fun t hf y => ?_
  blk_simp
  rw [after0_4]
  have hy : y = ix3 0 (y 1) (y 2) := by
    funext d
    fin_cases d
    · exact Subsingleton.elim (α := Fin 1) _ _
    · rfl
    · rfl
  have e0 : (((win0_4.blk t).view.emb y) 0 : Fin 4) = img t := Fin.ext (by
    have h0 : (y 0 : ℕ) < 1 := (y 0).isLt
    blk_simp [idx4, img])
  have e1 : (((win0_4.blk t).view.emb y) 1 : Fin 3840) = y 1 := Fin.ext (by
    blk_simp [idx4])
  have e2 : (((win0_4.blk t).view.emb y) 2 : Fin 9) = y 2 := Fin.ext (by
    blk_simp [idx4])
  rw [e0, e1, e2]
  conv_lhs => rw [hy]
  exact point_left m c t (y 1) (y 2)

/-- After the run the array of window 5 holds the upper edges. -/
theorem final_top : (dats m 0 c).arrAt 5 cfg0.N = fun i => top (F0 m c) (F1 m c) (F2 m c) (i 0) (i 1) (i 2) := by
  refine (dats m 0 c).arrAt_eq_of_covers 5 _ (by decide +kernel) fun t hf y => ?_
  blk_simp
  rw [after0_5]
  have hy : y = ix3 0 (y 1) (y 2) := by
    funext d
    fin_cases d
    · exact Subsingleton.elim (α := Fin 1) _ _
    · rfl
    · rfl
  have e0 : (((win0_5.blk t).view.emb y) 0 : Fin 4) = img t := Fin.ext (by
    have h0 : (y 0 : ℕ) < 1 := (y 0).isLt
    blk_simp [idx5, img])
  have e1 : (((win0_5.blk t).view.emb y) 1 : Fin 3840) = y 1 := Fin.ext (by
    blk_simp [idx5])
  have e2 : (((win0_5.blk t).view.emb y) 2 : Fin 9) = y 2 := Fin.ext (by
    blk_simp [idx5])
  rw [e0, e1, e2]
  conv_lhs => rw [hy]
  exact point_top m c t (y 1) (y 2)

/-- After the run the array of window 6 holds the right edges. -/
theorem final_right : (dats m 0 c).arrAt 6 cfg0.N = fun i => right (F0 m c) (F1 m c) (F2 m c) (i 0) (i 1) (i 2) := by
  refine (dats m 0 c).arrAt_eq_of_covers 6 _ (by decide +kernel) fun t hf y => ?_
  blk_simp
  rw [after0_6]
  have hy : y = ix3 0 (y 1) (y 2) := by
    funext d
    fin_cases d
    · exact Subsingleton.elim (α := Fin 1) _ _
    · rfl
    · rfl
  have e0 : (((win0_6.blk t).view.emb y) 0 : Fin 4) = img t := Fin.ext (by
    have h0 : (y 0 : ℕ) < 1 := (y 0).isLt
    blk_simp [idx6, img])
  have e1 : (((win0_6.blk t).view.emb y) 1 : Fin 3840) = y 1 := Fin.ext (by
    blk_simp [idx6])
  have e2 : (((win0_6.blk t).view.emb y) 2 : Fin 9) = y 2 := Fin.ext (by
    blk_simp [idx6])
  rw [e0, e1, e2]
  conv_lhs => rw [hy]
  exact point_right m c t (y 1) (y 2)

/-- After the run the array of window 7 holds the lower edges. -/
theorem final_bottom : (dats m 0 c).arrAt 7 cfg0.N = fun i => bottom (F0 m c) (F1 m c) (F2 m c) (i 0) (i 1) (i 2) := by
  refine (dats m 0 c).arrAt_eq_of_covers 7 _ (by decide +kernel) fun t hf y => ?_
  blk_simp
  rw [after0_7]
  have hy : y = ix3 0 (y 1) (y 2) := by
    funext d
    fin_cases d
    · exact Subsingleton.elim (α := Fin 1) _ _
    · rfl
    · rfl
  have e0 : (((win0_7.blk t).view.emb y) 0 : Fin 4) = img t := Fin.ext (by
    have h0 : (y 0 : ℕ) < 1 := (y 0).isLt
    blk_simp [idx7, img])
  have e1 : (((win0_7.blk t).view.emb y) 1 : Fin 3840) = y 1 := Fin.ext (by
    blk_simp [idx7])
  have e2 : (((win0_7.blk t).view.emb y) 2 : Fin 9) = y 2 := Fin.ext (by
    blk_simp [idx7])
  rw [e0, e1, e2]
  conv_lhs => rw [hy]
  exact point_bottom m c t (y 1) (y 2)

/-- After the run the array of window 8 holds the scores. -/
theorem final_score : (dats m 0 c).arrAt 8 cfg0.N = fun i => scoreOf (F0 m c) (F1 m c) (F2 m c) (F3 m c) (F4 m c) (i 0) (i 1) (i 2) := by
  refine (dats m 0 c).arrAt_eq_of_covers 8 _ (by decide +kernel) fun t hf y => ?_
  blk_simp
  rw [after0_8]
  have hy : y = ix3 0 (y 1) (y 2) := by
    funext d
    fin_cases d
    · exact Subsingleton.elim (α := Fin 1) _ _
    · rfl
    · rfl
  have e0 : (((win0_8.blk t).view.emb y) 0 : Fin 4) = img t := Fin.ext (by
    have h0 : (y 0 : ℕ) < 1 := (y 0).isLt
    blk_simp [idx8, img])
  have e1 : (((win0_8.blk t).view.emb y) 1 : Fin 3840) = y 1 := Fin.ext (by
    blk_simp [idx8])
  have e2 : (((win0_8.blk t).view.emb y) 2 : Fin 9) = y 2 := Fin.ext (by
    blk_simp [idx8])
  rw [e0, e1, e2]
  conv_lhs => rw [hy]
  exact point_score m c t (y 1) (y 2)

end Cert.Rpn

end
-- ==== Proof.HeadsRef.lean ====
/- The reference's boxes and scores, element by element. -/
module

public import proofs.«01_k».proof.Proof.HeadsSpec
public import proofs.«01_k».proof.Proof.Gen.HeadsSpecIdeal.Run
public import Idealize.ShloMosaic.Lib.Tactic.CleanTypes
public import Idealize.ShloMosaic.Lib.Pointwise

@[expose] public section

set_option maxRecDepth 16384

noncomputable section

namespace Cert.Rpn

open Cert.HeadsSpecIdeal Cert.HeadsSpecIdeal.Gen Idealize.ShloMosaic Idealize.ShloMosaic.TcCoe Cert.HeadsSpecIdeal.Value

/-- The anchors' edges. -/
def r_cst (f : FVec Ideal S4x3840x512 .f32) (wb : FVec Ideal S36x512x1x1 .f32) (bb : FVec Ideal S36 .f32) (wc : FVec Ideal S18x512x3x3 .f32) (bc : FVec Ideal S18 .f32) : FVec Ideal S9x4 .f32 :=
  (fun i => FloatOps.ofBits .f32 (lit0 (S9x4.rowMajor i)))
/-- The features by channel, row and column. -/
def r_v1 (f : FVec Ideal S4x3840x512 .f32) (wb : FVec Ideal S36x512x1x1 .f32) (bb : FVec Ideal S36 .f32) (wc : FVec Ideal S18x512x3x3 .f32) (bc : FVec Ideal S18 .f32) : FVec Ideal S4x512x48x80 .f32 :=
  transpose S4x512x48x80 [0, 3, 1, 2] (shapeCast _ f shapeCasts_S4x3840x512_S4x48x80x512) transposes_S4x48x80x512_S4x512x48x80_0_3_1_2
/-- The padded features. -/
def r_v9 (f : FVec Ideal S4x3840x512 .f32) (wb : FVec Ideal S36x512x1x1 .f32) (bb : FVec Ideal S36 .f32) (wc : FVec Ideal S18x512x3x3 .f32) (bc : FVec Ideal S18 .f32) : FVec Ideal S4x512x50x82 .f32 :=
  pad S4x512x50x82 ![0, 0, 1, 1] ![0, 0, 1, 1] ![0, 0, 0, 0] (r_v1 f wb bb wc bc) (sitofp .f32 (constantI S_ 32 0#32)) pads_S4x512x48x80_S4x512x50x82_000_000_110_110 h_S_
/-- The class scores. -/
def r_v65 (f : FVec Ideal S4x3840x512 .f32) (wb : FVec Ideal S36x512x1x1 .f32) (bb : FVec Ideal S36 .f32) (wc : FVec Ideal S18x512x3x3 .f32) (bc : FVec Ideal S18 .f32) : FVec Ideal S4x18x48x80 .f32 :=
  addf (addf (addf (addf (addf (addf (addf (addf (addf (transpose S4x18x48x80 [1, 0, 2, 3] (Host.dotGeneral dot_S18x512_S4x512x48x80_S18x4x48x80_1_1_0_023_n_n none (shapeCast _ (extractStridedSlice S18x512x1x1 ![0, 0, 0, 0] wc slices_S18x512x3x3_S18x512x1x1_0_0_0_0) shapeCasts_S18x512x1x1_S18x512) (extractStridedSlice S4x512x48x80 ![0, 0, 0, 0] (r_v9 f wb bb wc bc) slices_S4x512x50x82_S4x512x48x80_0_0_0_0)) transposes_S18x4x48x80_S4x18x48x80_1_0_2_3) (transpose S4x18x48x80 [1, 0, 2, 3] (Host.dotGeneral dot_S18x512_S4x512x48x80_S18x4x48x80_1_1_0_023_n_n none (shapeCast _ (extractStridedSlice S18x512x1x1 ![0, 0, 0, 1] wc slices_S18x512x3x3_S18x512x1x1_0_0_0_1) shapeCasts_S18x512x1x1_S18x512) (extractStridedSlice S4x512x48x80 ![0, 0, 0, 1] (r_v9 f wb bb wc bc) slices_S4x512x50x82_S4x512x48x80_0_0_0_1)) transposes_S18x4x48x80_S4x18x48x80_1_0_2_3)) (transpose S4x18x48x80 [1, 0, 2, 3] (Host.dotGeneral dot_S18x512_S4x512x48x80_S18x4x48x80_1_1_0_023_n_n none (shapeCast _ (extractStridedSlice S18x512x1x1 ![0, 0, 0, 2] wc slices_S18x512x3x3_S18x512x1x1_0_0_0_2) shapeCasts_S18x512x1x1_S18x512) (extractStridedSlice S4x512x48x80 ![0, 0, 0, 2] (r_v9 f wb bb wc bc) slices_S4x512x50x82_S4x512x48x80_0_0_0_2)) transposes_S18x4x48x80_S4x18x48x80_1_0_2_3)) (transpose S4x18x48x80 [1, 0, 2, 3] (Host.dotGeneral dot_S18x512_S4x512x48x80_S18x4x48x80_1_1_0_023_n_n none (shapeCast _ (extractStridedSlice S18x512x1x1 ![0, 0, 1, 0] wc slices_S18x512x3x3_S18x512x1x1_0_0_1_0) shapeCasts_S18x512x1x1_S18x512) (extractStridedSlice S4x512x48x80 ![0, 0, 1, 0] (r_v9 f wb bb wc bc) slices_S4x512x50x82_S4x512x48x80_0_0_1_0)) transposes_S18x4x48x80_S4x18x48x80_1_0_2_3)) (transpose S4x18x48x80 [1, 0, 2, 3] (Host.dotGeneral dot_S18x512_S4x512x48x80_S18x4x48x80_1_1_0_023_n_n none (shapeCast _ (extractStridedSlice S18x512x1x1 ![0, 0, 1, 1] wc slices_S18x512x3x3_S18x512x1x1_0_0_1_1) shapeCasts_S18x512x1x1_S18x512) (extractStridedSlice S4x512x48x80 ![0, 0, 1, 1] (r_v9 f wb bb wc bc) slices_S4x512x50x82_S4x512x48x80_0_0_1_1)) transposes_S18x4x48x80_S4x18x48x80_1_0_2_3)) (transpose S4x18x48x80 [1, 0, 2, 3] (Host.dotGeneral dot_S18x512_S4x512x48x80_S18x4x48x80_1_1_0_023_n_n none (shapeCast _ (extractStridedSlice S18x512x1x1 ![0, 0, 1, 2] wc slices_S18x512x3x3_S18x512x1x1_0_0_1_2) shapeCasts_S18x512x1x1_S18x512) (extractStridedSlice S4x512x48x80 ![0, 0, 1, 2] (r_v9 f wb bb wc bc) slices_S4x512x50x82_S4x512x48x80_0_0_1_2)) transposes_S18x4x48x80_S4x18x48x80_1_0_2_3)) (transpose S4x18x48x80 [1, 0, 2, 3] (Host.dotGeneral dot_S18x512_S4x512x48x80_S18x4x48x80_1_1_0_023_n_n none (shapeCast _ (extractStridedSlice S18x512x1x1 ![0, 0, 2, 0] wc slices_S18x512x3x3_S18x512x1x1_0_0_2_0) shapeCasts_S18x512x1x1_S18x512) (extractStridedSlice S4x512x48x80 ![0, 0, 2, 0] (r_v9 f wb bb wc bc) slices_S4x512x50x82_S4x512x48x80_0_0_2_0)) transposes_S18x4x48x80_S4x18x48x80_1_0_2_3)) (transpose S4x18x48x80 [1, 0, 2, 3] (Host.dotGeneral dot_S18x512_S4x512x48x80_S18x4x48x80_1_1_0_023_n_n none (shapeCast _ (extractStridedSlice S18x512x1x1 ![0, 0, 2, 1] wc slices_S18x512x3x3_S18x512x1x1_0_0_2_1) shapeCasts_S18x512x1x1_S18x512) (extractStridedSlice S4x512x48x80 ![0, 0, 2, 1] (r_v9 f wb bb wc bc) slices_S4x512x50x82_S4x512x48x80_0_0_2_1)) transposes_S18x4x48x80_S4x18x48x80_1_0_2_3)) (transpose S4x18x48x80 [1, 0, 2, 3] (Host.dotGeneral dot_S18x512_S4x512x48x80_S18x4x48x80_1_1_0_023_n_n none (shapeCast _ (extractStridedSlice S18x512x1x1 ![0, 0, 2, 2] wc slices_S18x512x3x3_S18x512x1x1_0_0_2_2) shapeCasts_S18x512x1x1_S18x512) (extractStridedSlice S4x512x48x80 ![0, 0, 2, 2] (r_v9 f wb bb wc bc) slices_S4x512x50x82_S4x512x48x80_0_0_2_2)) transposes_S18x4x48x80_S4x18x48x80_1_0_2_3)) (broadcastInDim S4x18x48x80 ![0, 1, 2, 3] bcast_S1x18x1x1_S4x18x48x80_0_1_2_3 (broadcastInDim S1x18x1x1 ![1] bcast_S18_S1x18x1x1_1 bc))
/-- The locations' horizontal offsets. -/
def r_v76 (f : FVec Ideal S4x3840x512 .f32) (wb : FVec Ideal S36x512x1x1 .f32) (bb : FVec Ideal S36 .f32) (wc : FVec Ideal S18x512x3x3 .f32) (bc : FVec Ideal S18 .f32) : FVec Ideal S3840x1 .f32 :=
  shapeCast _ (broadcastInDim S48x80 ![1] bcast_S80_S48x80_1 (sitofp .f32 (muli (iotaInDim S80 32 0) (broadcastInDim S80 ![] bcast_S_S80 (constantI S_ 32 32#32))))) shapeCasts_S48x80_S3840x1
/-- The locations' vertical offsets. -/
def r_v77 (f : FVec Ideal S4x3840x512 .f32) (wb : FVec Ideal S36x512x1x1 .f32) (bb : FVec Ideal S36 .f32) (wc : FVec Ideal S18x512x3x3 .f32) (bc : FVec Ideal S18 .f32) : FVec Ideal S3840x1 .f32 :=
  shapeCast _ (broadcastInDim S48x80 ![0] bcast_S48_S48x80_0 (sitofp .f32 (muli (iotaInDim S48 32 0) (broadcastInDim S48 ![] bcast_S_S48 (constantI S_ 32 32#32))))) shapeCasts_S48x80_S3840x1
/-- The anchors' left edges at every location. -/
def r_v83 (f : FVec Ideal S4x3840x512 .f32) (wb : FVec Ideal S36x512x1x1 .f32) (bb : FVec Ideal S36 .f32) (wc : FVec Ideal S18x512x3x3 .f32) (bc : FVec Ideal S18 .f32) : FVec Ideal S3840x9 .f32 :=
  addf (broadcastInDim S3840x9 ![0, 1] bcast_S3840x1_S3840x9_0_1 (r_v76 f wb bb wc bc)) (broadcastInDim S3840x9 ![0, 1] bcast_S1x9_S3840x9_0_1 (broadcastInDim S1x9 ![1] bcast_S9_S1x9_1 (shapeCast _ (extractStridedSlice S9x1 ![0, 0] (r_cst f wb bb wc bc) slices_S9x4_S9x1_0_0) shapeCasts_S9x1_S9)))
/-- The anchors' upper edges at every location. -/
def r_v89 (f : FVec Ideal S4x3840x512 .f32) (wb : FVec Ideal S36x512x1x1 .f32) (bb : FVec Ideal S36 .f32) (wc : FVec Ideal S18x512x3x3 .f32) (bc : FVec Ideal S18 .f32) : FVec Ideal S3840x9 .f32 :=
  addf (broadcastInDim S3840x9 ![0, 1] bcast_S3840x1_S3840x9_0_1 (r_v77 f wb bb wc bc)) (broadcastInDim S3840x9 ![0, 1] bcast_S1x9_S3840x9_0_1 (broadcastInDim S1x9 ![1] bcast_S9_S1x9_1 (shapeCast _ (extractStridedSlice S9x1 ![0, 1] (r_cst f wb bb wc bc) slices_S9x4_S9x1_0_1) shapeCasts_S9x1_S9)))
/-- The deltas. -/
def r_v103 (f : FVec Ideal S4x3840x512 .f32) (wb : FVec Ideal S36x512x1x1 .f32) (bb : FVec Ideal S36 .f32) (wc : FVec Ideal S18x512x3x3 .f32) (bc : FVec Ideal S18 .f32) : FVec Ideal S4x3840x9x4 .f32 :=
  transpose S4x3840x9x4 [0, 3, 1, 2] (shapeCast _ (addf (transpose S4x36x48x80 [1, 0, 2, 3] (Host.dotGeneral dot_S36x512_S4x512x48x80_S36x4x48x80_1_1_0_023_n_n none (shapeCast _ wb shapeCasts_S36x512x1x1_S36x512) (pad S4x512x48x80 ![0, 0, 0, 0] ![0, 0, 0, 0] ![0, 0, 0, 0] (r_v1 f wb bb wc bc) (sitofp .f32 (constantI S_ 32 0#32)) pads_S4x512x48x80_S4x512x48x80_000_000_000_000 h_S_)) transposes_S36x4x48x80_S4x36x48x80_1_0_2_3) (broadcastInDim S4x36x48x80 ![0, 1, 2, 3] bcast_S1x36x1x1_S4x36x48x80_0_1_2_3 (broadcastInDim S1x36x1x1 ![1] bcast_S36_S1x36x1x1_1 bb))) shapeCasts_S4x36x48x80_S4x9x4x3840) transposes_S4x9x4x3840_S4x3840x9x4_0_3_1_2
/-- The anchors' widths at every location. -/
def r_v109 (f : FVec Ideal S4x3840x512 .f32) (wb : FVec Ideal S36x512x1x1 .f32) (bb : FVec Ideal S36 .f32) (wc : FVec Ideal S18x512x3x3 .f32) (bc : FVec Ideal S18 .f32) : FVec Ideal S3840x9 .f32 :=
  addf (subf (addf (broadcastInDim S3840x9 ![0, 1] bcast_S3840x1_S3840x9_0_1 (r_v76 f wb bb wc bc)) (broadcastInDim S3840x9 ![0, 1] bcast_S1x9_S3840x9_0_1 (broadcastInDim S1x9 ![1] bcast_S9_S1x9_1 (shapeCast _ (extractStridedSlice S9x1 ![0, 2] (r_cst f wb bb wc bc) slices_S9x4_S9x1_0_2) shapeCasts_S9x1_S9)))) (r_v83 f wb bb wc bc)) (broadcastInDim S3840x9 ![] bcast_S_S3840x9 (constant S_ .f32 0x3F800000#32))
/-- The anchors' heights at every location. -/
def r_v112 (f : FVec Ideal S4x3840x512 .f32) (wb : FVec Ideal S36x512x1x1 .f32) (bb : FVec Ideal S36 .f32) (wc : FVec Ideal S18x512x3x3 .f32) (bc : FVec Ideal S18 .f32) : FVec Ideal S3840x9 .f32 :=
  addf (subf (addf (broadcastInDim S3840x9 ![0, 1] bcast_S3840x1_S3840x9_0_1 (r_v77 f wb bb wc bc)) (broadcastInDim S3840x9 ![0, 1] bcast_S1x9_S3840x9_0_1 (broadcastInDim S1x9 ![1] bcast_S9_S1x9_1 (shapeCast _ (extractStridedSlice S9x1 ![0, 3] (r_cst f wb bb wc bc) slices_S9x4_S9x1_0_3) shapeCasts_S9x1_S9)))) (r_v89 f wb bb wc bc)) (broadcastInDim S3840x9 ![] bcast_S_S3840x9 (constant S_ .f32 0x3F800000#32))
/-- The boxes' horizontal middles. -/
def r_v126 (f : FVec Ideal S4x3840x512 .f32) (wb : FVec Ideal S36x512x1x1 .f32) (bb : FVec Ideal S36 .f32) (wc : FVec Ideal S18x512x3x3 .f32) (bc : FVec Ideal S18 .f32) : FVec Ideal S4x3840x9 .f32 :=
  addf (mulf (shapeCast _ (extractStridedSlice S4x3840x9x1 ![0, 0, 0, 0] (r_v103 f wb bb wc bc) slices_S4x3840x9x4_S4x3840x9x1_0_0_0_0) shapeCasts_S4x3840x9x1_S4x3840x9) (broadcastInDim S4x3840x9 ![0, 1, 2] bcast_S1x3840x9_S4x3840x9_0_1_2 (broadcastInDim S1x3840x9 ![1, 2] bcast_S3840x9_S1x3840x9_1_2 (r_v109 f wb bb wc bc)))) (broadcastInDim S4x3840x9 ![0, 1, 2] bcast_S1x3840x9_S4x3840x9_0_1_2 (broadcastInDim S1x3840x9 ![1, 2] bcast_S3840x9_S1x3840x9_1_2 (addf (r_v83 f wb bb wc bc) (mulf (broadcastInDim S3840x9 ![] bcast_S_S3840x9 (constant S_ .f32 0x3F000000#32)) (r_v109 f wb bb wc bc)))))
/-- The boxes' vertical middles. -/
def r_v134 (f : FVec Ideal S4x3840x512 .f32) (wb : FVec Ideal S36x512x1x1 .f32) (bb : FVec Ideal S36 .f32) (wc : FVec Ideal S18x512x3x3 .f32) (bc : FVec Ideal S18 .f32) : FVec Ideal S4x3840x9 .f32 :=
  addf (mulf (shapeCast _ (extractStridedSlice S4x3840x9x1 ![0, 0, 0, 1] (r_v103 f wb bb wc bc) slices_S4x3840x9x4_S4x3840x9x1_0_0_0_1) shapeCasts_S4x3840x9x1_S4x3840x9) (broadcastInDim S4x3840x9 ![0, 1, 2] bcast_S1x3840x9_S4x3840x9_0_1_2 (broadcastInDim S1x3840x9 ![1, 2] bcast_S3840x9_S1x3840x9_1_2 (r_v112 f wb bb wc bc)))) (broadcastInDim S4x3840x9 ![0, 1, 2] bcast_S1x3840x9_S4x3840x9_0_1_2 (broadcastInDim S1x3840x9 ![1, 2] bcast_S3840x9_S1x3840x9_1_2 (addf (r_v89 f wb bb wc bc) (mulf (broadcastInDim S3840x9 ![] bcast_S_S3840x9 (constant S_ .f32 0x3F000000#32)) (r_v112 f wb bb wc bc)))))
/-- The boxes' widths. -/
def r_v140 (f : FVec Ideal S4x3840x512 .f32) (wb : FVec Ideal S36x512x1x1 .f32) (bb : FVec Ideal S36 .f32) (wc : FVec Ideal S18x512x3x3 .f32) (bc : FVec Ideal S18 .f32) : FVec Ideal S4x3840x9 .f32 :=
  mulf (Host.exp (shapeCast _ (extractStridedSlice S4x3840x9x1 ![0, 0, 0, 2] (r_v103 f wb bb wc bc) slices_S4x3840x9x4_S4x3840x9x1_0_0_0_2) shapeCasts_S4x3840x9x1_S4x3840x9)) (broadcastInDim S4x3840x9 ![0, 1, 2] bcast_S1x3840x9_S4x3840x9_0_1_2 (broadcastInDim S1x3840x9 ![1, 2] bcast_S3840x9_S1x3840x9_1_2 (r_v109 f wb bb wc bc)))
/-- The boxes' heights. -/
def r_v146 (f : FVec Ideal S4x3840x512 .f32) (wb : FVec Ideal S36x512x1x1 .f32) (bb : FVec Ideal S36 .f32) (wc : FVec Ideal S18x512x3x3 .f32) (bc : FVec Ideal S18 .f32) : FVec Ideal S4x3840x9 .f32 :=
  mulf (Host.exp (shapeCast _ (extractStridedSlice S4x3840x9x1 ![0, 0, 0, 3] (r_v103 f wb bb wc bc) slices_S4x3840x9x4_S4x3840x9x1_0_0_0_3) shapeCasts_S4x3840x9x1_S4x3840x9)) (broadcastInDim S4x3840x9 ![0, 1, 2] bcast_S1x3840x9_S4x3840x9_0_1_2 (broadcastInDim S1x3840x9 ![1, 2] bcast_S3840x9_S1x3840x9_1_2 (r_v112 f wb bb wc bc)))
/-- The left edges. -/
def r_v153 (f : FVec Ideal S4x3840x512 .f32) (wb : FVec Ideal S36x512x1x1 .f32) (bb : FVec Ideal S36 .f32) (wc : FVec Ideal S18x512x3x3 .f32) (bc : FVec Ideal S18 .f32) : FVec Ideal S4x3840x9 .f32 :=
  minimumf (maximumf (subf (r_v126 f wb bb wc bc) (mulf (broadcastInDim S4x3840x9 ![] bcast_S_S4x3840x9 (constant S_ .f32 0x3F000000#32)) (r_v140 f wb bb wc bc))) (broadcastInDim S4x3840x9 ![] bcast_S_S4x3840x9 (constant S_ .f32 0x00000000#32))) (broadcastInDim S4x3840x9 ![] bcast_S_S4x3840x9 (constant S_ .f32 0x451FF000#32))
/-- The upper edges. -/
def r_v160 (f : FVec Ideal S4x3840x512 .f32) (wb : FVec Ideal S36x512x1x1 .f32) (bb : FVec Ideal S36 .f32) (wc : FVec Ideal S18x512x3x3 .f32) (bc : FVec Ideal S18 .f32) : FVec Ideal S4x3840x9 .f32 :=
  minimumf (maximumf (subf (r_v134 f wb bb wc bc) (mulf (broadcastInDim S4x3840x9 ![] bcast_S_S4x3840x9 (constant S_ .f32 0x3F000000#32)) (r_v146 f wb bb wc bc))) (broadcastInDim S4x3840x9 ![] bcast_S_S4x3840x9 (constant S_ .f32 0x00000000#32))) (broadcastInDim S4x3840x9 ![] bcast_S_S4x3840x9 (constant S_ .f32 0x44BFE000#32))
/-- The right edges. -/
def r_v167 (f : FVec Ideal S4x3840x512 .f32) (wb : FVec Ideal S36x512x1x1 .f32) (bb : FVec Ideal S36 .f32) (wc : FVec Ideal S18x512x3x3 .f32) (bc : FVec Ideal S18 .f32) : FVec Ideal S4x3840x9 .f32 :=
  minimumf (maximumf (addf (r_v126 f wb bb wc bc) (mulf (broadcastInDim S4x3840x9 ![] bcast_S_S4x3840x9 (constant S_ .f32 0x3F000000#32)) (r_v140 f wb bb wc bc))) (broadcastInDim S4x3840x9 ![] bcast_S_S4x3840x9 (constant S_ .f32 0x00000000#32))) (broadcastInDim S4x3840x9 ![] bcast_S_S4x3840x9 (constant S_ .f32 0x451FF000#32))
/-- The lower edges. -/
def r_v174 (f : FVec Ideal S4x3840x512 .f32) (wb : FVec Ideal S36x512x1x1 .f32) (bb : FVec Ideal S36 .f32) (wc : FVec Ideal S18x512x3x3 .f32) (bc : FVec Ideal S18 .f32) : FVec Ideal S4x3840x9 .f32 :=
  minimumf (maximumf (addf (r_v134 f wb bb wc bc) (mulf (broadcastInDim S4x3840x9 ![] bcast_S_S4x3840x9 (constant S_ .f32 0x3F000000#32)) (r_v146 f wb bb wc bc))) (broadcastInDim S4x3840x9 ![] bcast_S_S4x3840x9 (constant S_ .f32 0x00000000#32))) (broadcastInDim S4x3840x9 ![] bcast_S_S4x3840x9 (constant S_ .f32 0x44BFE000#32))
/-- The scores. -/
def r_v186 (f : FVec Ideal S4x3840x512 .f32) (wb : FVec Ideal S36x512x1x1 .f32) (bb : FVec Ideal S36 .f32) (wc : FVec Ideal S18x512x3x3 .f32) (bc : FVec Ideal S18 .f32) : FVec Ideal S4x3840x9 .f32 :=
  select (andi (cmpf .oge (addf (subf (minimumf (maximumf (addf (r_v126 f wb bb wc bc) (mulf (broadcastInDim S4x3840x9 ![] bcast_S_S4x3840x9 (constant S_ .f32 0x3F000000#32)) (r_v140 f wb bb wc bc))) (broadcastInDim S4x3840x9 ![] bcast_S_S4x3840x9 (constant S_ .f32 0x00000000#32))) (broadcastInDim S4x3840x9 ![] bcast_S_S4x3840x9 (constant S_ .f32 0x451FF000#32))) (minimumf (maximumf (subf (r_v126 f wb bb wc bc) (mulf (broadcastInDim S4x3840x9 ![] bcast_S_S4x3840x9 (constant S_ .f32 0x3F000000#32)) (r_v140 f wb bb wc bc))) (broadcastInDim S4x3840x9 ![] bcast_S_S4x3840x9 (constant S_ .f32 0x00000000#32))) (broadcastInDim S4x3840x9 ![] bcast_S_S4x3840x9 (constant S_ .f32 0x451FF000#32)))) (broadcastInDim S4x3840x9 ![] bcast_S_S4x3840x9 (constant S_ .f32 0x3F800000#32))) (broadcastInDim S4x3840x9 ![] bcast_S_S4x3840x9 (constant S_ .f32 0x41800000#32))) (cmpf .oge (addf (subf (minimumf (maximumf (addf (r_v134 f wb bb wc bc) (mulf (broadcastInDim S4x3840x9 ![] bcast_S_S4x3840x9 (constant S_ .f32 0x3F000000#32)) (r_v146 f wb bb wc bc))) (broadcastInDim S4x3840x9 ![] bcast_S_S4x3840x9 (constant S_ .f32 0x00000000#32))) (broadcastInDim S4x3840x9 ![] bcast_S_S4x3840x9 (constant S_ .f32 0x44BFE000#32))) (minimumf (maximumf (subf (r_v134 f wb bb wc bc) (mulf (broadcastInDim S4x3840x9 ![] bcast_S_S4x3840x9 (constant S_ .f32 0x3F000000#32)) (r_v146 f wb bb wc bc))) (broadcastInDim S4x3840x9 ![] bcast_S_S4x3840x9 (constant S_ .f32 0x00000000#32))) (broadcastInDim S4x3840x9 ![] bcast_S_S4x3840x9 (constant S_ .f32 0x44BFE000#32)))) (broadcastInDim S4x3840x9 ![] bcast_S_S4x3840x9 (constant S_ .f32 0x3F800000#32))) (broadcastInDim S4x3840x9 ![] bcast_S_S4x3840x9 (constant S_ .f32 0x41800000#32)))) (transpose S4x3840x9 [0, 2, 1] (shapeCast _ (extractStridedSlice S4x9x48x80 ![0, 9, 0, 0] (r_v65 f wb bb wc bc) slices_S4x18x48x80_S4x9x48x80_0_9_0_0) shapeCasts_S4x9x48x80_S4x9x3840) transposes_S4x9x3840_S4x3840x9_0_2_1) (broadcastInDim S4x3840x9 ![] bcast_S_S4x3840x9 (constant S_ .f32 0xF149F2CA#32))

variable (f : FVec Ideal S4x3840x512 .f32) (wb : FVec Ideal S36x512x1x1 .f32) (bb : FVec Ideal S36 .f32) (wc : FVec Ideal S18x512x3x3 .f32) (bc : FVec Ideal S18 .f32)

/-- The words with the anchors' left edges. -/
def low_x_word : Fin 9 → BitVec 32 := ![0xC2A80000#32, 0xC3300000#32, 0xC3B40000#32, 0xC2600000#32, 0xC2F00000#32, 0xC3780000#32, 0xC2100000#32, 0xC2A00000#32, 0xC3280000#32]
theorem low_x_lit : ∀ a : Fin 9, lit0 (S9x4.rowMajor (ix2 a 0)) = low_x_word a := by decide +kernel
/-- The anchors' left edges. -/
theorem low_x (a : Fin 9) : r_cst f wb bb wc bc (ix2 a 0) = ((8 - wide a / 2 : ℝ) : EReal) := by
  show Ideal.ofBits .f32 (lit0 (S9x4.rowMajor (ix2 a 0))) = _
  rw [low_x_lit]
  fin_cases a <;> simp [low_x_word, wide, Ideal.ofBits, Ideal.ieee] <;> norm_cast <;> norm_num

/-- The words with the anchors' upper edges. -/
def low_y_word : Fin 9 → BitVec 32 := ![0xC2200000#32, 0xC2B00000#32, 0xC3380000#32, 0xC2600000#32, 0xC2F00000#32, 0xC3780000#32, 0xC2A00000#32, 0xC3280000#32, 0xC3AC0000#32]
theorem low_y_lit : ∀ a : Fin 9, lit0 (S9x4.rowMajor (ix2 a 1)) = low_y_word a := by decide +kernel
/-- The anchors' upper edges. -/
theorem low_y (a : Fin 9) : r_cst f wb bb wc bc (ix2 a 1) = ((8 - high a / 2 : ℝ) : EReal) := by
  show Ideal.ofBits .f32 (lit0 (S9x4.rowMajor (ix2 a 1))) = _
  rw [low_y_lit]
  fin_cases a <;> simp [low_y_word, high, Ideal.ofBits, Ideal.ieee] <;> norm_cast <;> norm_num

/-- The words with the anchors' right edges. -/
def high_x_word : Fin 9 → BitVec 32 := ![0x42C60000#32, 0x433F0000#32, 0x43BB8000#32, 0x428E0000#32, 0x43070000#32, 0x43838000#32, 0x424C0000#32, 0x42BE0000#32, 0x43370000#32]
theorem high_x_lit : ∀ a : Fin 9, lit0 (S9x4.rowMajor (ix2 a 2)) = high_x_word a := by decide +kernel
/-- The anchors' right edges. -/
theorem high_x (a : Fin 9) : r_cst f wb bb wc bc (ix2 a 2) = ((7 + wide a / 2 : ℝ) : EReal) := by
  show Ideal.ofBits .f32 (lit0 (S9x4.rowMajor (ix2 a 2))) = _
  rw [high_x_lit]
  fin_cases a <;> simp [high_x_word, wide, Ideal.ofBits, Ideal.ieee] <;> norm_cast <;> norm_num

/-- The words with the anchors' lower edges. -/
def high_y_word : Fin 9 → BitVec 32 := ![0x425C0000#32, 0x42CE0000#32, 0x43470000#32, 0x428E0000#32, 0x43070000#32, 0x43838000#32, 0x42BE0000#32, 0x43370000#32, 0x43B38000#32]
theorem high_y_lit : ∀ a : Fin 9, lit0 (S9x4.rowMajor (ix2 a 3)) = high_y_word a := by decide +kernel
/-- The anchors' lower edges. -/
theorem high_y (a : Fin 9) : r_cst f wb bb wc bc (ix2 a 3) = ((7 + high a / 2 : ℝ) : EReal) := by
  show Ideal.ofBits .f32 (lit0 (S9x4.rowMajor (ix2 a 3))) = _
  rw [high_y_lit]
  fin_cases a <;> simp [high_y_word, high, Ideal.ofBits, Ideal.ieee] <;> norm_cast <;> norm_num

/-- A word converted to a float is its number. -/
theorem word_num {x : BitVec 32} {t : ℕ} (h : x.toInt = (t : ℤ)) : FloatOps.sitofp (F := Ideal) .f32 x = ((t : ℝ) : EReal) := by
  show (((x.toInt : ℝ)) : EReal) = _
  rw [h]
  norm_cast

/-- The word with a column's distance from the left. -/
theorem gx_word : ∀ t : Fin 80, (IntOp.muli (BitVec.ofNat 32 t.val) 32#32).toInt = ((t.val * 32 : ℕ) : ℤ) := by decide +kernel

theorem gx_at (q : Fin 3840) : r_v76 f wb bb wc bc (ix2 q 0) = ((((q.val % 80 : ℕ) : ℝ) * 32 : ℝ) : EReal) := by
  unfold r_v76
  pointwise
  refine (word_num (gx_word ⟨q.val % 80, by omega⟩)).trans ?_
  push_cast
  rfl

theorem gy_at (q : Fin 3840) : r_v77 f wb bb wc bc (ix2 q 0) = ((((q.val / 80 : ℕ) : ℝ) * 32 : ℝ) : EReal) := by
  unfold r_v77
  pointwise
  refine (word_num (gx_word ⟨q.val / 80, by omega⟩)).trans ?_
  push_cast
  rfl

theorem ax_at (q : Fin 3840) (a : Fin 9) : r_v83 f wb bb wc bc (ix2 q a) = r_v76 f wb bb wc bc (ix2 q 0) + r_cst f wb bb wc bc (ix2 a 0) := by
  unfold r_v83
  generalize r_v76 f wb bb wc bc = A
  generalize r_cst f wb bb wc bc = C
  pointwise

theorem ay_at (q : Fin 3840) (a : Fin 9) : r_v89 f wb bb wc bc (ix2 q a) = r_v77 f wb bb wc bc (ix2 q 0) + r_cst f wb bb wc bc (ix2 a 1) := by
  unfold r_v89
  generalize r_v77 f wb bb wc bc = A
  generalize r_cst f wb bb wc bc = C
  pointwise

theorem w_at (q : Fin 3840) (a : Fin 9) : r_v109 f wb bb wc bc (ix2 q a) = ((wide a : ℝ) : EReal) := by
  have e : r_v109 f wb bb wc bc (ix2 q a) = r_v76 f wb bb wc bc (ix2 q 0) + r_cst f wb bb wc bc (ix2 a 2) - r_v83 f wb bb wc bc (ix2 q a) + 1 := by
    unfold r_v109
    generalize r_v76 f wb bb wc bc = A
    generalize r_v83 f wb bb wc bc = B
    generalize r_cst f wb bb wc bc = C
    pointwise
  rw [e, ax_at, gx_at, low_x, high_x]
  generalize ((q.val % 80 : ℕ) : ℝ) = t
  norm_cast
  ring

theorem h_at (q : Fin 3840) (a : Fin 9) : r_v112 f wb bb wc bc (ix2 q a) = ((high a : ℝ) : EReal) := by
  have e : r_v112 f wb bb wc bc (ix2 q a) = r_v77 f wb bb wc bc (ix2 q 0) + r_cst f wb bb wc bc (ix2 a 3) - r_v89 f wb bb wc bc (ix2 q a) + 1 := by
    unfold r_v112
    generalize r_v77 f wb bb wc bc = A
    generalize r_v89 f wb bb wc bc = B
    generalize r_cst f wb bb wc bc = C
    pointwise
  rw [e, ay_at, gy_at, low_y, high_y]
  generalize ((q.val / 80 : ℕ) : ℝ) = t
  norm_cast
  ring

theorem half_word : Ideal.ofBits .f32 1056964608#32 = ((1 / 2 : ℝ) : EReal) := by
  simp [Ideal.ofBits, Ideal.ieee]
  norm_cast
  norm_num

theorem zero_num : FloatOps.sitofp (F := Ideal) FTy.f32 (0#32) = 0 := by
  simp [FloatOps.sitofp]

/-- A padded feature written as a choice between a feature and zero. -/
theorem border (f : FVec Ideal S4x3840x512 .f32) (n : Fin 4) (k : Fin 512) {p : Prop} [Decidable p] {a : ℕ} {ha : p → a < 3840} {r s : ℕ}
    (hp : p ↔ (1 ≤ r ∧ r < 49) ∧ (1 ≤ s ∧ s < 81)) (hr : p → a = (r - 1) * 80 + (s - 1)) :
    (if h : p then f (ix3 n ⟨a, ha h⟩ k) else 0) = around f n k r s := by
  unfold around
  by_cases h : p
  · obtain rfl := hr h
    rw [dif_pos h, dif_pos (hp.1 h)]
  · rw [dif_neg h, dif_neg fun h' => h (hp.2 h')]

theorem delta_at (n : Fin 4) (q : Fin 3840) (a : Fin 9) (j : Fin 4) :
    r_v103 f wb bb wc bc (ix4 n q a j) = delta f wb bb n q ⟨4 * a + j, by omega⟩ := by
  unfold r_v103 r_v1
  pointwise
  unfold delta
  refine cong_add (Finset.sum_congr rfl fun k _ => ?_) (congrArg (fun z => bb (ix1 z)) (Fin.ext (by simp only; omega)))
  rw [dif_pos ⟨by omega, by omega⟩]
  exact (mul_comm _ _).trans (congrArg (fun z => f (ix3 n q k) * wb (ix4 z k 0 0)) (Fin.ext (by simp only; omega)))

theorem class_at (n : Fin 4) (o : Fin 18) (i : Fin 48) (j : Fin 80) :
    r_v65 f wb bb wc bc (ix4 n o i j) = classAt f wc bc n ⟨i * 80 + j, by omega⟩ o := by
  unfold r_v65 r_v9 r_v1
  pointwise
  simp only [zero_num]
  unfold classAt classTap
  have er : ((i : ℕ) * 80 + j) / 80 = i := by omega
  have ec : ((i : ℕ) * 80 + j) % 80 = j := by omega
  simp only [Fin.val_zero, Fin.val_one, Fin.val_two, er, ec]
  refine cong_add (cong_add (cong_add (cong_add (cong_add (cong_add (cong_add (cong_add (cong_add ?_ ?_) ?_) ?_) ?_) ?_) ?_) ?_) ?_) rfl
  case refine_5 =>
    refine Finset.sum_congr rfl fun k _ => (mul_comm _ _).trans (congrArg (· * _) ?_)
    exact (around_mid f n k ⟨i * 80 + j, by omega⟩).symm.trans (around_eq f n k (by simp [er]) (by simp [ec]))
  all_goals
    refine Finset.sum_congr rfl fun k _ => (mul_comm _ _).trans (congrArg (· * _) ?_)
    exact border f n k (by omega) (by omega)

theorem px_at (n : Fin 4) (q : Fin 3840) (a : Fin 9) : r_v126 f wb bb wc bc (ix3 n q a)
    = delta f wb bb n q ⟨4 * a + 0, by omega⟩ * ((wide a : ℝ) : EReal) + mid (q.val % 80) := by
  have e : r_v126 f wb bb wc bc (ix3 n q a) = r_v103 f wb bb wc bc (ix4 n q a 0) * r_v109 f wb bb wc bc (ix2 q a)
      + (r_v83 f wb bb wc bc (ix2 q a) + Ideal.ofBits .f32 1056964608#32 * r_v109 f wb bb wc bc (ix2 q a)) := by
    unfold r_v126
    generalize r_v103 f wb bb wc bc = D
    generalize r_v109 f wb bb wc bc = B
    generalize r_v83 f wb bb wc bc = C
    pointwise
  rw [e, delta_at, w_at, ax_at, gx_at, low_x, half_word]
  refine congrArg _ ?_
  unfold mid
  generalize ((q.val % 80 : ℕ) : ℝ) = t
  norm_cast
  ring

theorem ph_at (n : Fin 4) (q : Fin 3840) (a : Fin 9) : r_v134 f wb bb wc bc (ix3 n q a)
    = delta f wb bb n q ⟨4 * a + 1, by omega⟩ * ((high a : ℝ) : EReal) + mid (q.val / 80) := by
  have e : r_v134 f wb bb wc bc (ix3 n q a) = r_v103 f wb bb wc bc (ix4 n q a 1) * r_v112 f wb bb wc bc (ix2 q a)
      + (r_v89 f wb bb wc bc (ix2 q a) + Ideal.ofBits .f32 1056964608#32 * r_v112 f wb bb wc bc (ix2 q a)) := by
    unfold r_v134
    generalize r_v103 f wb bb wc bc = D
    generalize r_v112 f wb bb wc bc = B
    generalize r_v89 f wb bb wc bc = C
    pointwise
  rw [e, delta_at, h_at, ay_at, gy_at, low_y, half_word]
  refine congrArg _ ?_
  unfold mid
  generalize ((q.val / 80 : ℕ) : ℝ) = t
  norm_cast
  ring

theorem ew_at (n : Fin 4) (q : Fin 3840) (a : Fin 9) : r_v140 f wb bb wc bc (ix3 n q a)
    = Ideal.exp (delta f wb bb n q ⟨4 * a + 2, by omega⟩) * ((wide a : ℝ) : EReal) := by
  have e : r_v140 f wb bb wc bc (ix3 n q a) = Ideal.exp (r_v103 f wb bb wc bc (ix4 n q a 2)) * r_v109 f wb bb wc bc (ix2 q a) := by
    unfold r_v140
    generalize r_v103 f wb bb wc bc = D
    generalize r_v109 f wb bb wc bc = B
    pointwise
  rw [e, delta_at, w_at]
  rfl

theorem eh_at (n : Fin 4) (q : Fin 3840) (a : Fin 9) : r_v146 f wb bb wc bc (ix3 n q a)
    = Ideal.exp (delta f wb bb n q ⟨4 * a + 3, by omega⟩) * ((high a : ℝ) : EReal) := by
  have e : r_v146 f wb bb wc bc (ix3 n q a) = Ideal.exp (r_v103 f wb bb wc bc (ix4 n q a 3)) * r_v112 f wb bb wc bc (ix2 q a) := by
    unfold r_v146
    generalize r_v103 f wb bb wc bc = D
    generalize r_v112 f wb bb wc bc = B
    pointwise
  rw [e, delta_at, h_at]
  rfl

theorem left_ref (n : Fin 4) (q : Fin 3840) (a : Fin 9) : r_v153 f wb bb wc bc (ix3 n q a) = left f wb bb n q a := by
  have e : r_v153 f wb bb wc bc (ix3 n q a) = min (max (r_v126 f wb bb wc bc (ix3 n q a) - Ideal.ofBits .f32 1056964608#32 * r_v140 f wb bb wc bc (ix3 n q a)) 0) (Ideal.ofBits .f32 1159720960#32) := by
    unfold r_v153
    generalize r_v126 f wb bb wc bc = P
    generalize r_v140 f wb bb wc bc = E
    pointwise
  rw [e, px_at, ew_at]
  rfl

theorem top_ref (n : Fin 4) (q : Fin 3840) (a : Fin 9) : r_v160 f wb bb wc bc (ix3 n q a) = top f wb bb n q a := by
  have e : r_v160 f wb bb wc bc (ix3 n q a) = min (max (r_v134 f wb bb wc bc (ix3 n q a) - Ideal.ofBits .f32 1056964608#32 * r_v146 f wb bb wc bc (ix3 n q a)) 0) (Ideal.ofBits .f32 1153425408#32) := by
    unfold r_v160
    generalize r_v134 f wb bb wc bc = P
    generalize r_v146 f wb bb wc bc = E
    pointwise
  rw [e, ph_at, eh_at]
  rfl

theorem right_ref (n : Fin 4) (q : Fin 3840) (a : Fin 9) : r_v167 f wb bb wc bc (ix3 n q a) = right f wb bb n q a := by
  have e : r_v167 f wb bb wc bc (ix3 n q a) = min (max (r_v126 f wb bb wc bc (ix3 n q a) + Ideal.ofBits .f32 1056964608#32 * r_v140 f wb bb wc bc (ix3 n q a)) 0) (Ideal.ofBits .f32 1159720960#32) := by
    unfold r_v167
    generalize r_v126 f wb bb wc bc = P
    generalize r_v140 f wb bb wc bc = E
    pointwise
  rw [e, px_at, ew_at]
  rfl

theorem bottom_ref (n : Fin 4) (q : Fin 3840) (a : Fin 9) : r_v174 f wb bb wc bc (ix3 n q a) = bottom f wb bb n q a := by
  have e : r_v174 f wb bb wc bc (ix3 n q a) = min (max (r_v134 f wb bb wc bc (ix3 n q a) + Ideal.ofBits .f32 1056964608#32 * r_v146 f wb bb wc bc (ix3 n q a)) 0) (Ideal.ofBits .f32 1153425408#32) := by
    unfold r_v174
    generalize r_v134 f wb bb wc bc = P
    generalize r_v146 f wb bb wc bc = E
    pointwise
  rw [e, ph_at, eh_at]
  rfl

theorem score_ref (n : Fin 4) (q : Fin 3840) (a : Fin 9) :
    r_v186 f wb bb wc bc (ix3 n q a) = scoreOf f wb bb wc bc n q a := by
  have hp := px_at f wb bb wc bc n q a
  have hr := ph_at f wb bb wc bc n q a
  have he := ew_at f wb bb wc bc n q a
  have hg := eh_at f wb bb wc bc n q a
  have hs := class_at f wb bb wc bc n ⟨9 + a, by omega⟩ ⟨q / 80, by omega⟩ ⟨q % 80, by omega⟩
  unfold r_v186
  generalize r_v126 f wb bb wc bc = P at hp ⊢
  generalize r_v134 f wb bb wc bc = R at hr ⊢
  generalize r_v140 f wb bb wc bc = E at he ⊢
  generalize r_v146 f wb bb wc bc = G at hg ⊢
  generalize r_v65 f wb bb wc bc = S at hs ⊢
  pointwise
  rw [hp, hr, he, hg, hs]
  exact congrArg (fun z => keepBig _ _ _ _ (classAt f wc bc n z _)) (Fin.ext (by simp only; omega))

end Cert.Rpn

end
-- ==== Proof.HeadsRun.lean ====
/- What the reference of the heads leaves. -/
module

public import proofs.«01_k».proof.Proof.HeadsRef

@[expose] public section

set_option maxRecDepth 16384

noncomputable section

namespace Cert.RpnRun

open Cert.HeadsSpecIdeal Cert.HeadsSpecIdeal.Gen Idealize.ShloMosaic Idealize.ShloMosaic.TcCoe Idealize.SL.Sem Cert.Rpn

theorem idx_eq (i : S4x3840x9.Idx) : i = ix3 (i 0) (i 1) (i 2) := by
  funext d
  fin_cases d <;> rfl

variable (m : (ℓ : Loc nD τ sig) → Buf (Elt Ideal) ℓ) (c : Dev nD)

/-- The features that the reference is given. -/
abbrev G0 : FVec Ideal S4x3840x512 .f32 := m ((c.tc : Thread nD τ).loc main_arg0)
/-- The box weights that it is given. -/
abbrev G1 : FVec Ideal S36x512x1x1 .f32 := m ((c.tc : Thread nD τ).loc main_arg1)
/-- The box biases that it is given. -/
abbrev G2 : FVec Ideal S36 .f32 := m ((c.tc : Thread nD τ).loc main_arg2)
/-- The class weights that it is given. -/
abbrev G3 : FVec Ideal S18x512x3x3 .f32 := m ((c.tc : Thread nD τ).loc main_arg3)
/-- The class biases that it is given. -/
abbrev G4 : FVec Ideal S18 .f32 := m ((c.tc : Thread nD τ).loc main_arg4)

set_option maxHeartbeats 4000000 in
/-- The reference leaves the five arrays of edges and scores, and keeps its arguments. -/
theorem run_ref (ρ : Dev nD → PrngReg) :
    θ_run defs (onTc (τ := τ) (main (F := Ideal))) ⟨m, fun _ => 0, ρ⟩ fun r => ∀ c : Dev nD,
      r.2.mem ((c.tc : Thread nD τ).loc main_v153) = (fun i => left (G0 m c) (G1 m c) (G2 m c) (i 0) (i 1) (i 2))
      ∧ r.2.mem ((c.tc : Thread nD τ).loc main_v160) = (fun i => top (G0 m c) (G1 m c) (G2 m c) (i 0) (i 1) (i 2))
      ∧ r.2.mem ((c.tc : Thread nD τ).loc main_v167) = (fun i => right (G0 m c) (G1 m c) (G2 m c) (i 0) (i 1) (i 2))
      ∧ r.2.mem ((c.tc : Thread nD τ).loc main_v174) = (fun i => bottom (G0 m c) (G1 m c) (G2 m c) (i 0) (i 1) (i 2))
      ∧ r.2.mem ((c.tc : Thread nD τ).loc main_v186) = (fun i => scoreOf (G0 m c) (G1 m c) (G2 m c) (G3 m c) (G4 m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ?_) (Cert.HeadsSpecIdeal.Value.run (F := Ideal) m ρ)
  have b1 : r_v153 (G0 m c) (G1 m c) (G2 m c) (G3 m c) (G4 m c) = fun i => left (G0 m c) (G1 m c) (G2 m c) (i 0) (i 1) (i 2) := by
    funext i
    conv_lhs => rw [idx_eq i]
    exact left_ref _ _ _ _ _ _ _ _
  have b2 : r_v160 (G0 m c) (G1 m c) (G2 m c) (G3 m c) (G4 m c) = fun i => top (G0 m c) (G1 m c) (G2 m c) (i 0) (i 1) (i 2) := by
    funext i
    conv_lhs => rw [idx_eq i]
    exact top_ref _ _ _ _ _ _ _ _
  have b3 : r_v167 (G0 m c) (G1 m c) (G2 m c) (G3 m c) (G4 m c) = fun i => right (G0 m c) (G1 m c) (G2 m c) (i 0) (i 1) (i 2) := by
    funext i
    conv_lhs => rw [idx_eq i]
    exact right_ref _ _ _ _ _ _ _ _
  have b4 : r_v174 (G0 m c) (G1 m c) (G2 m c) (G3 m c) (G4 m c) = fun i => bottom (G0 m c) (G1 m c) (G2 m c) (i 0) (i 1) (i 2) := by
    funext i
    conv_lhs => rw [idx_eq i]
    exact bottom_ref _ _ _ _ _ _ _ _
  have b5 : r_v186 (G0 m c) (G1 m c) (G2 m c) (G3 m c) (G4 m c) = fun i => scoreOf (G0 m c) (G1 m c) (G2 m c) (G3 m c) (G4 m c) (i 0) (i 1) (i 2) := by
    funext i
    conv_lhs => rw [idx_eq i]
    exact score_ref _ _ _ _ _ _ _ _
  obtain ⟨h1, h2, h3, h4, h5, hk⟩ := h c
  exact ⟨h1.trans b1, h2.trans b2, h3.trans b3, h4.trans b4, h5.trans b5, hk⟩

end Cert.RpnRun

end
-- ==== Proof.SuppressLoop.lean ====
/-
The suppression kernel's loop: what the three buffers a trip writes hold before every trip, as values.

A trip reads the scores left over, picks the best lane of each image, writes the picked box as one row of the
result, counts it, and strikes the lanes that overlap it. The state is the vector of scores left over; every
trip's row and count are functions of it.
-/
module

public import proofs.«01_k».proof.Proof.Gen.SuppressIdeal.Skeleton
public import proofs.«01_k».proof.Proof.Gen.SuppressIdeal.Loops
public import Idealize.ShloMosaic.Lib.Exec
public import Idealize.ShloMosaic.Lib.Tactic
public import Idealize.ShloMosaic.Lib.Pipeline.Kit
public import Idealize.ShloMosaic.Lib.VecWindow
public import Idealize.ShloMosaic.Lib.WritesUnit

@[expose] public section

set_option maxRecDepth 8192

noncomputable section

namespace Cert.SuppressIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄L" => MT nD τ sig Unit (Elt F) ℕ (UR sig nD τ) ℕ

/-- The lane numbers. -/
def lanes : IVec S4x2048 32 := iota .tc S4x2048 32 [1] iota_S4x2048_d1_w32

/-- The scores left over after one trip. -/
def nextV (x0 x1 x2 x3 : Vec F S4x2048 .f32) (v : Vec F S4x2048 .f32) : Vec F S4x2048 .f32 :=
  k0_pay4 (k0_pay21 v) (k0_pay22 (k0_pay12 x0) (k0_pay13 x1) (k0_pay14 x2) (k0_pay15 x3)
    (k0_pay16 lanes k0_pay3 v x0) (k0_pay17 lanes k0_pay3 v x1) (k0_pay18 lanes k0_pay3 v x2)
    (k0_pay19 lanes k0_pay3 v x3)) (FloatOps.ofBits .f32 0x00000000#32)

/-- The row one trip writes. -/
def rowV (x0 x1 x2 x3 : Vec F S4x2048 .f32) (v : Vec F S4x2048 .f32) : FVec F S1x4x4 .f32 :=
  k0_pay6 (k0_pay10 k0_pay3 v) (k0_pay16 lanes k0_pay3 v x0) (k0_pay17 lanes k0_pay3 v x1)
    (k0_pay18 lanes k0_pay3 v x2) (k0_pay20 (k0_pay19 lanes k0_pay3 v x3))

/-- The scores left over before trip `k`. -/
def stV (x0 x1 x2 x3 : Vec F S4x2048 .f32) (v : Vec F S4x2048 .f32) : ℕ → Vec F S4x2048 .f32
  | 0 => v
  | k + 1 => nextV x0 x1 x2 x3 (stV x0 x1 x2 x3 v k)

/-- The counts before trip `k`. -/
def stN (x0 x1 x2 x3 : Vec F S4x2048 .f32) (v : Vec F S4x2048 .f32) (n : Vec F S4x1 .f32) : ℕ → Vec F S4x1 .f32
  | 0 => n
  | k + 1 => k0_pay7 (k0_pay10 k0_pay3 (stV x0 x1 x2 x3 v k)) (stN x0 x1 x2 x3 v n k)

/-- The rows before trip `k`: those of the trips before, and below them what the buffer held. -/
def stR (x0 x1 x2 x3 : Vec F S4x2048 .f32) (v : Vec F S4x2048 .f32) (r : Vec F S300x4x4 .f32) : ℕ → Vec F S300x4x4 .f32
  | 0 => r
  | k + 1 => VecWindow.put (stR x0 x1 x2 x3 v r k) ![k, 0, 0] S1x4x4.size (rowV x0 x1 x2 x3 (stV x0 x1 x2 x3 v k))

/-- The score buffer's contents before trip `k`, from its contents at the loop's start. -/
def c7 (x0 x1 x2 x3 : Vec F S4x2048 .f32) (m : Memref sig .tc .vmem S4x2048 .f32) (h : m.IsWhole) (G : BufTy.Contents (Elt F) m.view.ty) : ℕ → BufTy.Contents (Elt F) m.view.ty
  | 0 => G
  | k + 1 => h.unread (stV x0 x1 x2 x3 (m.view.read (Elt F) G) (k + 1))

/-- The count buffer's contents before trip `k`. -/
def c6 (x0 x1 x2 x3 : Vec F S4x2048 .f32) (v : Vec F S4x2048 .f32) (m : Memref sig .tc .vmem S4x1 .f32) (h : m.IsWhole) (G : BufTy.Contents (Elt F) m.view.ty) : ℕ → BufTy.Contents (Elt F) m.view.ty
  | 0 => G
  | k + 1 => h.unread (stN x0 x1 x2 x3 v (m.view.read (Elt F) G) (k + 1))

/-- The row buffer's contents before trip `k`. -/
def c5 (x0 x1 x2 x3 : Vec F S4x2048 .f32) (v : Vec F S4x2048 .f32) (m : Memref sig .tc .vmem S300x4x4 .f32) (h : m.IsWhole) (G : BufTy.Contents (Elt F) m.view.ty) : ℕ → BufTy.Contents (Elt F) m.view.ty
  | 0 => G
  | k + 1 => h.unread (stR x0 x1 x2 x3 v (m.view.read (Elt F) G) (k + 1))

theorem c7_read (x0 x1 x2 x3 : Vec F S4x2048 .f32) (m : Memref sig .tc .vmem S4x2048 .f32) (h : m.IsWhole) (G : BufTy.Contents (Elt F) m.view.ty) (k : ℕ) :
    m.view.read (Elt F) (c7 x0 x1 x2 x3 m h G k) = stV x0 x1 x2 x3 (m.view.read (Elt F) G) k := by
  cases k with
  | zero => rfl
  | succ k => exact h.read_unread _

theorem c6_read (x0 x1 x2 x3 : Vec F S4x2048 .f32) (v : Vec F S4x2048 .f32) (m : Memref sig .tc .vmem S4x1 .f32) (h : m.IsWhole) (G : BufTy.Contents (Elt F) m.view.ty) (k : ℕ) :
    m.view.read (Elt F) (c6 x0 x1 x2 x3 v m h G k) = stN x0 x1 x2 x3 v (m.view.read (Elt F) G) k := by
  cases k with
  | zero => rfl
  | succ k => exact h.read_unread _

theorem c5_read (x0 x1 x2 x3 : Vec F S4x2048 .f32) (v : Vec F S4x2048 .f32) (m : Memref sig .tc .vmem S300x4x4 .f32) (h : m.IsWhole) (G : BufTy.Contents (Elt F) m.view.ty) (k : ℕ) :
    m.view.read (Elt F) (c5 x0 x1 x2 x3 v m h G k) = stR x0 x1 x2 x3 v (m.view.read (Elt F) G) k := by
  cases k with
  | zero => rfl
  | succ k => exact h.read_unread _

theorem rd2 {κ : Kind} {sp : Space} (v : View sig κ sp S4x2048 .f32) (f : BufTy.Contents (Elt F) v.ty) :
    v.readAt (Elt F) (Rect.unit (s := S4x2048) ![0, 0] S4x2048.size inb_S4x2048_S4x2048_0_0).toLoadRect f = v.read (Elt F) f := View.readAt_full v f _

theorem rd1 {κ : Kind} {sp : Space} (v : View sig κ sp S4x1 .f32) (f : BufTy.Contents (Elt F) v.ty) :
    v.readAt (Elt F) (Rect.unit (s := S4x1) ![0, 0] S4x1.size inb_S4x1_S4x1_0_0).toLoadRect f = v.read (Elt F) f := View.readAt_full v f _

/-- The row a trip stores at is the trip's number. -/
theorem k0_off1_eq (k : Fin k0_t1_loop.trips) : k0_off1 k = ![k.val, 0, 0] := by
  have hk : k.val < 300 := Nat.lt_of_lt_of_le k.isLt k0_t1_abs.2.1
  have h : (Scalar.indexCast (Scf.iv (0#32) (1#32) k.val)).toNat = k.val := by
    simp only [Scf.iv, Scalar.indexCast]
    simp
    omega
  exact congrArg (fun n : ℕ => (![n, 0, 0] : Fin 3 → ℕ)) h

/-- Before trip `k`: the corners' buffers as they were, and the three written buffers at their values. -/
abbrev nmsInv (c : Dev nD) (arg0 : Memref sig .tc .vmem S4x2048 .f32) (harg0 : arg0.IsWhole) (arg1 : Memref sig .tc .vmem S4x2048 .f32) (harg1 : arg1.IsWhole) (arg2 : Memref sig .tc .vmem S4x2048 .f32) (harg2 : arg2.IsWhole) (arg3 : Memref sig .tc .vmem S4x2048 .f32) (harg3 : arg3.IsWhole) (arg4 : Memref sig .tc .vmem S4x2048 .f32) (harg4 : arg4.IsWhole) (arg5 : Memref sig .tc .vmem S300x4x4 .f32) (harg5 : arg5.IsWhole) (arg6 : Memref sig .tc .vmem S4x1 .f32) (harg6 : arg6.IsWhole) (arg7 : Memref sig .tc .vmem S4x2048 .f32) (harg7 : arg7.IsWhole)
    (X0 : BufTy.Contents (Elt F) arg0.view.ty) (X1 : BufTy.Contents (Elt F) arg1.view.ty) (X2 : BufTy.Contents (Elt F) arg2.view.ty) (X3 : BufTy.Contents (Elt F) arg3.view.ty)
    (G5 : BufTy.Contents (Elt F) arg5.view.ty) (G6 : BufTy.Contents (Elt F) arg6.view.ty) (G7 : BufTy.Contents (Elt F) arg7.view.ty) (k : ℕ) (_acc : Unit) : sProp 𝕄L :=
  iprop((arg0.view.loc (c : Thread nD τ) ↦[arg0.view.set]{fullShare} X0) ∗ (arg1.view.loc (c : Thread nD τ) ↦[arg1.view.set]{fullShare} X1)
    ∗ (arg2.view.loc (c : Thread nD τ) ↦[arg2.view.set]{fullShare} X2) ∗ (arg3.view.loc (c : Thread nD τ) ↦[arg3.view.set]{fullShare} X3)
    ∗ (∃ f, (arg5.view.loc (c : Thread nD τ) ↦[arg5.view.set]{fullShare} f) ∗ ⌜f = c5 (arg0.view.read (Elt F) X0) (arg1.view.read (Elt F) X1) (arg2.view.read (Elt F) X2) (arg3.view.read (Elt F) X3) (arg7.view.read (Elt F) G7) arg5 harg5 G5 k⌝)
    ∗ (∃ f, (arg6.view.loc (c : Thread nD τ) ↦[arg6.view.set]{fullShare} f) ∗ ⌜f = c6 (arg0.view.read (Elt F) X0) (arg1.view.read (Elt F) X1) (arg2.view.read (Elt F) X2) (arg3.view.read (Elt F) X3) (arg7.view.read (Elt F) G7) arg6 harg6 G6 k⌝)
    ∗ (∃ f, (arg7.view.loc (c : Thread nD τ) ↦[arg7.view.set]{fullShare} f) ∗ ⌜f = c7 (arg0.view.read (Elt F) X0) (arg1.view.read (Elt F) X1) (arg2.view.read (Elt F) X2) (arg3.view.read (Elt F) X3) arg7 harg7 G7 k⌝))

set_option warn.classDefReducibility false in
set_option maxHeartbeats 4000000 in
/-- The loop by that invariant. -/
@[sl_loop] def nmsLoop (𝒱 : Variants) (c : Dev nD) (bd : Option 𝒱.V) (E : Set ℕ) (arg0 : Memref sig .tc .vmem S4x2048 .f32) (harg0 : arg0.IsWhole) (arg1 : Memref sig .tc .vmem S4x2048 .f32) (harg1 : arg1.IsWhole) (arg2 : Memref sig .tc .vmem S4x2048 .f32) (harg2 : arg2.IsWhole) (arg3 : Memref sig .tc .vmem S4x2048 .f32) (harg3 : arg3.IsWhole) (arg4 : Memref sig .tc .vmem S4x2048 .f32) (harg4 : arg4.IsWhole) (arg5 : Memref sig .tc .vmem S300x4x4 .f32) (harg5 : arg5.IsWhole) (arg6 : Memref sig .tc .vmem S4x1 .f32) (harg6 : arg6.IsWhole) (arg7 : Memref sig .tc .vmem S4x2048 .f32) (harg7 : arg7.IsWhole)
    (X0 : BufTy.Contents (Elt F) arg0.view.ty) (X1 : BufTy.Contents (Elt F) arg1.view.ty) (X2 : BufTy.Contents (Elt F) arg2.view.ty) (X3 : BufTy.Contents (Elt F) arg3.view.ty)
    (G5 : BufTy.Contents (Elt F) arg5.view.ty) (G6 : BufTy.Contents (Elt F) arg6.view.ty) (G7 : BufTy.Contents (Elt F) arg7.view.ty) :
    Gen.LoopInvTy_k0_t1 (F := F) Unit ℕ (UR sig nD τ) ℕ 𝒱 c bd E arg0 harg0 arg1 harg1 arg2 harg2 arg3 harg3 arg4 harg4 arg5 harg5 arg6 harg6 arg7 harg7 (iota .tc S4x2048 32 [1] iota_S4x2048_d1_w32) where
  inv := nmsInv (F := F) c arg0 harg0 arg1 harg1 arg2 harg2 arg3 harg3 arg4 harg4 arg5 harg5 arg6 harg6 arg7 harg7 X0 X1 X2 X3 G5 G6 G7
  step k acc := by
    have hk : k.val < 300 := Nat.lt_of_lt_of_le k.isLt k0_t1_abs.2.1
    unfold k0_t1_body
    iintro ⟨H0, H1, H2, H3, ⟨%f5, H5, %h5⟩, ⟨%f6, H6, %h6⟩, ⟨%f7, H7, %h7⟩⟩
    sl_exec
    sl_step
    have r7 := c7_read (arg0.view.read (Elt F) X0) (arg1.view.read (Elt F) X1) (arg2.view.read (Elt F) X2) (arg3.view.read (Elt F) X3) arg7 harg7 G7 k.val
    have r6 := c6_read (arg0.view.read (Elt F) X0) (arg1.view.read (Elt F) X1) (arg2.view.read (Elt F) X2) (arg3.view.read (Elt F) X3) (arg7.view.read (Elt F) G7) arg6 harg6 G6 k.val
    have r5 := c5_read (arg0.view.read (Elt F) X0) (arg1.view.read (Elt F) X1) (arg2.view.read (Elt F) X2) (arg3.view.read (Elt F) X3) (arg7.view.read (Elt F) G7) arg5 harg5 G5 k.val
    rw [← h7] at r7
    rw [← h6] at r6
    rw [← h5] at r5
    isplitl [H0]; · iexact H0
    isplitl [H1]; · iexact H1
    isplitl [H2]; · iexact H2
    isplitl [H3]; · iexact H3
    isplitl [H5]
    · iexists _; isplitl [H5]; · iexact H5
      ipureintro
      refine harg5.eq_unread ?_
      rw [View.read_writes_cons_put (off' := ![k.val, 0, 0]) _ _ _ _ _ (k0_off1_eq k), View.writes_nil, r5]
      unfold nmsLoop.sl.r_1 nmsLoop.sl.r_10 nmsLoop.sl.r_6 nmsLoop.sl.r_7 nmsLoop.sl.r_8 nmsLoop.sl.r_9
      rw [rd2 arg7.view f7, rd2 arg0.view X0, rd2 arg1.view X1, rd2 arg2.view X2, rd2 arg3.view X3, r7]
      rfl
    isplitl [H6]
    · iexists _; isplitl [H6]; · iexact H6
      ipureintro
      refine harg6.eq_unread ?_
      rw [View.read_writes_full]
      unfold nmsLoop.sl.r_1
      rw [rd2 arg7.view f7, rd1 arg6.view f6, r6, r7]
      rfl
    iexists _; isplitl [H7]; · iexact H7
    ipureintro
    refine harg7.eq_unread ?_
    rw [View.read_writes_full]
    unfold nmsLoop.sl.r_11 nmsLoop.sl.r_12 nmsLoop.sl.cst_43 nmsLoop.sl.r nmsLoop.sl.r_2 nmsLoop.sl.r_3 nmsLoop.sl.r_4 nmsLoop.sl.r_5 nmsLoop.sl.r_6 nmsLoop.sl.r_7 nmsLoop.sl.r_8 nmsLoop.sl.r_9
    rw [rd2 arg7.view f7, rd2 arg0.view X0, rd2 arg1.view X1, rd2 arg2.view X2, rd2 arg3.view X3, r7]
    rfl

end Cert.SuppressIdeal

end
-- ==== Proof.SuppressRun.lean ====
/-
The suppression program's run: the kernel's body as one step from the five input blocks to the rows and the counts,
then the launch around it.
-/
module

public import proofs.«01_k».proof.Proof.Gen.SuppressIdeal.Frame
public import proofs.«01_k».proof.Proof.SuppressLoop
public import Idealize.ShloMosaic.Lib.Claim
public import Idealize.ShloMosaic.Lib.Pointwise

@[expose] public section

set_option maxRecDepth 16384

noncomputable section

namespace Cert.SuppressIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

/-- The rows the kernel leaves: row `r` is what trip `r` writes. -/
def outRows (x0 x1 x2 x3 x4 : Vec F S4x2048 .f32) : Vec F S300x4x4 .f32 := fun y =>
  rowV x0 x1 x2 x3 (stV x0 x1 x2 x3 (k0_pay1 x4) (y 0).val) (ix3 (0 : Fin 1) (y 1) (y 2))

/-- The counts the kernel leaves. -/
def outNum (x0 x1 x2 x3 x4 : Vec F S4x2048 .f32) : Vec F S4x1 .f32 := stN x0 x1 x2 x3 (k0_pay1 x4) k0_pay2 300

/-- A row written by an earlier trip is still there. -/
theorem stR_row (x0 x1 x2 x3 x4 : Vec F S4x2048 .f32) (r : Vec F S300x4x4 .f32) (y : S300x4x4.Idx) :
    ∀ k : ℕ, (y 0).val < k → stR x0 x1 x2 x3 (k0_pay1 x4) r k y = outRows x0 x1 x2 x3 x4 y
  | 0, h => absurd h (Nat.not_lt_zero _)
  | k + 1, h => by
    have h1 : (y 1).val < 4 := (y 1).isLt
    have h2 : (y 2).val < 4 := (y 2).isLt
    show VecWindow.put _ _ _ _ y = _
    unfold VecWindow.put
    by_cases e : (y 0).val = k
    · rw [dif_pos (by
        intro a; fin_cases a
        · exact ⟨e.ge, by show (y 0).val < k + 1; omega⟩
        · exact ⟨Nat.zero_le _, by show (y 1).val < 0 + 4; omega⟩
        · exact ⟨Nat.zero_le _, by show (y 2).val < 0 + 4; omega⟩)]
      unfold outRows
      obtain rfl := e
      refine congrArg _ (funext fun a => Fin.ext ?_)
      rw [Rect.unitLocal_val]
      fin_cases a
      · show (y 0).val - (y 0).val = 0; omega
      · rfl
      · rfl
    · rw [dif_neg (by intro hh; have := hh 0; have h3 : (y 0).val < k + 1 := h; have h4 : k ≤ (y 0).val := this.1; omega)]
      exact stR_row x0 x1 x2 x3 x4 r y k (by omega)

theorem stR_all (x0 x1 x2 x3 x4 : Vec F S4x2048 .f32) (r : Vec F S300x4x4 .f32) :
    stR x0 x1 x2 x3 (k0_pay1 x4) r 300 = outRows x0 x1 x2 x3 x4 :=
  funext fun y => stR_row x0 x1 x2 x3 x4 r y 300 (y 0).isLt

theorem trips_eq : Scf.trips k0_t1_loop.lb k0_t1_loop.ub k0_t1_loop.st = 300 := by decide +kernel

set_option maxHeartbeats 4000000 in
/-- The body, from the five input blocks to the rows and the counts. -/
theorem nmsBody (c : Dev nD) (arg0 : Memref sig .tc .vmem S4x2048 .f32) (harg0 : arg0.IsWhole) (arg1 : Memref sig .tc .vmem S4x2048 .f32) (harg1 : arg1.IsWhole) (arg2 : Memref sig .tc .vmem S4x2048 .f32) (harg2 : arg2.IsWhole) (arg3 : Memref sig .tc .vmem S4x2048 .f32) (harg3 : arg3.IsWhole) (arg4 : Memref sig .tc .vmem S4x2048 .f32) (harg4 : arg4.IsWhole) (arg5 : Memref sig .tc .vmem S300x4x4 .f32) (harg5 : arg5.IsWhole) (arg6 : Memref sig .tc .vmem S4x1 .f32) (harg6 : arg6.IsWhole) (arg7 : Memref sig .tc .vmem S4x2048 .f32) (harg7 : arg7.IsWhole) (x0 x1 x2 x3 x4 : Vec F S4x2048 .f32) (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (outRows x0 x1 x2 x3 x4) ∗ owns (c : Thread nD τ) arg6 fullShare (outNum x0 x1 x2 x3 x4) ∗ (∃ d, owns (c : Thread nD τ) arg7 fullShare d)) -∗ K ⟨⟩))
      ⊢ wp frame (wpE (defs₀ (F := F)) Variants.none c none) E (cc0_rpn_nms arg0 harg0 arg1 harg1 arg2 harg2 arg3 harg3 arg4 harg4 arg5 harg5 arg6 harg6 arg7 harg7) K := by
  simp only [cc0_rpn_nms_eq_skeleton]; unfold cc0_rpn_nms_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    rw [c5_read, hf0, hf1, hf2, hf3]
    rw [rd2 arg4.view f4, hf4, ← View.writes_cons, View.read_writes_full, trips_eq]
    exact stR_all x0 x1 x2 x3 x4 _
  isplitl [H6]
  · iexists _; isplitr; swap; · iexact H6
    ipureintro
    rw [c6_read, hf0, hf1, hf2, hf3]
    rw [rd2 arg4.view f4, hf4, ← View.writes_cons, View.read_writes_full, ← View.writes_cons, View.read_writes_full, trips_eq]
    rfl
  iexists _, _; isplitr; swap; · iexact HS0
  ipureintro; rfl

variable (m : (ℓ : Loc nD τ sig) → Buf (Elt F) ℓ) (ρ : Dev nD → PrngReg)

abbrev ms0_0 (t : Fin cfg0.N) : Memref sig .tc .vmem S4x2048 .f32 := win0_0.stage (cfg0.slots t 0)
abbrev hs0_0 (t : Fin cfg0.N) : (ms0_0 t).IsWhole := hstage0_0 0
abbrev ms0_1 (t : Fin cfg0.N) : Memref sig .tc .vmem S4x2048 .f32 := win0_1.stage (cfg0.slots t 1)
abbrev hs0_1 (t : Fin cfg0.N) : (ms0_1 t).IsWhole := hstage0_1 0
abbrev ms0_2 (t : Fin cfg0.N) : Memref sig .tc .vmem S4x2048 .f32 := win0_2.stage (cfg0.slots t 2)
abbrev hs0_2 (t : Fin cfg0.N) : (ms0_2 t).IsWhole := hstage0_2 0
abbrev ms0_3 (t : Fin cfg0.N) : Memref sig .tc .vmem S4x2048 .f32 := win0_3.stage (cfg0.slots t 3)
abbrev hs0_3 (t : Fin cfg0.N) : (ms0_3 t).IsWhole := hstage0_3 0
abbrev ms0_4 (t : Fin cfg0.N) : Memref sig .tc .vmem S4x2048 .f32 := win0_4.stage (cfg0.slots t 4)
abbrev hs0_4 (t : Fin cfg0.N) : (ms0_4 t).IsWhole := hstage0_4 0
abbrev ms0_5 (t : Fin cfg0.N) : Memref sig .tc .vmem S300x4x4 .f32 := win0_5.stage (cfg0.slots t 5)
abbrev hs0_5 (t : Fin cfg0.N) : (ms0_5 t).IsWhole := hstage0_5 0
abbrev ms0_6 (t : Fin cfg0.N) : Memref sig .tc .vmem S4x1 .f32 := win0_6.stage (cfg0.slots t 6)
abbrev hs0_6 (t : Fin cfg0.N) : (ms0_6 t).IsWhole := hstage0_6 0
/-- The scratch operands: whole scoped buffers of the kernel's own, passed beside the windows. -/
abbrev scM0_0 : Memref sig .tc .vmem S4x2048 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The pipeline's proof data -/

/-- The proof data of the one pipeline on core `c`: the arrays as the region finds them (`V`); after the body at
    point `t` each input's buffer at its block and the outputs' at `the rows and the counts`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outRows (iblk m c 0 t) (iblk m c 1 t) (iblk m c 2 t) (iblk m c 3 t) (iblk m c 4 t)
    | ⟨6, _⟩ => outNum (iblk m c 0 t) (iblk m c 1 t) (iblk m c 2 t) (iblk m c 3 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outRows (iblk m c 0 t) (iblk m c 1 t) (iblk m c 2 t) (iblk m c 3 t) (iblk m c 4 t) := by dsimp only [dats]
theorem after0_6 (c : Dev nD) (t : Fin cfg0.N) : (dats m 0 c).after 6 t = outNum (iblk m c 0 t) (iblk m c 1 t) (iblk m c 2 t) (iblk m c 3 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply (nmsBody c _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, H5, H6, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The whole run: what the arrays hold at the end, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.SuppressIdeal

end
-- ==== Proof.SuppressPick.lean ====
/-
The kernel's choice of the best box left over, read off one image's marks: the marks are ones on the boxes still
in the running and zeros elsewhere, and the lane the kernel chooses is the first marked one (lane zero if none is).
-/
module

public import proofs.«01_k».proof.Proof.SuppressLoop
public import Idealize.ShloMosaic.Lib.Pointwise
public import Idealize.ShloMosaic.PureOps.Ideal.Laws
public import Idealize.ShloMosaic.Lib.Tactic.WordOmega

@[expose] public section

set_option maxRecDepth 8192

noncomputable section

namespace Cert.SuppressIdeal

open Idealize.ShloMosaic
open Gen

/-- The vector holds a one on every lane of the set and a zero on every other. -/
def Marks (v : Vec Ideal S4x2048 .f32) (A : Fin 4 → ℕ → Prop) : Prop :=
  ∀ (b : Fin 4) (i : Fin 2048), (A b i.val → v (ix2 b i) = (1 : EReal)) ∧ (¬ A b i.val → v (ix2 b i) = (0 : EReal))

/-- The lane is the first one of the set. -/
def First (P : ℕ → Prop) (p : ℕ) : Prop := P p ∧ ∀ i < p, ¬ P i

/-- The lane a trip chooses: the first one of the set, or lane zero if the set is empty. -/
def Pick (P : ℕ → Prop) (p : ℕ) : Prop := First P p ∨ (p = 0 ∧ ∀ i, ¬ P i)

theorem exists_pick (P : ℕ → Prop) (n : ℕ) (hn : 0 < n) (hP : ∀ i, P i → i < n) : ∃ p, p < n ∧ Pick P p := by
  classical
  by_cases h : ∃ i, P i
  · exact ⟨Nat.find h, hP _ (Nat.find_spec h), .inl ⟨Nat.find_spec h, fun i hi => Nat.find_min h hi⟩⟩
  · exact ⟨0, hn, .inr ⟨rfl, fun i hi => h ⟨i, hi⟩⟩⟩

theorem toInt_minsi (x y : BitVec 32) : (IntOp.minsi x y).toInt = min x.toInt y.toInt := by
  unfold IntOp.minsi
  by_cases h : x.slt y
  · rw [if_pos h]; rw [BitVec.slt_iff_toInt_lt] at h; omega
  · rw [if_neg h]; rw [BitVec.slt_iff_toInt_lt] at h; omega

/-- The smallest of a family of words, where one of them is known to be the smallest. -/
theorem fold_minsi {n : ℕ} (b : BitVec 32) (f : Fin n → BitVec 32) (p : Fin n) (hb : (f p).toInt ≤ b.toInt)
    (hf : ∀ i, (f p).toInt ≤ (f i).toInt) : (Finset.univ : Finset (Fin n)).fold IntOp.minsi b f = f p := by
  apply BitVec.eq_of_toInt_eq
  apply le_antisymm
  · refine (Finset.fold_op_rel_iff_or (op := IntOp.minsi) (r := fun x y : BitVec 32 => y.toInt ≤ x.toInt) ?_ (c := f p)).2
      (.inr ⟨p, Finset.mem_univ _, le_rfl⟩)
    intro x y z
    show (IntOp.minsi y z).toInt ≤ x.toInt ↔ _
    rw [toInt_minsi]; exact min_le_iff
  · refine (Finset.fold_op_rel_iff_and (op := IntOp.minsi) (r := fun x y : BitVec 32 => x.toInt ≤ y.toInt) ?_ (c := f p)).2
      ⟨hb, fun i _ => hf i⟩
    intro x y z
    show x.toInt ≤ (IntOp.minsi y z).toInt ↔ _
    rw [toInt_minsi]; exact le_min_iff

theorem toInt_nat (n : ℕ) (h : n < 4096) : (BitVec.ofNat 32 n).toInt = n := by
  rw [BitVec.toInt_eq_toNat_cond, BitVec.toNat_ofNat]; omega

/-- The first marked position of a family of positions whose unmarked ones are all set to a number past the end. -/
theorem fold_first {n : ℕ} (N : ℕ) (hN : n ≤ N) (hN' : N < 4096) (Q : Fin n → Prop) [DecidablePred Q] (p : Fin n) (hp : Q p)
    (hq : ∀ i, i.val < p.val → ¬ Q i) :
    (Finset.univ : Finset (Fin n)).fold IntOp.minsi 2147483647#32 (fun i => if Q i then BitVec.ofNat 32 i.val else BitVec.ofNat 32 N)
      = BitVec.ofNat 32 p.val := by
  have hpn := p.isLt
  have e : (if Q p then BitVec.ofNat 32 p.val else BitVec.ofNat 32 N) = BitVec.ofNat 32 p.val := if_pos hp
  rw [fold_minsi _ _ p, e]
  · rw [e, toInt_nat _ (by omega)]
    show (p.val : ℤ) ≤ 2147483647
    omega
  · intro i
    have hi := i.isLt
    rw [e, toInt_nat _ (by omega)]
    by_cases h : Q i
    · rw [if_pos h, toInt_nat _ (by omega)]
      have : ¬ i.val < p.val := fun hh => hq i hh h
      omega
    · rw [if_neg h, toInt_nat _ (by omega)]; omega

theorem pay8_at (v : Vec Ideal S4x2048 .f32) (b : Fin 4) (i : Fin 2048) :
    k0_pay8 (F := Ideal) (k0_pay3 (F := Ideal)) v (ix2 b i)
      = if (0 : EReal) < v (ix2 b i) then (((2048 - i.val : ℤ) : ℝ) : EReal) else 0 := by
  pointwise [k0_pay8, k0_pay3]
  have hi := i.isLt
  have e : (IntOp.subi (2048#32) (BitVec.ofNat 32 i.val)).toInt = 2048 - (i.val : ℤ) := by
    have e1 : IntOp.subi (2048#32) (BitVec.ofNat 32 i.val) = BitVec.ofNat 32 (2048 - i.val) := by
      apply BitVec.eq_of_toNat_eq
      show (2048#32 - BitVec.ofNat 32 i.val).toNat = _
      rw [BitVec.toNat_sub, BitVec.toNat_ofNat, BitVec.toNat_ofNat, BitVec.toNat_ofNat]
      omega
    rw [e1, toInt_nat _ (by omega)]; omega
  show (if (0 : EReal) < v (ix2 b i) then (((IntOp.subi (2048#32) (BitVec.ofNat 32 i.val)).toInt : ℝ) : EReal) else 0) = _
  rw [e]

theorem pay9_at (v : Vec Ideal S4x2048 .f32) (b : Fin 4) :
    k0_pay9 (F := Ideal) (k0_pay3 (F := Ideal)) v (ix2 b (0 : Fin 1))
      = (Finset.univ : Finset (Fin 2048)).fold max ⊥ (fun i => k0_pay8 (F := Ideal) (k0_pay3 (F := Ideal)) v (ix2 b i)) := by
  pointwise [k0_pay9]
  have e : Ideal.ofBits FTy.f32 4286578688#32 = ⊥ := by simp [Ideal.ofBits, Ideal.ieee]
  rw [e]

section
variable {v : Vec Ideal S4x2048 .f32} {A : Fin 4 → ℕ → Prop} (hv : Marks v A) (b : Fin 4)
include hv

theorem pay8_pos (i : Fin 2048) (h : A b i.val) :
    k0_pay8 (F := Ideal) (k0_pay3 (F := Ideal)) v (ix2 b i) = (((2048 - i.val : ℤ) : ℝ) : EReal) := by
  rw [pay8_at, (hv b i).1 h, if_pos zero_lt_one]

theorem pay8_neg (i : Fin 2048) (h : ¬ A b i.val) : k0_pay8 (F := Ideal) (k0_pay3 (F := Ideal)) v (ix2 b i) = (0 : EReal) := by
  rw [pay8_at, (hv b i).2 h, if_neg (lt_irrefl _)]

theorem pay9_first (p : Fin 2048) (h : First (A b) p.val) :
    k0_pay9 (F := Ideal) (k0_pay3 (F := Ideal)) v (ix2 b (0 : Fin 1)) = (((2048 - p.val : ℤ) : ℝ) : EReal) := by
  rw [pay9_at]
  apply le_antisymm
  · refine Finset.fold_max_le _ |>.2 ⟨bot_le, fun i _ => ?_⟩
    by_cases hi : A b i.val
    · rw [pay8_pos hv b i hi]
      have : ¬ i.val < p.val := fun hh => h.2 _ hh hi
      rw [EReal.coe_le_coe_iff, Int.cast_le]; omega
    · rw [pay8_neg hv b i hi, ← EReal.coe_zero, EReal.coe_le_coe_iff]
      have := p.isLt
      exact_mod_cast (by omega : (0 : ℤ) ≤ 2048 - p.val)
  · exact Finset.le_fold_max _ |>.2 (.inr ⟨p, Finset.mem_univ _, (pay8_pos hv b p h.1).ge⟩)

theorem pay9_none (h : ∀ i, ¬ A b i) :
    k0_pay9 (F := Ideal) (k0_pay3 (F := Ideal)) v (ix2 b (0 : Fin 1)) = (0 : EReal) := by
  rw [pay9_at]
  apply le_antisymm
  · exact Finset.fold_max_le _ |>.2 ⟨bot_le, fun i _ => (pay8_neg hv b i (h _)).le⟩
  · exact Finset.le_fold_max _ |>.2 (.inr ⟨0, Finset.mem_univ _, (pay8_neg hv b 0 (h _)).ge⟩)

theorem pay10_first (p : Fin 2048) (h : First (A b) p.val) :
    k0_pay10 (F := Ideal) (k0_pay3 (F := Ideal)) v (ix2 b (0 : Fin 1)) = 1#1 := by
  pointwise [k0_pay10]
  have := p.isLt
  rw [pay9_first hv b p h]
  refine (congrArg BitVec.ofBool (decide_eq_true ?_)).trans rfl
  rw [← EReal.coe_zero, EReal.coe_lt_coe_iff]
  exact_mod_cast (by omega : (0 : ℤ) < 2048 - p.val)

theorem pay10_none (h : ∀ i, ¬ A b i) :
    k0_pay10 (F := Ideal) (k0_pay3 (F := Ideal)) v (ix2 b (0 : Fin 1)) = 0#1 := by
  pointwise [k0_pay10]
  rw [pay9_none hv b h]
  exact (congrArg BitVec.ofBool (decide_eq_false (lt_irrefl (0 : EReal)))).trans rfl

/-- The kernel's one-hot vector points at the lane chosen. -/
theorem pay11_pick (p : Fin 2048) (h : Pick (A b) p.val) (i : Fin 2048) :
    k0_pay11 (F := Ideal) lanes (k0_pay3 (F := Ideal)) v (ix2 b i) = if i = p then (1 : EReal) else 0 := by
  have hp : k0_pay8 (F := Ideal) (k0_pay3 (F := Ideal)) v (ix2 b p) = k0_pay9 (F := Ideal) (k0_pay3 (F := Ideal)) v (ix2 b (0 : Fin 1)) := by
    rcases h with h | ⟨_, h⟩
    · rw [pay8_pos hv b p h.1, pay9_first hv b p h]
    · rw [pay8_neg hv b p (h _), pay9_none hv b h]
  have hq : ∀ j : Fin 2048, j.val < p.val → ¬ k0_pay8 (F := Ideal) (k0_pay3 (F := Ideal)) v (ix2 b j) = k0_pay9 (F := Ideal) (k0_pay3 (F := Ideal)) v (ix2 b (0 : Fin 1)) := by
    intro j hj
    rcases h with h | ⟨h0, _⟩
    · rw [pay8_neg hv b j (h.2 _ hj), pay9_first hv b p h, ← EReal.coe_zero, EReal.coe_eq_coe_iff]
      have := p.isLt
      exact fun e => absurd (by exact_mod_cast e : (0 : ℤ) = 2048 - p.val) (by omega)
    · omega
  have hf := fold_first 2048 le_rfl (by omega) (fun j : Fin 2048 => k0_pay8 (F := Ideal) (k0_pay3 (F := Ideal)) v (ix2 b j) = k0_pay9 (F := Ideal) (k0_pay3 (F := Ideal)) v (ix2 b (0 : Fin 1))) p hp hq
  pointwise [k0_pay11, lanes]
  refine (congrArg (fun w => Scalar.select (IntOp.cmpi CmpIPredicate.eq (BitVec.ofNat 32 i.val) w) (1 : EReal) 0) (Eq.trans ?_ hf)).trans ?_
  · rfl
  · have hi := i.isLt
    have hp' := p.isLt
    by_cases e : i = p
    · rw [if_pos e, e]
      simp [Scalar.select, IntOp.cmpi]
    · rw [if_neg e]
      have ne : ¬ BitVec.ofNat 32 i.val = BitVec.ofNat 32 p.val := fun hh => e (Fin.ext (by
        have := congrArg BitVec.toNat hh
        rw [BitVec.toNat_ofNat, BitVec.toNat_ofNat] at this; omega))
      have hb : (BitVec.ofNat 32 i.val == BitVec.ofNat 32 p.val) = false := beq_eq_false_iff_ne.mpr ne
      unfold Scalar.select IntOp.cmpi
      simp only [hb]
      rfl

theorem sum_pick (x : Vec Ideal S4x2048 .f32) (p : Fin 2048) (h : Pick (A b) p.val) :
    (∑ i : Fin 2048, (x (ix2 b i) : EReal) * k0_pay11 (F := Ideal) lanes (k0_pay3 (F := Ideal)) v (ix2 b i)) = x (ix2 b p) := by
  rw [Finset.sum_eq_single p]
  · rw [pay11_pick hv b p h, if_pos rfl, mul_one]
  · intro i _ hi
    rw [pay11_pick hv b p h, if_neg hi, mul_zero]
  · exact fun hh => absurd (Finset.mem_univ _) hh

theorem pay16_pick (x : Vec Ideal S4x2048 .f32) (p : Fin 2048) (h : Pick (A b) p.val) :
    k0_pay16 (F := Ideal) lanes (k0_pay3 (F := Ideal)) v x (ix2 b (0 : Fin 1)) = x (ix2 b p) := by
  rw [← sum_pick hv b x p h]
  pointwise [k0_pay16, k0_pay12]

theorem pay17_pick (x : Vec Ideal S4x2048 .f32) (p : Fin 2048) (h : Pick (A b) p.val) :
    k0_pay17 (F := Ideal) lanes (k0_pay3 (F := Ideal)) v x (ix2 b (0 : Fin 1)) = x (ix2 b p) := by
  rw [← sum_pick hv b x p h]
  pointwise [k0_pay17, k0_pay13]

theorem pay18_pick (x : Vec Ideal S4x2048 .f32) (p : Fin 2048) (h : Pick (A b) p.val) :
    k0_pay18 (F := Ideal) lanes (k0_pay3 (F := Ideal)) v x (ix2 b (0 : Fin 1)) = x (ix2 b p) := by
  rw [← sum_pick hv b x p h]
  pointwise [k0_pay18, k0_pay14]

theorem pay20_pick (x : Vec Ideal S4x2048 .f32) (p : Fin 2048) (h : Pick (A b) p.val) :
    k0_pay20 (F := Ideal) (k0_pay19 (F := Ideal) lanes (k0_pay3 (F := Ideal)) v x) (ix2 b (0 : Fin 1)) = x (ix2 b p) := by
  rw [← sum_pick hv b x p h]
  pointwise [k0_pay20, k0_pay19, k0_pay15]

end

end Cert.SuppressIdeal

end
-- ==== Proof.SuppressTrip.lean ====
/-
One trip of the kernel's loop at one image: which boxes stay in the running, the row it writes and the box it counts,
all from the lane chosen.
-/
module

public import proofs.«01_k».proof.Proof.SuppressPick

@[expose] public section

set_option maxRecDepth 8192

noncomputable section

namespace Cert.SuppressIdeal

open Idealize.ShloMosaic
open Gen

/-- The overlap of two boxes: the area they share over the area they cover together. -/
def overlap (a0 a1 a2 a3 c0 c1 c2 c3 : EReal) : EReal :=
  Ideal.div (max 0 (min a2 c2 - max a0 c0 + 1) * max 0 (min a3 c3 - max a1 c1 + 1))
    ((a2 - a0 + 1) * (a3 - a1 + 1) + (c2 - c0 + 1) * (c3 - c1 + 1)
      - max 0 (min a2 c2 - max a0 c0 + 1) * max 0 (min a3 c3 - max a1 c1 + 1))

/-- The overlap allowed between two boxes kept. -/
def allowed : EReal := Ideal.ofBits FTy.f32 1060320051#32

/-- The boxes left in the running after the box `p b` of every image is taken. -/
def Left (x0 x1 x2 x3 : Vec Ideal S4x2048 .f32) (A : Fin 4 → ℕ → Prop) (p : Fin 4 → Fin 2048) (b : Fin 4) (i : ℕ) : Prop :=
  A b i ∧ ∃ h : i < 2048, overlap (x0 (ix2 b ⟨i, h⟩)) (x1 (ix2 b ⟨i, h⟩)) (x2 (ix2 b ⟨i, h⟩)) (x3 (ix2 b ⟨i, h⟩))
    (x0 (ix2 b (p b))) (x1 (ix2 b (p b))) (x2 (ix2 b (p b))) (x3 (ix2 b (p b))) ≤ allowed

section
variable {v : Vec Ideal S4x2048 .f32} {A : Fin 4 → ℕ → Prop} (hv : Marks v A) (b : Fin 4)
variable (x0 x1 x2 x3 : Vec Ideal S4x2048 .f32) (p : Fin 2048) (h : Pick (A b) p.val)
include hv h

theorem nextV_at (i : Fin 2048) : nextV x0 x1 x2 x3 v (ix2 b i)
    = if (0 : EReal) < v (ix2 b i) then
        (if overlap (x0 (ix2 b i)) (x1 (ix2 b i)) (x2 (ix2 b i)) (x3 (ix2 b i)) (x0 (ix2 b p)) (x1 (ix2 b p)) (x2 (ix2 b p)) (x3 (ix2 b p)) ≤ allowed
          then (1 : EReal) else 0) else 0 := by
  pointwise [nextV, k0_pay4, k0_pay21, k0_pay22, k0_pay12, k0_pay13, k0_pay14, k0_pay15]
  rw [pay16_pick hv b x0 p h, pay17_pick hv b x1 p h, pay18_pick hv b x2 p h, pay20_pick hv b x3 p h]
  rfl

theorem row0 (f : EReal) (hf : f = Scalar.select (k0_pay10 (F := Ideal) k0_pay3 v (ix2 b (0 : Fin 1))) (1 : EReal) 0) :
    rowV x0 x1 x2 x3 v (ix3 (0 : Fin 1) b (0 : Fin 4)) = (x0 (ix2 b p) : EReal) * f := by
  rw [hf, ← pay16_pick hv b x0 p h]
  pointwise [rowV, k0_pay6, k0_pay5]

theorem row1 (f : EReal) (hf : f = Scalar.select (k0_pay10 (F := Ideal) k0_pay3 v (ix2 b (0 : Fin 1))) (1 : EReal) 0) :
    rowV x0 x1 x2 x3 v (ix3 (0 : Fin 1) b (1 : Fin 4)) = (x1 (ix2 b p) : EReal) * f := by
  rw [hf, ← pay17_pick hv b x1 p h]
  pointwise [rowV, k0_pay6, k0_pay5]

theorem row2 (f : EReal) (hf : f = Scalar.select (k0_pay10 (F := Ideal) k0_pay3 v (ix2 b (0 : Fin 1))) (1 : EReal) 0) :
    rowV x0 x1 x2 x3 v (ix3 (0 : Fin 1) b (2 : Fin 4)) = (x2 (ix2 b p) : EReal) * f := by
  rw [hf, ← pay18_pick hv b x2 p h]
  pointwise [rowV, k0_pay6, k0_pay5]

theorem row3 (f : EReal) (hf : f = Scalar.select (k0_pay10 (F := Ideal) k0_pay3 v (ix2 b (0 : Fin 1))) (1 : EReal) 0) :
    rowV x0 x1 x2 x3 v (ix3 (0 : Fin 1) b (3 : Fin 4)) = (x3 (ix2 b p) : EReal) * f := by
  rw [hf, ← pay20_pick hv b x3 p h]
  pointwise [rowV, k0_pay6, k0_pay5]

end

theorem pay7_at (v : Vec Ideal S4x2048 .f32) (b : Fin 4) (n : Vec Ideal S4x1 .f32) :
    k0_pay7 (F := Ideal) (k0_pay10 k0_pay3 v) n (ix2 b (0 : Fin 1))
      = (n (ix2 b (0 : Fin 1)) : EReal) + Scalar.select (k0_pay10 (F := Ideal) k0_pay3 v (ix2 b (0 : Fin 1))) (1 : EReal) 0 := by
  pointwise [k0_pay7, k0_pay5]

theorem marks_next {v : Vec Ideal S4x2048 .f32} {A : Fin 4 → ℕ → Prop} (hv : Marks v A) (x0 x1 x2 x3 : Vec Ideal S4x2048 .f32)
    (p : Fin 4 → Fin 2048) (h : ∀ b, Pick (A b) (p b).val) : Marks (nextV x0 x1 x2 x3 v) (Left x0 x1 x2 x3 A p) := by
  intro b i
  constructor
  · rintro ⟨ha, _, ho⟩
    rw [nextV_at hv b x0 x1 x2 x3 (p b) (h b), (hv b i).1 ha, if_pos zero_lt_one, if_pos ho]
  · intro hn
    rw [nextV_at hv b x0 x1 x2 x3 (p b) (h b)]
    by_cases ha : A b i.val
    · rw [(hv b i).1 ha, if_pos zero_lt_one, if_neg (fun ho => hn ⟨ha, i.isLt, ho⟩)]
    · rw [(hv b i).2 ha, if_neg (lt_irrefl _)]

end Cert.SuppressIdeal

end
-- ==== Proof.SuppressGather.lean ====
/-
A row of an array picked per image by an index per image: the gather read at an index.
-/
module

public import Idealize.ShloMosaic.Lib.Pointwise
public import Idealize.ShloMosaic.Lib.ValueIdxCore

@[expose] public section

set_option maxRecDepth 8192

noncomputable section

namespace Cert.SuppressGather

open Idealize.ShloMosaic

/-- Dimension numbers: rows of `[B, N, C]` at the indices `[B, M, 1]`. -/
abbrev rows3 (B N C M : ℕ)
    (wf : GatherDims.WF ⟨3, ![B, N, C]⟩ ⟨3, ![B, M, 1]⟩ ⟨3, ![B, M, C]⟩ [2] [1] [0] [1] [0] 2 ![1, 1, C]) :
    GatherDims ⟨3, ![B, N, C]⟩ ⟨3, ![B, M, 1]⟩ ⟨3, ![B, M, C]⟩ where
  offsetDims := [2]
  collapsedSliceDims := [1]
  operandBatchingDims := [0]
  startIndicesBatchingDims := [0]
  startIndexMap := [1]
  indexVectorDim := 2
  sliceSizes := ![1, 1, C]
  wf := wf

/-- Dimension numbers: elements of `[B, N]` at the indices `[B, M, 1]`. -/
abbrev rows2 (B N M : ℕ)
    (wf : GatherDims.WF ⟨2, ![B, N]⟩ ⟨3, ![B, M, 1]⟩ ⟨2, ![B, M]⟩ [] [1] [0] [1] [0] 2 ![1, 1]) :
    GatherDims ⟨2, ![B, N]⟩ ⟨3, ![B, M, 1]⟩ ⟨2, ![B, M]⟩ where
  offsetDims := []
  collapsedSliceDims := [1]
  operandBatchingDims := [0]
  startIndicesBatchingDims := [0]
  startIndexMap := [1]
  indexVectorDim := 2
  sliceSizes := ![1, 1]
  wf := wf

theorem rows3_at {α : Type} {B N C M : ℕ} (hN : 0 < N)
    (wf : GatherDims.WF ⟨3, ![B, N, C]⟩ ⟨3, ![B, M, 1]⟩ ⟨3, ![B, M, C]⟩ [2] [1] [0] [1] [0] 2 ![1, 1, C])
    (x : (⟨3, ![B, N, C]⟩ : Shape).Idx → α) (idx : IVec ⟨3, ![B, M, 1]⟩ 32) (b : Fin B) (q : Fin M) (i : Fin C) :
    Host.gather (rows3 B N C M wf) x idx (ix3 b q i)
      = x (ix3 b ⟨min (idx (ix3 b q (0 : Fin 1))).toInt.toNat (N - 1), by omega⟩ i) := by
  unfold Host.gather
  congr 1
  funext a
  refine Fin.ext ?_
  show (rows3 B N C M wf).start (ix3 b q i) idx a + (rows3 B N C M wf).batchCoord (ix3 b q i) a
      + (rows3 B N C M wf).offCoord (ix3 b q i) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 3) ∈ (rows3 B N C M wf).operandBatchingDims from List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rows3 B N C M wf).startIndexMap from List.mem_singleton.mpr rfl)]
    have hsi : (rows3 B N C M wf).siIdx (ix3 b q i) ⟨List.idxOf (1 : Fin 3) (rows3 B N C M wf).startIndexMap,
        List.idxOf_lt_length_iff.2 (List.mem_singleton.mpr rfl)⟩ = ix3 b q (0 : Fin 1) := by
      funext d; refine Fin.ext ?_
      match d with
      | ⟨0, _⟩ => rfl
      | ⟨1, _⟩ => rfl
      | ⟨2, _⟩ => rfl
    rw [hsi]
    rfl
  · rw [GatherDims.batchCoord_eq_zero _ _ _ (fun h => by simp at h)]
    unfold GatherDims.start GatherDims.offCoord
    rw [dif_neg (fun h => by simp at h), dif_pos ((GatherDims.mem_sKept _ _).mpr ⟨fun h => by simp at h, fun h => by simp at h⟩)]
    simp only [Nat.add_zero, Nat.zero_add]
    rfl

theorem rows2_at {α : Type} {B N M : ℕ} (hN : 0 < N)
    (wf : GatherDims.WF ⟨2, ![B, N]⟩ ⟨3, ![B, M, 1]⟩ ⟨2, ![B, M]⟩ [] [1] [0] [1] [0] 2 ![1, 1])
    (x : (⟨2, ![B, N]⟩ : Shape).Idx → α) (idx : IVec ⟨3, ![B, M, 1]⟩ 32) (b : Fin B) (q : Fin M) :
    Host.gather (rows2 B N M wf) x idx (ix2 b q)
      = x (ix2 b ⟨min (idx (ix3 b q (0 : Fin 1))).toInt.toNat (N - 1), by omega⟩) := by
  unfold Host.gather
  congr 1
  funext a
  refine Fin.ext ?_
  show (rows2 B N M wf).start (ix2 b q) idx a + (rows2 B N M wf).batchCoord (ix2 b q) a
      + (rows2 B N M wf).offCoord (ix2 b q) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ (rows2 B N M wf).operandBatchingDims from List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rows2 B N M wf).startIndexMap from List.mem_singleton.mpr rfl)]
    have hsi : (rows2 B N M wf).siIdx (ix2 b q) ⟨List.idxOf (1 : Fin 2) (rows2 B N M wf).startIndexMap,
        List.idxOf_lt_length_iff.2 (List.mem_singleton.mpr rfl)⟩ = ix3 b q (0 : Fin 1) := by
      funext d; refine Fin.ext ?_
      match d with
      | ⟨0, _⟩ => rfl
      | ⟨1, _⟩ => rfl
      | ⟨2, _⟩ => rfl
    rw [hsi]
    rfl

end Cert.SuppressGather

end
-- ==== Proof.SuppressRefTrip.lean ====
/-
One trip of the reference's loop at one image: the box chosen, the boxes that stay in the running, the row written
and the flag set.
-/
module

public import proofs.«01_k».proof.Proof.SuppressPick
public import proofs.«01_k».proof.Proof.SuppressGather
public import proofs.«01_k».proof.Proof.Gen.SuppressSpecIdeal.Run
public import Idealize.ShloMosaic.Lib.WordCmp
public import Idealize.ShloMosaic.Lib.WordCmp

@[expose] public section

set_option maxRecDepth 8192

noncomputable section

namespace Cert.SuppressSpecIdeal.Value

open Idealize.ShloMosaic Idealize.SL.Sem
open Gen
open Cert.SuppressIdeal (First Pick fold_first toInt_nat)

/-- Whether an image has a box left. -/
def anyF (bits : IVec S4x2000 1) : IVec S4 1 := Host.reduce IntOp.ori bits (constantI S_ 1 0#1) reducesTo_S4x2000_S4_d1 h_S_

/-- The number of the first box left. -/
def minF (bits : IVec S4x2000 1) (io : IVec S2000 32) : IVec S4 32 :=
  Host.reduce IntOp.minsi (select bits (broadcastInDim S4x2000 ![1] bcast_S2000_S4x2000_1 io)
    (broadcastInDim S4x2000 ![] bcast_S_S4x2000 (id (constantI S_ 32 2000#32)))) (constantI S_ 32 2147483647#32) reducesTo_S4x2000_S4_d1 h_S_

/-- The number of the box chosen, one per image. -/
def pickF (bits : IVec S4x2000 1) (io : IVec S2000 32) : IVec S4 32 :=
  select (anyF bits) (minF bits io) (broadcastInDim S4 ![] bcast_S_S4 (id (constantI S_ 32 0#32)))

/-- That number as the start of a gather. -/
def startF (pk : IVec S4 32) : IVec S4x1x1 32 :=
  select (cmpi .slt (broadcastInDim S4x1x1 ![0] bcast_S4_S4x1x1_0 pk) (broadcastInDim S4x1x1 ![] bcast_S_S4x1x1 (constantI S_ 32 0#32)))
    (addi (broadcastInDim S4x1x1 ![0] bcast_S4_S4x1x1_0 pk) (broadcastInDim S4x1x1 ![] bcast_S_S4x1x1 (constantI S_ 32 2000#32)))
    (broadcastInDim S4x1x1 ![0] bcast_S4_S4x1x1_0 pk)

theorem red1 : S4x2000.Reduces [1] S4 := by decide

theorem lift_at (b : Fin 4) (i : Fin 2000) : red1.lift (ix1 b) i = ix2 b i := by
  funext a
  match a with
  | ⟨0, _⟩ => rfl
  | ⟨1, _⟩ => rfl

theorem any_fold (bits : IVec S4x2000 1) (b : Fin 4) :
    anyF bits (ix1 b) = (Finset.univ : Finset (Fin 2000)).fold IntOp.ori 0#1 (fun i => bits (ix2 b i)) := by
  refine (Host.reduce_eq_fold_single (a := 1) IntOp.ori bits _ reducesTo_S4x2000_S4_d1 red1 h_S_ (ix1 b)).trans ?_
  refine congrArg (fun f => (Finset.univ : Finset (Fin 2000)).fold IntOp.ori 0#1 f) (funext fun i => ?_)
  exact congrArg bits (lift_at b i)

theorem ori_one (x y : BitVec 1) : IntOp.ori x y = 1#1 ↔ x = 1#1 ∨ y = 1#1 := by
  revert x y; decide

theorem fold_ori {n : ℕ} (f : Fin n → BitVec 1) :
    (Finset.univ : Finset (Fin n)).fold IntOp.ori 0#1 f = 1#1 ↔ ∃ i, f i = 1#1 := by
  refine (Finset.fold_op_rel_iff_or (op := IntOp.ori) (r := fun _ y : BitVec 1 => y = 1#1) (c := 1#1)
    (fun {x y z} => ori_one y z)).trans ?_
  simp

theorem ne_one (x : BitVec 1) (h : x ≠ 1#1) : x = 0#1 := by
  revert x; decide

theorem any_pos (bits : IVec S4x2000 1) (b : Fin 4) (i : Fin 2000) (h : bits (ix2 b i) = 1#1) : anyF bits (ix1 b) = 1#1 := by
  rw [any_fold, fold_ori]; exact ⟨i, h⟩

theorem any_neg (bits : IVec S4x2000 1) (b : Fin 4) (h : ∀ i : Fin 2000, bits (ix2 b i) ≠ 1#1) : anyF bits (ix1 b) = 0#1 := by
  refine ne_one _ fun e => ?_
  rw [any_fold, fold_ori] at e
  exact e.elim h

theorem minF_at (bits : IVec S4x2000 1) (b : Fin 4) (p : Fin 2000) (hp : bits (ix2 b p) = 1#1)
    (hq : ∀ i : Fin 2000, i.val < p.val → bits (ix2 b i) ≠ 1#1) :
    minF bits (iotaInDim S2000 32 0) (ix1 b) = BitVec.ofNat 32 p.val := by
  refine (Host.reduce_eq_fold_single (a := 1) IntOp.minsi _ _ reducesTo_S4x2000_S4_d1 red1 h_S_ (ix1 b)).trans ?_
  refine Eq.trans ?_ (fold_first 2000 le_rfl (by omega) (fun i : Fin 2000 => bits (ix2 b i) = 1#1) p hp hq)
  refine congrArg (fun f => (Finset.univ : Finset (Fin 2000)).fold IntOp.minsi 2147483647#32 f) (funext fun i => ?_)
  refine (congrArg (select bits (broadcastInDim S4x2000 ![1] bcast_S2000_S4x2000_1 (iotaInDim S2000 32 0))
    (broadcastInDim S4x2000 ![] bcast_S_S4x2000 (id (constantI S_ 32 2000#32)))) (lift_at b i)).trans ?_
  pointwise []
  rfl

/-- The marks of an image as a set of numbers. -/
def Bits (bits : IVec S4x2000 1) (b : Fin 4) (i : ℕ) : Prop := ∃ h : i < 2000, bits (ix2 b ⟨i, h⟩) = 1#1

theorem any_eq (bits : IVec S4x2000 1) (b : Fin 4) (p : ℕ) (h : Pick (Bits bits b) p) :
    (anyF bits (ix1 b) = 1#1 ∧ First (Bits bits b) p) ∨ (anyF bits (ix1 b) = 0#1 ∧ ∀ i, ¬ Bits bits b i) := by
  rcases h with h | ⟨_, h⟩
  · obtain ⟨hp, e⟩ := h.1
    exact .inl ⟨any_pos bits b _ e, h⟩
  · exact .inr ⟨any_neg bits b fun i e => h i.val ⟨i.isLt, e⟩, h⟩

theorem pickF_at (bits : IVec S4x2000 1) (b : Fin 4) (p : Fin 2000) (h : Pick (Bits bits b) p.val) :
    pickF bits (iotaInDim S2000 32 0) (ix1 b) = BitVec.ofNat 32 p.val := by
  rcases h with h | ⟨h0, h⟩
  · obtain ⟨hp, e⟩ := h.1
    show Scalar.select (anyF bits (ix1 b)) (minF bits _ (ix1 b)) 0#32 = _
    rw [any_pos bits b p e, minF_at bits b p e fun i hi e' => h.2 i.val hi ⟨i.isLt, e'⟩]
    rfl
  · show Scalar.select (anyF bits (ix1 b)) (minF bits _ (ix1 b)) 0#32 = _
    rw [any_neg bits b fun i e => h i.val ⟨i.isLt, e⟩, h0]
    rfl

theorem startF_at (pk : IVec S4 32) (b : Fin 4) (p : Fin 2000) (h : pk (ix1 b) = BitVec.ofNat 32 p.val) :
    startF pk (ix3 b (0 : Fin 1) (0 : Fin 1)) = BitVec.ofNat 32 p.val := by
  pointwise [startF]
  rw [h]
  have hp := p.isLt
  have e : IntOp.cmpi CmpIPredicate.slt (BitVec.ofNat 32 p.val) 0#32 = 0#1 := by
    unfold IntOp.cmpi
    have : (BitVec.ofNat 32 p.val).slt 0#32 = false := by
      rw [Bool.eq_false_iff, Ne, BitVec.slt_iff_toInt_lt, toInt_nat _ (by omega)]
      show ¬ ((p.val : ℤ) < 0)
      omega
    simp only [this]
    rfl
  rw [e]
  rfl

theorem start_min (pk : IVec S4 32) (b : Fin 4) (p : Fin 2000) (h : pk (ix1 b) = BitVec.ofNat 32 p.val) :
    min (startF pk (ix3 b (0 : Fin 1) (0 : Fin 1))).toInt.toNat (2000 - 1) = p.val := by
  have hp := p.isLt
  rw [startF_at pk b p h, toInt_nat _ (by omega)]
  omega

theorem iou_row (pk : IVec S4 32) (iou : FVec Ideal S4x2000x2000 .f32) (b : Fin 4) (p : Fin 2000) (h : pk (ix1 b) = BitVec.ofNat 32 p.val)
    (i : Fin 2000) : Host.gather gather_S4x2000x2000_S4x1x1_S4x1x2000_2_1_0_0_1_2_112000 iou (startF pk) (ix3 b (0 : Fin 1) i) = iou (ix3 b p i) := by
  refine (SuppressGather.rows3_at (by omega) gather_S4x2000x2000_S4x1x1_S4x1x2000_2_1_0_0_1_2_112000.wf iou (startF pk) b 0 i).trans ?_
  exact congrArg (fun q => iou (ix3 b q i)) (Fin.ext (start_min pk b p h))

theorem box_row (pk : IVec S4 32) (boxes : FVec Ideal S4x2000x4 .f32) (b : Fin 4) (p : Fin 2000) (h : pk (ix1 b) = BitVec.ofNat 32 p.val)
    (j : Fin 4) : Host.gather gather_S4x2000x4_S4x1x1_S4x1x4_2_1_0_0_1_2_114 boxes (startF pk) (ix3 b (0 : Fin 1) j) = boxes (ix3 b p j) := by
  refine (SuppressGather.rows3_at (by omega) gather_S4x2000x4_S4x1x1_S4x1x4_2_1_0_0_1_2_114.wf boxes (startF pk) b 0 j).trans ?_
  exact congrArg (fun q => boxes (ix3 b q j)) (Fin.ext (start_min pk b p h))

/-- The marks after a trip. -/
def bitsF (bits : IVec S4x2000 1) (io : IVec S2000 32) (iou : FVec Ideal S4x2000x2000 .f32) : IVec S4x2000 1 :=
  andi bits (cmpf .ole (shapeCast S4x2000 (Host.gather gather_S4x2000x2000_S4x1x1_S4x1x2000_2_1_0_0_1_2_112000 iou (startF (pickF bits io)))
    shapeCasts_S4x1x2000_S4x2000) (broadcastInDim S4x2000 ![] bcast_S_S4x2000 (constant S_ .f32 0x3F333333#32)))

theorem bitsF_eq (V : Valuation τ sig (Elt Ideal)) : step_main_v70_4 V
    = bitsF (V (Proc.devRef .tc main_v70_4)) (V (Proc.devRef .tc main_v70_0)) (V (Proc.devRef .tc main_v70_1)) := rfl

theorem bitsF_at (bits : IVec S4x2000 1) (iou : FVec Ideal S4x2000x2000 .f32) (b : Fin 4) (p : Fin 2000)
    (h : Pick (Bits bits b) p.val) (i : Fin 2000) :
    bitsF bits (iotaInDim S2000 32 0) iou (ix2 b i) = 1#1
      ↔ bits (ix2 b i) = 1#1 ∧ (iou (ix3 b p i) : EReal) ≤ Ideal.ofBits FTy.f32 1060320051#32 := by
  pointwise [bitsF]
  rw [iou_row _ iou b p (pickF_at bits b p h) i]
  generalize bits (ix2 b i) = u
  by_cases hc : (iou (ix3 b p i) : EReal) ≤ Ideal.ofBits FTy.f32 1060320051#32
  · rw [decide_eq_true hc]
    simp only [hc, and_true]
    revert u; decide
  · rw [decide_eq_false hc]
    simp only [hc, and_false]
    revert u; decide

/-- The boxes chosen, a row of zeros where an image has none left. -/
def rowF (bits : IVec S4x2000 1) (io : IVec S2000 32) (boxes : FVec Ideal S4x2000x4 .f32) : FVec Ideal S4x4 .f32 :=
  mulf (shapeCast S4x4 (Host.gather gather_S4x2000x4_S4x1x1_S4x1x4_2_1_0_0_1_2_114 boxes (startF (pickF bits io))) shapeCasts_S4x1x4_S4x4)
    (broadcastInDim S4x4 ![0, 1] bcast_S4x1_S4x4_0_1 (uitofp .f32 (broadcastInDim S4x1 ![0] bcast_S4_S4x1_0 (anyF bits))))

/-- The rows after a trip. -/
def rowsF (rows : FVec Ideal S300x4x4 .f32) (row : FVec Ideal S4x4 .f32) (ctr : IVec S_ 32) : FVec Ideal S300x4x4 .f32 :=
  Host.dynamicUpdateSlice rows (broadcastInDim S1x4x4 ![1, 2] bcast_S4x4_S1x4x4_1_2 row)
    (fun k => (((![ctr, constantI S_ 32 0#32, constantI S_ 32 0#32] : Fin 3 → IVec S_ 32)) k (Shape.Idx.first h_S_)).toInt) updateFits_S300x4x4_S1x4x4

/-- The flags after a trip. -/
def flagsF (flags : IVec S300x4 1) (any : IVec S4 1) (ctr : IVec S_ 32) : IVec S300x4 1 :=
  Host.dynamicUpdateSlice flags (broadcastInDim S1x4 ![1] bcast_S4_S1x4_1 any)
    (fun k => (((![ctr, constantI S_ 32 0#32] : Fin 2 → IVec S_ 32)) k (Shape.Idx.first h_S_)).toInt) updateFits_S300x4_S1x4

theorem rowsF_eq (V : Valuation τ sig (Elt Ideal)) : step_main_v70_5 V
    = rowsF (V (Proc.devRef .tc main_v70_5)) (rowF (V (Proc.devRef .tc main_v70_4)) (V (Proc.devRef .tc main_v70_0)) (V (Proc.devRef .tc main_v70_2)))
      (V (Proc.devRef .tc main_v70_3)) := rfl

theorem flagsF_eq (V : Valuation τ sig (Elt Ideal)) : step_main_v70_6 V
    = flagsF (V (Proc.devRef .tc main_v70_6)) (anyF (V (Proc.devRef .tc main_v70_4))) (V (Proc.devRef .tc main_v70_3)) := rfl

theorem rowF_at (bits : IVec S4x2000 1) (boxes : FVec Ideal S4x2000x4 .f32) (b : Fin 4) (p : Fin 2000)
    (h : Pick (Bits bits b) p.val) (j : Fin 4) :
    rowF bits (iotaInDim S2000 32 0) boxes (ix2 b j)
      = (boxes (ix3 b p j) : EReal) * Scalar.select (anyF bits (ix1 b)) (1 : EReal) 0 := by
  pointwise [rowF]
  rw [box_row _ boxes b p (pickF_at bits b p h) j]
  generalize anyF bits (ix1 b) = u
  generalize (boxes (ix3 b p j) : EReal) = y
  show y * (((u.toNat : ℝ)) : EReal) = _
  by_cases hu : u = 1#1
  · subst hu; simp [Scalar.select]
  · rw [ne_one u hu]; simp [Scalar.select]

theorem rowsF_at (rows : FVec Ideal S300x4x4 .f32) (row : FVec Ideal S4x4 .f32) (ctr : IVec S_ 32) (k : ℕ) (hk : k < 300)
    (hc : ctr = fun _ => BitVec.ofNat 32 k) (r : Fin 300) (b j : Fin 4) :
    rowsF rows row ctr (ix3 r b j) = if r.val = k then row (ix2 b j) else rows (ix3 r b j) := by
  subst hc
  unfold rowsF
  rw [WordCmp.dynamicUpdateSlice_eq_update _ _ _ _ ![k, 0, 0] (by
    refine ⟨rfl, fun a => ?_⟩
    match a with
    | ⟨0, _⟩ => show k + 1 ≤ 300; omega
    | ⟨1, _⟩ => show 0 + 4 ≤ 4; omega
    | ⟨2, _⟩ => show 0 + 4 ≤ 4; omega) (by
    intro a
    match a with
    | ⟨0, _⟩ => exact toInt_nat k (by omega)
    | ⟨1, _⟩ => rfl
    | ⟨2, _⟩ => rfl)]
  pointwise []
  by_cases e : r.val = k
  · rw [if_pos e, dif_pos (by omega)]
  · rw [if_neg e, dif_neg (by omega)]

theorem flagsF_at (flags : IVec S300x4 1) (any : IVec S4 1) (ctr : IVec S_ 32) (k : ℕ) (hk : k < 300)
    (hc : ctr = fun _ => BitVec.ofNat 32 k) (r : Fin 300) (b : Fin 4) :
    flagsF flags any ctr (ix2 r b) = if r.val = k then any (ix1 b) else flags (ix2 r b) := by
  subst hc
  unfold flagsF
  rw [WordCmp.dynamicUpdateSlice_eq_update _ _ _ _ ![k, 0] (by
    refine ⟨rfl, fun a => ?_⟩
    match a with
    | ⟨0, _⟩ => show k + 1 ≤ 300; omega
    | ⟨1, _⟩ => show 0 + 4 ≤ 4; omega) (by
    intro a
    match a with
    | ⟨0, _⟩ => exact toInt_nat k (by omega)
    | ⟨1, _⟩ => rfl)]
  pointwise []
  by_cases e : r.val = k
  · rw [if_pos e, dif_pos (by omega)]
  · rw [if_neg e, dif_neg (by omega)]

end Cert.SuppressSpecIdeal.Value

end
-- ==== Proof.SuppressEntry.lean ====
/- What the scan starts from on either side: the best boxes' corners, read off the arguments. -/
module

public import proofs.«01_k».proof.Proof.SuppressRun
public import proofs.«01_k».proof.Proof.SuppressTrip
public import proofs.«01_k».proof.Proof.SuppressGather
public import proofs.«01_k».proof.Proof.SuppressRefTrip
public import Idealize.ShloMosaic.Lib.StableHlo.RunRead
public import Idealize.ShloMosaic.Lib.StableHlo.ReadAt
public import Idealize.ShloMosaic.Lib.Pointwise
public import Idealize.ShloMosaic.Lib.Tactic.CleanTypes

@[expose] public section

noncomputable section

/-! ## The best boxes, from the arguments -/

namespace Cert.SuppressEntry

open Cert.SuppressIdeal Cert.SuppressIdeal.Gen Idealize.ShloMosaic Idealize.ShloMosaic.TcCoe

/-- One number per box, the anchors of a place side by side. -/
def flat (a : FVec Ideal S4x3840x9 .f32) : FVec Ideal S4x34560 .f32 := fun i => a (ix3 (i 0) ⟨(i 1).val / 9, by have := (i 1).isLt; simp at this; omega⟩ ⟨(i 1).val % 9, by omega⟩)

/-- The best scores, the greatest first, -/
def best (s : FVec Ideal S4x3840x9 .f32) : FVec Ideal S4x2000 .f32 := (Host.topK S4x2000 1 (FloatOps.cmpfTotal .gt) (flat s) sliceFits_S4x34560_S4x2000).1

/-- and the boxes they belong to. -/
def rank (s : FVec Ideal S4x3840x9 .f32) : IVec S4x2000 32 := (Host.topK S4x2000 1 (FloatOps.cmpfTotal .gt) (flat s) sliceFits_S4x34560_S4x2000).2

/-- A position counted from the end when it is negative. -/
def wrap (z : BitVec 32) : BitVec 32 := Scalar.select (IntOp.cmpi .slt z 0#32) (IntOp.addi z 34560#32) z

/-- Whether a position lies among the boxes. -/
def inside (z : BitVec 32) : BitVec 1 := IntOp.andi (IntOp.cmpi .sge z 0#32) (IntOp.cmpi .sle z 34559#32)

/-- The number a position selects. -/
def pickAt (a : FVec Ideal S4x3840x9 .f32) (b : Fin 4) (z : BitVec 32) : EReal :=
  Scalar.select (inside (wrap z)) (flat a (ix2 b ⟨min (wrap z).toInt.toNat (34560 - 1), by omega⟩)) (Ideal.ofBits FTy.f32 2143289344#32)

/-- A coordinate of the `i`-th best box. -/
def coord (s a : FVec Ideal S4x3840x9 .f32) (b : Fin 4) (i : Fin 2000) : EReal := pickAt a b (rank s (ix2 b i))

/-- A value read at its own type is itself. -/
theorem cast_same {α : Type} (h : α = α) (a : α) : cast h a = a := eq_of_heq (cast_heq h a)

/-- A conjunction over one bit is that bit. -/
theorem fold_one (f : Fin 1 → BitVec 1) : (Finset.univ : Finset (Fin 1)).fold IntOp.andi 1#1 f = f 0 := by
  rw [Finset.univ_unique, Finset.fold_singleton]
  show f 0 &&& 1#1 = f 0
  generalize f 0 = x
  revert x; decide

end Cert.SuppressEntry

/-! ## The kernel's side -/

namespace Cert.SuppressIdeal

open Cert.SuppressIdeal.Gen Cert.SuppressEntry Idealize.ShloMosaic Idealize.ShloMosaic.TcCoe

variable (m : (ℓ : Loc nD τ sig) → Buf (Elt Ideal) ℓ) (c : Dev nD)

set_option maxHeartbeats 8000000 in
/-- The first coordinate, zero past the best boxes. -/
theorem host_x0 (b : Fin 4) (i : Fin 2048) :
    V m c main_v3 (ix2 b i) = if h : i.val < 2000 then coord (m ((c.tc : Thread nD τ).loc main_arg4)) (m ((c.tc : Thread nD τ).loc main_arg0)) b ⟨i, h⟩ else 0 := by
  after_reads_simp
  simp only [StableHlo.TRef.toBuf, StableHlo.TRef.ofBuf]
  clean_types
  simp only [cast_same]
  pointwise
  by_cases h : i.val < 2000
  · rw [dif_pos h, dif_pos h]
    refine congr (congr (congrArg Scalar.select ?_) ?_) rfl
    · refine (fold_one _).trans ?_
      rfl
    · refine (Cert.SuppressGather.rows2_at (by norm_num) gather_S4x34560_S4x2000x1_S4x2000_n_1_0_0_1_2_11.wf _ _ b _).trans ?_
      rfl
  · rw [dif_neg h, dif_neg h]
    show (((0#32 : BitVec 32).toInt : ℝ) : EReal) = 0
    simp

set_option maxHeartbeats 8000000 in
/-- The second coordinate, zero past the best boxes. -/
theorem host_x1 (b : Fin 4) (i : Fin 2048) :
    V m c main_v6 (ix2 b i) = if h : i.val < 2000 then coord (m ((c.tc : Thread nD τ).loc main_arg4)) (m ((c.tc : Thread nD τ).loc main_arg1)) b ⟨i, h⟩ else 0 := by
  after_reads_simp
  simp only [StableHlo.TRef.toBuf, StableHlo.TRef.ofBuf]
  clean_types
  simp only [cast_same]
  pointwise
  by_cases h : i.val < 2000
  · rw [dif_pos h, dif_pos h]
    refine congr (congr (congrArg Scalar.select ?_) ?_) rfl
    · refine (fold_one _).trans ?_
      rfl
    · refine (Cert.SuppressGather.rows2_at (by norm_num) gather_S4x34560_S4x2000x1_S4x2000_n_1_0_0_1_2_11.wf _ _ b _).trans ?_
      rfl
  · rw [dif_neg h, dif_neg h]
    show (((0#32 : BitVec 32).toInt : ℝ) : EReal) = 0
    simp

set_option maxHeartbeats 8000000 in
/-- The third coordinate, zero past the best boxes. -/
theorem host_x2 (b : Fin 4) (i : Fin 2048) :
    V m c main_v9 (ix2 b i) = if h : i.val < 2000 then coord (m ((c.tc : Thread nD τ).loc main_arg4)) (m ((c.tc : Thread nD τ).loc main_arg2)) b ⟨i, h⟩ else 0 := by
  after_reads_simp
  simp only [StableHlo.TRef.toBuf, StableHlo.TRef.ofBuf]
  clean_types
  simp only [cast_same]
  pointwise
  by_cases h : i.val < 2000
  · rw [dif_pos h, dif_pos h]
    refine congr (congr (congrArg Scalar.select ?_) ?_) rfl
    · refine (fold_one _).trans ?_
      rfl
    · refine (Cert.SuppressGather.rows2_at (by norm_num) gather_S4x34560_S4x2000x1_S4x2000_n_1_0_0_1_2_11.wf _ _ b _).trans ?_
      rfl
  · rw [dif_neg h, dif_neg h]
    show (((0#32 : BitVec 32).toInt : ℝ) : EReal) = 0
    simp

set_option maxHeartbeats 8000000 in
/-- The fourth coordinate, zero past the best boxes. -/
theorem host_x3 (b : Fin 4) (i : Fin 2048) :
    V m c main_v12 (ix2 b i) = if h : i.val < 2000 then coord (m ((c.tc : Thread nD τ).loc main_arg4)) (m ((c.tc : Thread nD τ).loc main_arg3)) b ⟨i, h⟩ else 0 := by
  after_reads_simp
  simp only [StableHlo.TRef.toBuf, StableHlo.TRef.ofBuf]
  clean_types
  simp only [cast_same]
  pointwise
  by_cases h : i.val < 2000
  · rw [dif_pos h, dif_pos h]
    refine congr (congr (congrArg Scalar.select ?_) ?_) rfl
    · refine (fold_one _).trans ?_
      rfl
    · refine (Cert.SuppressGather.rows2_at (by norm_num) gather_S4x34560_S4x2000x1_S4x2000_n_1_0_0_1_2_11.wf _ _ b _).trans ?_
      rfl
  · rw [dif_neg h, dif_neg h]
    show (((0#32 : BitVec 32).toInt : ℝ) : EReal) = 0
    simp

/-- The score that stands for no box is not one the scan takes. -/
theorem pad_low : Ideal.ofBits FTy.f32 4048155338#32 ≤ Ideal.ofBits FTy.f32 4039766730#32 := by
  simp [Ideal.ofBits, Ideal.ieee]
  exact_mod_cast (by norm_num : (13234890 : ℝ) * 2 ^ 75 ≤ 13234890 * 2 ^ 76)

set_option maxHeartbeats 8000000 in
/-- The scores, a very low one past the best boxes. -/
theorem host_x4 (b : Fin 4) (i : Fin 2048) :
    V m c main_v13 (ix2 b i) = if h : i.val < 2000 then best (m ((c.tc : Thread nD τ).loc main_arg4)) (ix2 b ⟨i, h⟩) else Ideal.ofBits FTy.f32 0xF149F2CA#32 := by
  after_reads_simp
  simp only [StableHlo.TRef.toBuf, StableHlo.TRef.ofBuf]
  clean_types
  simp only [cast_same]
  pointwise
  rfl

/-- A box is in the running at the start when its score is high enough. -/
theorem pay1_at (x : Vec Ideal S4x2048 .f32) (b : Fin 4) (i : Fin 2048) :
    k0_pay1 (F := Ideal) x (ix2 b i) = (if Ideal.ofBits FTy.f32 0xF0C9F2CA#32 < x (ix2 b i) then (1 : EReal) else 0) := by
  pointwise [k0_pay1]

end Cert.SuppressIdeal

/-! ## The reference's side -/

namespace Cert.SuppressSpecIdeal.Value

open Cert.SuppressSpecIdeal Cert.SuppressSpecIdeal.Gen Cert.SuppressEntry Idealize.ShloMosaic Idealize.ShloMosaic.TcCoe Idealize.ShloMosaic.StableHlo

variable (m : (ℓ : Loc nD τ sig) → Buf (Elt Ideal) ℓ) (c : Dev nD)

set_option maxHeartbeats 8000000 in
theorem box0 (b : Fin 4) (i : Fin 2000) :
    entryContents preI m c (Proc.devRef .tc main_v70_2) (ix3 b i (0 : Fin 4)) = coord (m ((c.tc : Thread nD τ).loc main_arg4)) (m ((c.tc : Thread nD τ).loc main_arg0)) b i := by
  simp only [entryContents, afterL_cons, afterL_nil]
  after_reads_simp
  simp only [StableHlo.TRef.toBuf, StableHlo.TRef.ofBuf]
  clean_types
  simp only [cast_same, id_eq]
  pointwise
  refine congr (congr (congrArg Scalar.select ?_) ?_) rfl
  · refine (fold_one _).trans ?_
    rfl
  · refine (Cert.SuppressGather.rows3_at (by norm_num) gather_S4x34560x4_S4x2000x1_S4x2000x4_2_1_0_0_1_2_114.wf _ _ b _ _).trans ?_
    pointwise
    after_reads_simp
    pointwise
    rfl

set_option maxHeartbeats 8000000 in
theorem box1 (b : Fin 4) (i : Fin 2000) :
    entryContents preI m c (Proc.devRef .tc main_v70_2) (ix3 b i (1 : Fin 4)) = coord (m ((c.tc : Thread nD τ).loc main_arg4)) (m ((c.tc : Thread nD τ).loc main_arg1)) b i := by
  simp only [entryContents, afterL_cons, afterL_nil]
  after_reads_simp
  simp only [StableHlo.TRef.toBuf, StableHlo.TRef.ofBuf]
  clean_types
  simp only [cast_same, id_eq]
  pointwise
  refine congr (congr (congrArg Scalar.select ?_) ?_) rfl
  · refine (fold_one _).trans ?_
    rfl
  · refine (Cert.SuppressGather.rows3_at (by norm_num) gather_S4x34560x4_S4x2000x1_S4x2000x4_2_1_0_0_1_2_114.wf _ _ b _ _).trans ?_
    pointwise
    after_reads_simp
    pointwise
    rfl

set_option maxHeartbeats 8000000 in
theorem box2 (b : Fin 4) (i : Fin 2000) :
    entryContents preI m c (Proc.devRef .tc main_v70_2) (ix3 b i (2 : Fin 4)) = coord (m ((c.tc : Thread nD τ).loc main_arg4)) (m ((c.tc : Thread nD τ).loc main_arg2)) b i := by
  simp only [entryContents, afterL_cons, afterL_nil]
  after_reads_simp
  simp only [StableHlo.TRef.toBuf, StableHlo.TRef.ofBuf]
  clean_types
  simp only [cast_same, id_eq]
  pointwise
  refine congr (congr (congrArg Scalar.select ?_) ?_) rfl
  · refine (fold_one _).trans ?_
    rfl
  · refine (Cert.SuppressGather.rows3_at (by norm_num) gather_S4x34560x4_S4x2000x1_S4x2000x4_2_1_0_0_1_2_114.wf _ _ b _ _).trans ?_
    pointwise
    after_reads_simp
    pointwise
    rfl

set_option maxHeartbeats 8000000 in
theorem box3 (b : Fin 4) (i : Fin 2000) :
    entryContents preI m c (Proc.devRef .tc main_v70_2) (ix3 b i (3 : Fin 4)) = coord (m ((c.tc : Thread nD τ).loc main_arg4)) (m ((c.tc : Thread nD τ).loc main_arg3)) b i := by
  simp only [entryContents, afterL_cons, afterL_nil]
  after_reads_simp
  simp only [StableHlo.TRef.toBuf, StableHlo.TRef.ofBuf]
  clean_types
  simp only [cast_same, id_eq]
  pointwise
  refine congr (congr (congrArg Scalar.select ?_) ?_) rfl
  · refine (fold_one _).trans ?_
    rfl
  · refine (Cert.SuppressGather.rows3_at (by norm_num) gather_S4x34560x4_S4x2000x1_S4x2000x4_2_1_0_0_1_2_114.wf _ _ b _ _).trans ?_
    pointwise
    after_reads_simp
    pointwise
    rfl

/-- The places' numbers. -/
theorem entry_iota : entryContents preI m c (Proc.devRef .tc main_v70_0) = iotaInDim S2000 32 0 := by
  simp only [entryContents, afterL_cons, afterL_nil]
  after_reads_simp
  rfl

/-- Which boxes are in the running at the start. -/
theorem entry_bits (b : Fin 4) (i : Fin 2000) :
    entryContents preI m c (Proc.devRef .tc main_v70_4) (ix2 b i)
      = FloatOps.cmpf .ogt (best (m ((c.tc : Thread nD τ).loc main_arg4)) (ix2 b i)) (Ideal.ofBits FTy.f32 0xF0C9F2CA#32) := by
  simp only [entryContents, afterL_cons, afterL_nil]
  after_reads_simp
  clean_types
  simp only [id_eq]
  pointwise
  rfl

/-- One coordinate of all the boxes. -/
def colF (k : Fin 4) (boxes : FVec Ideal S4x2000x4 .f32) : FVec Ideal S4x2000 .f32 := match k with
  | 0 => shapeCast S4x2000 (extractStridedSlice S4x2000x1 ![0, 0, 0] boxes slices_S4x2000x4_S4x2000x1_0_0_0) shapeCasts_S4x2000x1_S4x2000
  | 1 => shapeCast S4x2000 (extractStridedSlice S4x2000x1 ![0, 0, 1] boxes slices_S4x2000x4_S4x2000x1_0_0_1) shapeCasts_S4x2000x1_S4x2000
  | 2 => shapeCast S4x2000 (extractStridedSlice S4x2000x1 ![0, 0, 2] boxes slices_S4x2000x4_S4x2000x1_0_0_2) shapeCasts_S4x2000x1_S4x2000
  | 3 => shapeCast S4x2000 (extractStridedSlice S4x2000x1 ![0, 0, 3] boxes slices_S4x2000x4_S4x2000x1_0_0_3) shapeCasts_S4x2000x1_S4x2000

/-- The side lengths from two coordinates, -/
def sideF (lo hi : FVec Ideal S4x2000 .f32) : FVec Ideal S4x2000 .f32 :=
  addf (subf hi lo) (broadcastInDim S4x2000 ![] bcast_S_S4x2000 (constant (F := Ideal) S_ .f32 0x3F800000#32))

/-- and of what two boxes share, -/
def shareF (lo hi : FVec Ideal S4x2000 .f32) : FVec Ideal S4x2000x2000 .f32 :=
  maximumf (broadcastInDim S4x2000x2000 ![] bcast_S_S4x2000x2000 (constant (F := Ideal) S_ .f32 0x00000000#32))
    (addf (subf
      (minimumf (broadcastInDim S4x2000x2000 ![0, 1, 2] bcast_S4x2000x1_S4x2000x2000_0_1_2 (broadcastInDim S4x2000x1 ![0, 1] bcast_S4x2000_S4x2000x1_0_1 hi))
        (broadcastInDim S4x2000x2000 ![0, 1, 2] bcast_S4x1x2000_S4x2000x2000_0_1_2 (broadcastInDim S4x1x2000 ![0, 2] bcast_S4x2000_S4x1x2000_0_2 hi)))
      (maximumf (broadcastInDim S4x2000x2000 ![0, 1, 2] bcast_S4x2000x1_S4x2000x2000_0_1_2 (broadcastInDim S4x2000x1 ![0, 1] bcast_S4x2000_S4x2000x1_0_1 lo))
        (broadcastInDim S4x2000x2000 ![0, 1, 2] bcast_S4x1x2000_S4x2000x2000_0_1_2 (broadcastInDim S4x1x2000 ![0, 2] bcast_S4x2000_S4x1x2000_0_2 lo))))
      (broadcastInDim S4x2000x2000 ![] bcast_S_S4x2000x2000 (constant (F := Ideal) S_ .f32 0x3F800000#32)))

/-- and the areas two boxes have together. -/
def bothF (area : FVec Ideal S4x2000 .f32) : FVec Ideal S4x2000x2000 .f32 :=
  addf (broadcastInDim S4x2000x2000 ![0, 1, 2] bcast_S4x2000x1_S4x2000x2000_0_1_2 (broadcastInDim S4x2000x1 ![0, 1] bcast_S4x2000_S4x2000x1_0_1 area))
    (broadcastInDim S4x2000x2000 ![0, 1, 2] bcast_S4x1x2000_S4x2000x2000_0_1_2 (broadcastInDim S4x1x2000 ![0, 2] bcast_S4x2000_S4x1x2000_0_2 area))

/-- Every two boxes' overlap. -/
def iouF (boxes : FVec Ideal S4x2000x4 .f32) : FVec Ideal S4x2000x2000 .f32 :=
  Host.divf (mulf (shareF (colF 0 boxes) (colF 2 boxes)) (shareF (colF 1 boxes) (colF 3 boxes)))
    (subf (bothF (mulf (sideF (colF 0 boxes) (colF 2 boxes)) (sideF (colF 1 boxes) (colF 3 boxes))))
      (mulf (shareF (colF 0 boxes) (colF 2 boxes)) (shareF (colF 1 boxes) (colF 3 boxes))))

set_option maxHeartbeats 8000000 in
/-- The overlaps computed before the scan, from any boxes. -/
theorem after_iou (W : Valuation τ sig (Elt Ideal)) :
    after hostOps0_2 W (Proc.devRef .tc main_v70_1) = iouF (W (Proc.devRef .tc main_v11)) := by
  after_reads_simp
  rfl

set_option maxHeartbeats 8000000 in
/-- The boxes the scan reads are those the overlaps are of. -/
theorem after_boxes (W : Valuation τ sig (Elt Ideal)) :
    after hostOps0_2 W (Proc.devRef .tc main_v70_2) = W (Proc.devRef .tc main_v11) := by
  after_reads_simp
  rfl

theorem entry_iou : entryContents preI m c (Proc.devRef .tc main_v70_1) = iouF (entryContents preI m c (Proc.devRef .tc main_v70_2)) := by
  simp only [entryContents, afterL_cons, afterL_nil]
  rw [after_iou, after_boxes]

set_option maxHeartbeats 8000000 in
/-- Two boxes' overlap, from their corners. -/
theorem iouF_at (boxes : FVec Ideal S4x2000x4 .f32) (b : Fin 4) (p i : Fin 2000) : iouF boxes (ix3 b p i)
    = Cert.SuppressIdeal.overlap (boxes (ix3 b i 0)) (boxes (ix3 b i 1)) (boxes (ix3 b i 2)) (boxes (ix3 b i 3))
        (boxes (ix3 b p 0)) (boxes (ix3 b p 1)) (boxes (ix3 b p 2)) (boxes (ix3 b p 3)) := by
  pointwise [iouF, shareF, bothF, sideF, colF]
  unfold Cert.SuppressIdeal.overlap
  rw [min_comm (boxes (ix3 b p 2)), max_comm (boxes (ix3 b p 0)), min_comm (boxes (ix3 b p 3)), max_comm (boxes (ix3 b p 1)),
    add_comm ((boxes (ix3 b p 2) - boxes (ix3 b p 0) + 1) * (boxes (ix3 b p 3) - boxes (ix3 b p 1) + 1))]

end Cert.SuppressSpecIdeal.Value
-- ==== Proof.SuppressScan.lean ====
/- The two scans side by side: after every trip the same boxes are in the running, and the same rows have been written. -/
module

public import proofs.«01_k».proof.Proof.SuppressEntry

@[expose] public section

noncomputable section

namespace Cert.SuppressScan

open Cert.SuppressIdeal Cert.SuppressIdeal.Gen Cert.SuppressSpecIdeal.Value Idealize.ShloMosaic Idealize.ShloMosaic.TcCoe Idealize.ShloMosaic.StableHlo

/-- Marks of the same boxes. -/
theorem marks_congr {v : Vec Ideal S4x2048 .f32} {A A' : Fin 4 → ℕ → Prop} (h : Marks v A) (e : ∀ b i, A b i ↔ A' b i) : Marks v A' :=
  fun b i => ⟨fun a => (h b i).1 ((e b i.val).2 a), fun a => (h b i).2 fun a' => a ((e b i.val).1 a')⟩

/-- The reference's contents after `k` trips, from the contents `W`. -/
def at' (W : Valuation Cert.SuppressSpecIdeal.τ Cert.SuppressSpecIdeal.sig (Elt Ideal)) (k : ℕ) :
    Valuation Cert.SuppressSpecIdeal.τ Cert.SuppressSpecIdeal.sig (Elt Ideal) := STEP^[k] W

variable (W : Valuation Cert.SuppressSpecIdeal.τ Cert.SuppressSpecIdeal.sig (Elt Ideal))

theorem at_succ (k : ℕ) : at' W (k + 1) = STEP (at' W k) := Function.iterate_succ_apply' _ _ _

/-- The marks after `k` trips, -/
def bitsK (k : ℕ) : IVec S4x2000 1 := at' W k (Proc.devRef .tc Cert.SuppressSpecIdeal.main_v70_4)
/-- the rows, -/
def rowsK (k : ℕ) : FVec Ideal S300x4x4 .f32 := at' W k (Proc.devRef .tc Cert.SuppressSpecIdeal.main_v70_5)
/-- the flags, -/
def flagsK (k : ℕ) : IVec Cert.SuppressSpecIdeal.S300x4 1 := at' W k (Proc.devRef .tc Cert.SuppressSpecIdeal.main_v70_6)
/-- and the boxes. -/
def boxesK (k : ℕ) : FVec Ideal Cert.SuppressSpecIdeal.S4x2000x4 .f32 := at' W k (Proc.devRef .tc Cert.SuppressSpecIdeal.main_v70_2)

theorem iota_at (h : W (Proc.devRef .tc Cert.SuppressSpecIdeal.main_v70_0) = iotaInDim Cert.SuppressSpecIdeal.S2000 32 0) (k : ℕ) :
    at' W k (Proc.devRef .tc Cert.SuppressSpecIdeal.main_v70_0) = iotaInDim Cert.SuppressSpecIdeal.S2000 32 0 := by
  induction k with
  | zero => exact h
  | succ k ih => rw [at_succ, STEP_main_v70_0, ih]

theorem iou_at (k : ℕ) : at' W k (Proc.devRef .tc Cert.SuppressSpecIdeal.main_v70_1) = W (Proc.devRef .tc Cert.SuppressSpecIdeal.main_v70_1) := by
  induction k with
  | zero => rfl
  | succ k ih => rw [at_succ, STEP_main_v70_1, ih]

theorem boxes_at (k : ℕ) : at' W k (Proc.devRef .tc Cert.SuppressSpecIdeal.main_v70_2) = W (Proc.devRef .tc Cert.SuppressSpecIdeal.main_v70_2) := by
  induction k with
  | zero => rfl
  | succ k ih => rw [at_succ, STEP_main_v70_2, ih]

theorem ctr_at (h : W (Proc.devRef .tc Cert.SuppressSpecIdeal.main_v70_3) = fun _ => 0#32) (k : ℕ) :
    at' W k (Proc.devRef .tc Cert.SuppressSpecIdeal.main_v70_3) = fun _ => BitVec.ofNat 32 k := by
  induction k with
  | zero => exact h
  | succ k ih =>
    rw [at_succ, STEP_main_v70_3]
    unfold step_main_v70_3
    rw [ih]
    funext i
    exact (BitVec.ofNat_add k 1).symm

/-- What the two scans share at the start: the same boxes and marks, and the overlaps of those boxes. -/
structure Start (x0 x1 x2 x3 x4 : Vec Ideal S4x2048 .f32) (B : FVec Ideal Cert.SuppressSpecIdeal.S4x2000x4 .f32) : Prop where
  x0 : ∀ (b : Fin 4) (i : Fin 2000), x0 (ix2 b ⟨i.val, by omega⟩) = B (ix3 b i 0)
  x1 : ∀ (b : Fin 4) (i : Fin 2000), x1 (ix2 b ⟨i.val, by omega⟩) = B (ix3 b i 1)
  x2 : ∀ (b : Fin 4) (i : Fin 2000), x2 (ix2 b ⟨i.val, by omega⟩) = B (ix3 b i 2)
  x3 : ∀ (b : Fin 4) (i : Fin 2000), x3 (ix2 b ⟨i.val, by omega⟩) = B (ix3 b i 3)
  boxes : W (Proc.devRef .tc Cert.SuppressSpecIdeal.main_v70_2) = B
  iota : W (Proc.devRef .tc Cert.SuppressSpecIdeal.main_v70_0) = iotaInDim Cert.SuppressSpecIdeal.S2000 32 0
  iou : W (Proc.devRef .tc Cert.SuppressSpecIdeal.main_v70_1) = iouF B
  ctr : W (Proc.devRef .tc Cert.SuppressSpecIdeal.main_v70_3) = fun _ => 0#32
  marks : Marks (k0_pay1 (F := Ideal) x4) (Bits (bitsK W 0))

variable {W} {x0 x1 x2 x3 x4 : Vec Ideal S4x2048 .f32} {B : FVec Ideal Cert.SuppressSpecIdeal.S4x2000x4 .f32} (H : Start W x0 x1 x2 x3 x4 B)
include H

theorem bits_succ (k : ℕ) : bitsK W (k + 1) = bitsF (bitsK W k) (iotaInDim Cert.SuppressSpecIdeal.S2000 32 0) (iouF B) := by
  unfold bitsK
  rw [at_succ, STEP_main_v70_4, bitsF_eq, iota_at W H.iota, iou_at, H.iou]

theorem rows_succ (k : ℕ) : rowsK W (k + 1)
    = rowsF (rowsK W k) (rowF (bitsK W k) (iotaInDim Cert.SuppressSpecIdeal.S2000 32 0) B) (fun _ => BitVec.ofNat 32 k) := by
  unfold rowsK bitsK
  rw [at_succ, STEP_main_v70_5, rowsF_eq, iota_at W H.iota, boxes_at, H.boxes, ctr_at W H.ctr]
  rfl

theorem flags_succ (k : ℕ) : flagsK W (k + 1) = flagsF (flagsK W k) (anyF (bitsK W k)) (fun _ => BitVec.ofNat 32 k) := by
  unfold flagsK bitsK
  rw [at_succ, STEP_main_v70_6, flagsF_eq, ctr_at W H.ctr]
  rfl

/-- Every image has a pick. -/
theorem picks (bits : IVec S4x2000 1) : ∃ p : Fin 4 → Fin 2000, ∀ b, Pick (Bits bits b) (p b).val := by
  have h : ∀ b : Fin 4, ∃ p : Fin 2000, Pick (Bits bits b) p.val := fun b => by
    obtain ⟨p, hp, h⟩ := exists_pick (Bits bits b) 2000 (by omega) fun i hi => hi.1
    exact ⟨⟨p, hp⟩, h⟩
  exact ⟨fun b => (h b).choose, fun b => (h b).choose_spec⟩

/-- The kernel's marks after `k` trips are the reference's. -/
theorem marks_at (k : ℕ) : Marks (stV x0 x1 x2 x3 (k0_pay1 x4) k) (Bits (bitsK W k)) := by
  induction k with
  | zero => exact H.marks
  | succ k ih =>
    obtain ⟨p, hp⟩ := picks H (bitsK W k)
    refine marks_congr (marks_next ih x0 x1 x2 x3 (fun b => ⟨(p b).val, by have := (p b).isLt; omega⟩) hp) fun b i => ?_
    have key : ∀ h : i < 2000, bitsK W (k + 1) (ix2 b ⟨i, h⟩) = 1#1 ↔ bitsK W k (ix2 b ⟨i, h⟩) = 1#1
        ∧ overlap (x0 (ix2 b ⟨i, by omega⟩)) (x1 (ix2 b ⟨i, by omega⟩)) (x2 (ix2 b ⟨i, by omega⟩)) (x3 (ix2 b ⟨i, by omega⟩))
          (x0 (ix2 b ⟨(p b).val, by have := (p b).isLt; omega⟩)) (x1 (ix2 b ⟨(p b).val, by have := (p b).isLt; omega⟩))
          (x2 (ix2 b ⟨(p b).val, by have := (p b).isLt; omega⟩)) (x3 (ix2 b ⟨(p b).val, by have := (p b).isLt; omega⟩)) ≤ allowed := by
      intro h
      rw [bits_succ H, bitsF_at _ _ b (p b) (hp b), iouF_at]
      rw [H.x0 b ⟨i, h⟩, H.x1 b ⟨i, h⟩, H.x2 b ⟨i, h⟩, H.x3 b ⟨i, h⟩, H.x0 b (p b), H.x1 b (p b), H.x2 b (p b), H.x3 b (p b)]
      rfl
    constructor
    · rintro ⟨⟨h, e⟩, _, o⟩
      exact ⟨h, (key h).2 ⟨e, o⟩⟩
    · rintro ⟨h, e⟩
      obtain ⟨e', o⟩ := (key h).1 e
      exact ⟨⟨h, e'⟩, by omega, o⟩

/-- Whether a trip finds a box at all, on either side. -/
theorem any_at (k : ℕ) (b : Fin 4) :
    k0_pay10 (F := Ideal) k0_pay3 (stV x0 x1 x2 x3 (k0_pay1 x4) k) (ix2 b (0 : Fin 1)) = anyF (bitsK W k) (ix1 b) := by
  obtain ⟨p, hp⟩ := picks H (bitsK W k)
  rcases any_eq _ b _ (hp b) with ⟨e, h⟩ | ⟨e, h⟩
  · rw [e]
    exact pay10_first (marks_at H k) b ⟨(p b).val, by have := (p b).isLt; omega⟩ h
  · rw [e]
    exact pay10_none (marks_at H k) b h

/-- The row a trip writes, on either side. -/
theorem row_at (k : ℕ) (b j : Fin 4) : rowV x0 x1 x2 x3 (stV x0 x1 x2 x3 (k0_pay1 x4) k) (ix3 (0 : Fin 1) b j)
    = rowF (bitsK W k) (iotaInDim Cert.SuppressSpecIdeal.S2000 32 0) B (ix2 b j) := by
  obtain ⟨p, hp⟩ := picks H (bitsK W k)
  have hm := marks_at H k
  rw [rowF_at _ B b (p b) (hp b) j, ← any_at H k b]
  match j with
  | ⟨0, _⟩ =>
    have e := row0 hm b x0 x1 x2 x3 ⟨(p b).val, by have := (p b).isLt; omega⟩ (hp b) (Scalar.select (k0_pay10 (F := Ideal) k0_pay3 (stV x0 x1 x2 x3 (k0_pay1 x4) k) (ix2 b (0 : Fin 1))) (1 : EReal) 0) rfl
    rw [H.x0 b (p b)] at e
    exact e
  | ⟨1, _⟩ =>
    have e := row1 hm b x0 x1 x2 x3 ⟨(p b).val, by have := (p b).isLt; omega⟩ (hp b) (Scalar.select (k0_pay10 (F := Ideal) k0_pay3 (stV x0 x1 x2 x3 (k0_pay1 x4) k) (ix2 b (0 : Fin 1))) (1 : EReal) 0) rfl
    rw [H.x1 b (p b)] at e
    exact e
  | ⟨2, _⟩ =>
    have e := row2 hm b x0 x1 x2 x3 ⟨(p b).val, by have := (p b).isLt; omega⟩ (hp b) (Scalar.select (k0_pay10 (F := Ideal) k0_pay3 (stV x0 x1 x2 x3 (k0_pay1 x4) k) (ix2 b (0 : Fin 1))) (1 : EReal) 0) rfl
    rw [H.x2 b (p b)] at e
    exact e
  | ⟨3, _⟩ =>
    have e := row3 hm b x0 x1 x2 x3 ⟨(p b).val, by have := (p b).isLt; omega⟩ (hp b) (Scalar.select (k0_pay10 (F := Ideal) k0_pay3 (stV x0 x1 x2 x3 (k0_pay1 x4) k) (ix2 b (0 : Fin 1))) (1 : EReal) 0) rfl
    rw [H.x3 b (p b)] at e
    exact e

/-- The rows written so far. -/
theorem rows_at (k : ℕ) (hk : k ≤ 300) (r : Fin 300) (hr : r.val < k) (b j : Fin 4) :
    rowsK W k (ix3 r b j) = rowV x0 x1 x2 x3 (stV x0 x1 x2 x3 (k0_pay1 x4) r.val) (ix3 (0 : Fin 1) b j) := by
  induction k with
  | zero => omega
  | succ k ih =>
    rw [rows_succ H, rowsF_at _ _ _ k (by omega) rfl]
    by_cases e : r.val = k
    · rw [if_pos e, e, row_at H]
    · rw [if_neg e, ih (by omega) (by omega)]

/-- The flags written so far. -/
theorem flags_at (k : ℕ) (hk : k ≤ 300) (r : Fin 300) (hr : r.val < k) (b : Fin 4) :
    flagsK W k (ix2 r b) = anyF (bitsK W r.val) (ix1 b) := by
  induction k with
  | zero => omega
  | succ k ih =>
    rw [flags_succ H, flagsF_at _ _ _ k (by omega) rfl]
    by_cases e : r.val = k
    · rw [if_pos e, e]
    · rw [if_neg e, ih (by omega) (by omega)]

/-- The kernel's count after `k` trips. -/
theorem count_at (k : ℕ) (b : Fin 4) : (stN x0 x1 x2 x3 (k0_pay1 x4) (k0_pay2 (F := Ideal)) k (ix2 b (0 : Fin 1)) : EReal)
    = (((∑ r ∈ Finset.range k, (anyF (bitsK W r) (ix1 b)).toNat : ℕ) : ℝ) : EReal) := by
  induction k with
  | zero =>
    simp only [Finset.range_zero, Finset.sum_empty, Nat.cast_zero, EReal.coe_zero]
    show (k0_pay2 (F := Ideal) (ix2 b (0 : Fin 1)) : EReal) = 0
    pointwise [k0_pay2]
  | succ k ih =>
    show (k0_pay7 (F := Ideal) (k0_pay10 k0_pay3 (stV x0 x1 x2 x3 (k0_pay1 x4) k)) (stN x0 x1 x2 x3 (k0_pay1 x4) (k0_pay2 (F := Ideal)) k) (ix2 b (0 : Fin 1)) : EReal) = _
    rw [pay7_at, ih, any_at H, Finset.sum_range_succ, Nat.cast_add, EReal.coe_add]
    refine congrArg (_ + ·) ?_
    generalize anyF (bitsK W k) (ix1 b) = x
    rcases (by revert x; decide : x = 1#1 ∨ x = 0#1) with rfl | rfl
    · show (1 : EReal) = (((1 : ℕ) : ℝ) : EReal)
      simp
    · show (0 : EReal) = (((0 : ℕ) : ℝ) : EReal)
      simp

end Cert.SuppressScan
-- ==== Proof.SuppressArray.lean ====
/- What the kernel leaves in its two result arrays, and what the lines after it make of them. -/
module

public import proofs.«01_k».proof.Proof.SuppressScan
public import Idealize.ShloMosaic.Lib.Pipeline.ValueKit

@[expose] public section

noncomputable section

namespace Cert.SuppressIdeal

open Cert.SuppressIdeal.Gen Cert.SuppressEntry Idealize.ShloMosaic Idealize.ShloMosaic.TcCoe

variable (m : (ℓ : Loc nD τ sig) → Buf (Elt Ideal) ℓ) (c : Dev nD)

/-- The corners and scores the kernel reads. -/
abbrev X0 : Vec Ideal S4x2048 .f32 := V m c main_v3
abbrev X1 : Vec Ideal S4x2048 .f32 := V m c main_v6
abbrev X2 : Vec Ideal S4x2048 .f32 := V m c main_v9
abbrev X3 : Vec Ideal S4x2048 .f32 := V m c main_v12
abbrev X4 : Vec Ideal S4x2048 .f32 := V m c main_v13

/-- There is one point, and each window is its whole array. -/
theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0, 0] := by decide +kernel
theorem idx6 : ∀ t : Fin cfg0.N, win0_6.index t = ![0, 0] := by decide +kernel

theorem blk0 (t : Fin cfg0.N) : iblk m c 0 t = X0 m c := by
  funext y
  blk_simp [iblk]
  refine congrArg _ (funext fun d => Fin.ext ?_)
  fin_cases d <;> blk_simp [idx0] <;> simp
theorem blk1 (t : Fin cfg0.N) : iblk m c 1 t = X1 m c := by
  funext y
  blk_simp [iblk]
  refine congrArg _ (funext fun d => Fin.ext ?_)
  fin_cases d <;> blk_simp [idx1] <;> simp
theorem blk2 (t : Fin cfg0.N) : iblk m c 2 t = X2 m c := by
  funext y
  blk_simp [iblk]
  refine congrArg _ (funext fun d => Fin.ext ?_)
  fin_cases d <;> blk_simp [idx2] <;> simp
theorem blk3 (t : Fin cfg0.N) : iblk m c 3 t = X3 m c := by
  funext y
  blk_simp [iblk]
  refine congrArg _ (funext fun d => Fin.ext ?_)
  fin_cases d <;> blk_simp [idx3] <;> simp
theorem blk4 (t : Fin cfg0.N) : iblk m c 4 t = X4 m c := by
  funext y
  blk_simp [iblk]
  refine congrArg _ (funext fun d => Fin.ext ?_)
  fin_cases d <;> blk_simp [idx4] <;> simp

/-- The rows at the end. -/
theorem final_rows : (dats (F := Ideal) m 0 c).arrAt 5 cfg0.N = outRows (X0 m c) (X1 m c) (X2 m c) (X3 m c) (X4 m c) := by
  refine (dats m 0 c).arrAt_eq_of_covers 5 _ (by decide +kernel) fun t hf y => ?_
  blk_simp
  rw [after0_5, blk0, blk1, blk2, blk3, blk4]
  refine congrArg _ (funext fun d => Fin.ext ?_)
  fin_cases d <;> blk_simp [idx5] <;> simp

/-- The counts at the end. -/
theorem final_num : (dats (F := Ideal) m 0 c).arrAt 6 cfg0.N = outNum (X0 m c) (X1 m c) (X2 m c) (X3 m c) (X4 m c) := by
  refine (dats m 0 c).arrAt_eq_of_covers 6 _ (by decide +kernel) fun t hf y => ?_
  blk_simp
  rw [after0_6, blk0, blk1, blk2, blk3, blk4]
  refine congrArg _ (funext fun d => Fin.ext ?_)
  fin_cases d <;> blk_simp [idx6] <;> simp

/-- The rows with each image's number in front, -/
def roisOf (rows : FVec Ideal S300x4x4 .f32) : FVec Ideal S4x300x5 .f32 :=
  concatenate S4x300x5 2 [⟨S4x300x1, broadcastInDim S4x300x1 ![0, 1, 2] bcast_S4x1x1_S4x300x1_0_1_2 (broadcastInDim S4x1x1 ![0] bcast_S4_S4x1x1_0 (sitofp (F := Ideal) .f32 (iotaInDim S4 32 0)))⟩,
    ⟨S4x300x4, transpose S4x300x4 [1, 0, 2] rows transposes_S300x4x4_S4x300x4_1_0_2⟩] concatenates_S4x300x1_S4x300x4_S4x300x5_d2

/-- and the counts as numbers. -/
def numOf (n : FVec Ideal S4x1 .f32) : IVec S4 32 := fptosi 32 (shapeCast S4 n shapeCasts_S4x1_S4)

/-- What the lines after the kernel compute, from any contents. -/
theorem tail_rois (X : Valuation τ sig (Elt Ideal)) :
    StableHlo.after (List.flatten [hostOps1]) X (Proc.devRef .tc main_v21) = roisOf (X (Proc.devRef .tc main_v14_0)) := by
  after_reads_simp
  rfl

theorem tail_num (X : Valuation τ sig (Elt Ideal)) :
    StableHlo.after (List.flatten [hostOps1]) X (Proc.devRef .tc main_v17) = numOf (X (Proc.devRef .tc main_v14_1)) := by
  after_reads_simp
  rfl

/-- What the program leaves in its two results. -/
theorem end_rois : Pipeline.afterTail₀ cfgs (dats (F := Ideal) m) 0 (V0 m) [hostOps1] c main_v21 = roisOf (outRows (X0 m c) (X1 m c) (X2 m c) (X3 m c) (X4 m c)) := by
  unfold Pipeline.afterTail₀
  refine (tail_rois _).trans (congrArg roisOf ?_)
  exact (Pipeline.withArrays_arr spec0 (by decide) c (V0 m c) _ 5).trans (final_rows m c)

theorem end_num : Pipeline.afterTail₀ cfgs (dats (F := Ideal) m) 0 (V0 m) [hostOps1] c main_v17 = numOf (outNum (X0 m c) (X1 m c) (X2 m c) (X3 m c) (X4 m c)) := by
  unfold Pipeline.afterTail₀
  refine (tail_num _).trans (congrArg numOf ?_)
  exact (Pipeline.withArrays_arr spec0 (by decide) c (V0 m c) _ 6).trans (final_num m c)

end Cert.SuppressIdeal
-- ==== Proof.SuppressValue.lean ====
/- The kernel and the reference end with the same rows and counts. -/
module

public import proofs.«01_k».proof.Proof.SuppressArray

@[expose] public section

noncomputable section

namespace Cert.SuppressScan

open Cert.SuppressIdeal Cert.SuppressIdeal.Gen Cert.SuppressEntry Cert.SuppressSpecIdeal.Value Idealize.ShloMosaic Idealize.ShloMosaic.TcCoe Idealize.ShloMosaic.StableHlo

/-! ## The counts -/

/-- A sum of words is the word of the sum. -/
theorem fold_addi {n : ℕ} (f : Fin n → BitVec 32) (s : Finset (Fin n)) :
    s.fold IntOp.addi 0#32 f = BitVec.ofNat 32 (∑ i ∈ s, (f i).toNat) := by
  classical
  induction s using Finset.induction_on with
  | empty => rfl
  | insert a s ha ih =>
    rw [Finset.fold_insert ha, Finset.sum_insert ha, ih, BitVec.ofNat_add, BitVec.ofNat_toNat]
    show f a + _ = _
    simp

/-- A count read back as a word. -/
theorem fptosi_nat (n : ℕ) (h : n ≤ 300) : Ideal.fptosi 32 ((n : ℝ) : EReal) = BitVec.ofNat 32 n := by
  unfold Ideal.fptosi
  rw [Ideal.toIntClamped_coe, if_pos (Nat.cast_nonneg n), Int.floor_natCast, min_eq_right (by norm_num; omega), max_eq_right (by norm_num)]
  exact BitVec.ofInt_natCast 32 n

theorem bit_le (x : BitVec 1) : x.toNat ≤ 1 := by
  have := x.isLt
  omega

theorem red0 : Cert.SuppressSpecIdeal.S300x4.Reduces [0] Cert.SuppressSpecIdeal.S4 := by decide

/-- The reference's counts, from its flags. -/
def cntF (flags : IVec Cert.SuppressSpecIdeal.S300x4 1) : IVec Cert.SuppressSpecIdeal.S4 32 :=
  Host.reduce IntOp.addi (extui 32 flags Cert.SuppressSpecIdeal.Gen.natLt_1_32) (constantI Cert.SuppressSpecIdeal.S_ 32 0#32)
    Cert.SuppressSpecIdeal.Gen.reducesTo_S300x4_S4_d0 Cert.SuppressSpecIdeal.Gen.h_S_

theorem lift0 (b : Fin 4) (i : Fin 300) : red0.lift (ix1 b) i = ix2 i b := by
  funext a
  match a with
  | ⟨0, _⟩ => rfl
  | ⟨1, _⟩ => rfl

theorem cntF_at (flags : IVec Cert.SuppressSpecIdeal.S300x4 1) (b : Fin 4) :
    cntF flags (ix1 b) = BitVec.ofNat 32 (∑ r : Fin 300, (flags (ix2 r b)).toNat) := by
  refine (Host.reduce_eq_fold_single (a := 0) IntOp.addi _ _ Cert.SuppressSpecIdeal.Gen.reducesTo_S300x4_S4_d0 red0 Cert.SuppressSpecIdeal.Gen.h_S_ (ix1 b)).trans ?_
  refine Eq.trans ?_ ((fold_addi (fun r : Fin 300 => (flags (ix2 r b)).setWidth 32) Finset.univ).trans ?_)
  · refine congrArg (fun f => (Finset.univ : Finset (Fin 300)).fold IntOp.addi 0#32 f) (funext fun i => ?_)
    exact congrArg (fun q => (flags q).setWidth 32) (lift0 b i)
  · refine congrArg _ (Finset.sum_congr rfl fun r _ => ?_)
    have := bit_le (flags (ix2 r b))
    rw [BitVec.toNat_setWidth]
    omega

section
variable {W : Valuation Cert.SuppressSpecIdeal.τ Cert.SuppressSpecIdeal.sig (Elt Ideal)}
variable {x0 x1 x2 x3 x4 : Vec Ideal S4x2048 .f32} {B : FVec Ideal Cert.SuppressSpecIdeal.S4x2000x4 .f32} (H : Start W x0 x1 x2 x3 x4 B)
include H

/-- The rows agree, -/
theorem rows_end : outRows x0 x1 x2 x3 x4 = rowsK W 300 := by
  funext y
  have hy : y = ix3 (y 0) (y 1) (y 2) := by
    funext d
    fin_cases d <;> rfl
  rw [hy]
  exact (rows_at H 300 le_rfl (y 0) (y 0).isLt (y 1) (y 2)).symm

/-- and the counts. -/
theorem num_at (b : Fin 4) : numOf (outNum x0 x1 x2 x3 x4) (ix1 b) = cntF (flagsK W 300) (ix1 b) := by
  have e : numOf (outNum x0 x1 x2 x3 x4) (ix1 b) = Ideal.fptosi 32 (stN x0 x1 x2 x3 (k0_pay1 x4) (k0_pay2 (F := Ideal)) 300 (ix2 b (0 : Fin 1))) := by
    pointwise [numOf, outNum]
    rfl
  have hs : ∑ r ∈ Finset.range 300, (anyF (bitsK W r) (ix1 b)).toNat ≤ 300 :=
    (Finset.sum_le_card_nsmul _ _ 1 fun r _ => bit_le _).trans (by simp)
  refine e.trans ?_
  rw [count_at H, fptosi_nat _ hs]
  refine Eq.trans ?_ (cntF_at (flagsK W 300) b).symm
  rw [Finset.sum_range]
  refine congrArg _ (Finset.sum_congr rfl fun r _ => ?_)
  rw [flags_at H 300 le_rfl r r.isLt]

theorem num_end : numOf (outNum x0 x1 x2 x3 x4) = cntF (flagsK W 300) := by
  funext y
  have hy : y = ix1 (y 0) := by
    funext d
    fin_cases d
    rfl
  rw [hy]
  exact num_at H (y 0)

end

/-! ## The start -/

variable (m : (ℓ : Loc nD τ sig) → Buf (Elt Ideal) ℓ)
variable (m' : (ℓ : Loc Cert.SuppressSpecIdeal.nD Cert.SuppressSpecIdeal.τ Cert.SuppressSpecIdeal.sig) → Buf (Elt Ideal) ℓ) (c : Dev nD)

/-- From the same arguments the two scans start alike. -/
theorem start
    (h0 : m' ((c.tc : Thread Cert.SuppressSpecIdeal.nD Cert.SuppressSpecIdeal.τ).loc Cert.SuppressSpecIdeal.main_arg0) = m ((c.tc : Thread nD τ).loc main_arg0))
    (h1 : m' ((c.tc : Thread Cert.SuppressSpecIdeal.nD Cert.SuppressSpecIdeal.τ).loc Cert.SuppressSpecIdeal.main_arg1) = m ((c.tc : Thread nD τ).loc main_arg1))
    (h2 : m' ((c.tc : Thread Cert.SuppressSpecIdeal.nD Cert.SuppressSpecIdeal.τ).loc Cert.SuppressSpecIdeal.main_arg2) = m ((c.tc : Thread nD τ).loc main_arg2))
    (h3 : m' ((c.tc : Thread Cert.SuppressSpecIdeal.nD Cert.SuppressSpecIdeal.τ).loc Cert.SuppressSpecIdeal.main_arg3) = m ((c.tc : Thread nD τ).loc main_arg3))
    (h4 : m' ((c.tc : Thread Cert.SuppressSpecIdeal.nD Cert.SuppressSpecIdeal.τ).loc Cert.SuppressSpecIdeal.main_arg4) = m ((c.tc : Thread nD τ).loc main_arg4)) :
    Start (entryContents preI m' c) (X0 m c) (X1 m c) (X2 m c) (X3 m c) (X4 m c)
      (entryContents preI m' c (Proc.devRef .tc Cert.SuppressSpecIdeal.main_v70_2)) where
  x0 b i := by
    refine (host_x0 m c b ⟨i.val, by omega⟩).trans ((dif_pos i.isLt).trans ?_)
    rw [box0, h0, h4]
  x1 b i := by
    refine (host_x1 m c b ⟨i.val, by omega⟩).trans ((dif_pos i.isLt).trans ?_)
    rw [box1, h1, h4]
  x2 b i := by
    refine (host_x2 m c b ⟨i.val, by omega⟩).trans ((dif_pos i.isLt).trans ?_)
    rw [box2, h2, h4]
  x3 b i := by
    refine (host_x3 m c b ⟨i.val, by omega⟩).trans ((dif_pos i.isLt).trans ?_)
    rw [box3, h3, h4]
  boxes := rfl
  iota := entry_iota m' c
  iou := entry_iou m' c
  ctr := ctr_entry m' c
  marks b i := by
    have hb : ∀ h : i.val < 2000, Bits (bitsK (entryContents preI m' c) 0) b i.val
        ↔ Ideal.ofBits FTy.f32 0xF0C9F2CA#32 < best (m ((c.tc : Thread nD τ).loc main_arg4)) (ix2 b ⟨i.val, h⟩) := by
      intro h
      have e : bitsK (entryContents preI m' c) 0 (ix2 b ⟨i.val, h⟩)
          = FloatOps.cmpf .ogt (best (m ((c.tc : Thread nD τ).loc main_arg4)) (ix2 b ⟨i.val, h⟩)) (Ideal.ofBits FTy.f32 0xF0C9F2CA#32) := by
        refine (entry_bits m' c b ⟨i.val, h⟩).trans ?_
        rw [h4]
      constructor
      · rintro ⟨_, e'⟩
        rw [e] at e'
        by_contra hn
        have : FloatOps.cmpf CmpFPredicate.ogt (best (m ((c.tc : Thread nD τ).loc main_arg4)) (ix2 b ⟨i.val, h⟩)) (Ideal.ofBits FTy.f32 0xF0C9F2CA#32) = 0#1 :=
          (congrArg BitVec.ofBool (decide_eq_false hn)).trans rfl
        rw [this] at e'
        exact absurd e' (by decide)
      · intro hl
        exact ⟨h, e.trans ((congrArg BitVec.ofBool (decide_eq_true hl)).trans rfl)⟩
    rw [pay1_at]
    by_cases h : i.val < 2000
    · have e : X4 m c (ix2 b i) = best (m ((c.tc : Thread nD τ).loc main_arg4)) (ix2 b ⟨i.val, h⟩) :=
        (host_x4 m c b i).trans (dif_pos h)
      rw [e]
      exact ⟨fun a => if_pos ((hb h).1 a), fun a => if_neg fun hl => a ((hb h).2 hl)⟩
    · have e : X4 m c (ix2 b i) = Ideal.ofBits FTy.f32 0xF149F2CA#32 := (host_x4 m c b i).trans (dif_neg h)
      rw [e]
      exact ⟨fun a => absurd a.1 h, fun _ => if_neg (not_lt.2 pad_low)⟩

/-- The rows the reference returns, -/
theorem ref_rois (W : Valuation Cert.SuppressSpecIdeal.τ Cert.SuppressSpecIdeal.sig (Elt Ideal)) :
    out_main_v77 (STEP^[300] W) = roisOf (rowsK W 300) := rfl

/-- and the counts. -/
theorem ref_num (W : Valuation Cert.SuppressSpecIdeal.τ Cert.SuppressSpecIdeal.sig (Elt Ideal)) :
    out_main_v73 (STEP^[300] W) = cntF (flagsK W 300) := rfl

end Cert.SuppressScan

namespace Cert.SuppressIdeal

open Cert.SuppressIdeal.Gen Idealize.ShloMosaic Idealize.ShloMosaic.TcCoe

/-- The kernel's run, with what it leaves in its results. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21) = roisOf (outRows (X0 m c) (X1 m c) (X2 m c) (X3 m c) (X4 m c))
      ∧ r.2.mem ((c.tc : Thread nD τ).loc main_v17) = numOf (outNum (X0 m c) (X1 m c) (X2 m c) (X3 m c) (X4 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨((h.1 c).2 main_v21 (by decide)).trans (end_rois m c), ((h.1 c).2 main_v17 (by decide)).trans (end_num m c), h.2 c⟩)
    (θ_run_and (run_main m ρ) (unchanged m ρ))

end Cert.SuppressIdeal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.ConvArray
public import proofs.«01_k».proof.Proof.Gen.Heads
public import proofs.«01_k».proof.Proof.Gen.Heads.Skeleton
public import proofs.«01_k».proof.Proof.Gen.Heads.Launch
public import proofs.«01_k».proof.Proof.Gen.Heads.Points
public import proofs.«01_k».proof.Proof.Gen.Heads.Frame
public import proofs.«01_k».proof.Proof.Gen.HeadsIdeal
public import proofs.«01_k».proof.Proof.Gen.HeadsIdeal.Skeleton
public import proofs.«01_k».proof.Proof.Gen.HeadsIdeal.Launch
public import proofs.«01_k».proof.Proof.Gen.HeadsIdeal.Points
public import proofs.«01_k».proof.Proof.Gen.HeadsIdeal.Frame
public import proofs.«01_k».proof.Proof.Gen.HeadsIdeal.Value
public import proofs.«01_k».proof.Proof.Gen.HeadsSpecIdeal
public import proofs.«01_k».proof.Proof.Gen.HeadsSpecIdeal.Run
public import proofs.«01_k».proof.Proof.HeadsArray
public import proofs.«01_k».proof.Proof.HeadsRun
public import proofs.«01_k».proof.Proof.Gen.Suppress
public import proofs.«01_k».proof.Proof.Gen.Suppress.Skeleton
public import proofs.«01_k».proof.Proof.Gen.Suppress.Loops
public import proofs.«01_k».proof.Proof.Gen.Suppress.Launch
public import proofs.«01_k».proof.Proof.Gen.Suppress.Points
public import proofs.«01_k».proof.Proof.Gen.Suppress.Frame
public import proofs.«01_k».proof.Proof.Gen.SuppressIdeal
public import proofs.«01_k».proof.Proof.Gen.SuppressIdeal.Skeleton
public import proofs.«01_k».proof.Proof.Gen.SuppressIdeal.Loops
public import proofs.«01_k».proof.Proof.Gen.SuppressIdeal.Launch
public import proofs.«01_k».proof.Proof.Gen.SuppressIdeal.Points
public import proofs.«01_k».proof.Proof.Gen.SuppressIdeal.Frame
public import proofs.«01_k».proof.Proof.Gen.SuppressSpecIdeal
public import proofs.«01_k».proof.Proof.Gen.SuppressSpecIdeal.Run
public import proofs.«01_k».proof.Proof.SuppressBitsRun
public import proofs.«01_k».proof.Proof.SuppressValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

open Cert.Conv

/-- The reference's result is the feature array. -/
theorem ref_feat (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v58 m c
      = feat (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) := by
  funext i
  have hi : i = ix3 (i 0) (i 1) (i 2) := by
    funext d
    fin_cases d <;> rfl
  conv_lhs => rw [hi]
  exact ref_at m c (i 0) (i 1) (i 2)

/-- The idealized kernel and the reference leave the same features, on any device, whatever the arguments. -/
theorem value : algebraic_KernelIdeal_ReferenceIdeal (hKernelIdeal := Cert.KernelIdeal.Gen.facts)
    (hReferenceIdeal := Cert.ReferenceIdeal.Gen.facts) := by
  intro m g m' g' _ hm
  refine ⟨fun c => feat (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run _ _ _).mono (fun r h c => ⟨(h c).1.trans (final m c), (h c).2⟩) (Cert.KernelIdeal.Value.run_blocks (F := Ideal) m g)
  · refine (θ_run _ _ _).mono (fun r h c => ⟨(h c).1.trans ((ref_feat m' c).trans ?_), (h c).2⟩)
      (Cert.ReferenceIdeal.Value.run (F := Ideal) m' g')
    obtain ⟨h0, h1, h2⟩ := hm c
    rw [h0, h1, h2]

/-- The idealized heads and their reference leave the same boxes and scores, on any device, whatever the arguments. -/
theorem value2 : algebraic_HeadsIdeal_HeadsSpecIdeal (hHeadsIdeal := Cert.HeadsIdeal.Gen.facts)
    (hHeadsSpecIdeal := Cert.HeadsSpecIdeal.Gen.facts) := by
  intro m g m' g' _ hm
  refine ⟨fun c => fun i => Cert.Rpn.left (Cert.Rpn.F0 m c) (Cert.Rpn.F1 m c) (Cert.Rpn.F2 m c) (i 0) (i 1) (i 2),
    fun c => fun i => Cert.Rpn.top (Cert.Rpn.F0 m c) (Cert.Rpn.F1 m c) (Cert.Rpn.F2 m c) (i 0) (i 1) (i 2),
    fun c => fun i => Cert.Rpn.right (Cert.Rpn.F0 m c) (Cert.Rpn.F1 m c) (Cert.Rpn.F2 m c) (i 0) (i 1) (i 2),
    fun c => fun i => Cert.Rpn.bottom (Cert.Rpn.F0 m c) (Cert.Rpn.F1 m c) (Cert.Rpn.F2 m c) (i 0) (i 1) (i 2),
    fun c => fun i => Cert.Rpn.scoreOf (Cert.Rpn.F0 m c) (Cert.Rpn.F1 m c) (Cert.Rpn.F2 m c) (Cert.Rpn.F3 m c) (Cert.Rpn.F4 m c) (i 0) (i 1) (i 2), ?_, ?_⟩
  · refine (θ_run _ _ _).mono (fun r h c => ?_) (Cert.HeadsIdeal.Value.run_blocks (F := Ideal) m g)
    obtain ⟨h1, h2, h3, h4, h5, hk⟩ := h c
    exact ⟨h1.trans (Cert.Rpn.final_left m c), h2.trans (Cert.Rpn.final_top m c), h3.trans (Cert.Rpn.final_right m c),
      h4.trans (Cert.Rpn.final_bottom m c), h5.trans (Cert.Rpn.final_score m c), hk⟩
  · refine (θ_run _ _ _).mono (fun r h c => ?_) (Cert.RpnRun.run_ref m' g')
    obtain ⟨h0, h1, h2, h3, h4⟩ := hm c
    have e0 : Cert.RpnRun.G0 m' c = Cert.Rpn.F0 m c := h0
    have e1 : Cert.RpnRun.G1 m' c = Cert.Rpn.F1 m c := h1
    have e2 : Cert.RpnRun.G2 m' c = Cert.Rpn.F2 m c := h2
    have e3 : Cert.RpnRun.G3 m' c = Cert.Rpn.F3 m c := h3
    have e4 : Cert.RpnRun.G4 m' c = Cert.Rpn.F4 m c := h4
    have H := h c
    rw [e0, e1, e2, e3, e4] at H
    exact H

/-- The idealized suppression and its reference leave the same boxes and counts, on any device, whatever the arguments. -/
theorem value3 : algebraic_SuppressIdeal_SuppressSpecIdeal (hSuppressIdeal := Cert.SuppressIdeal.Gen.facts)
    (hSuppressSpecIdeal := Cert.SuppressSpecIdeal.Gen.facts) := by
  intro m g m' g' _ hm
  refine ⟨fun c => Cert.SuppressIdeal.roisOf (Cert.SuppressIdeal.outRows (Cert.SuppressIdeal.X0 m c) (Cert.SuppressIdeal.X1 m c) (Cert.SuppressIdeal.X2 m c) (Cert.SuppressIdeal.X3 m c) (Cert.SuppressIdeal.X4 m c)),
    fun c => Cert.SuppressIdeal.numOf (Cert.SuppressIdeal.outNum (Cert.SuppressIdeal.X0 m c) (Cert.SuppressIdeal.X1 m c) (Cert.SuppressIdeal.X2 m c) (Cert.SuppressIdeal.X3 m c) (Cert.SuppressIdeal.X4 m c)),
    Cert.SuppressIdeal.run_value m g, ?_⟩
  refine (θ_run _ _ _).mono (fun r h c => ?_) (Cert.SuppressSpecIdeal.Value.run (F := Ideal) m' g')
  obtain ⟨h0, h1, h2, h3, h4⟩ := hm c
  have H := Cert.SuppressScan.start m m' c h0 h1 h2 h3 h4
  obtain ⟨hr, hn, hk⟩ := h c
  exact ⟨hr.trans ((Cert.SuppressScan.ref_rois _).trans (congrArg Cert.SuppressIdeal.roisOf (Cert.SuppressScan.rows_end H).symm)),
    hn.trans ((Cert.SuppressScan.ref_num _).trans (Cert.SuppressScan.num_end H).symm), hk⟩

theorem claim : Cert.Claim := ⟨Cert.Kernel.Gen.facts, Cert.KernelIdeal.Gen.facts, Cert.ReferenceIdeal.Gen.facts,
  Cert.Heads.Gen.facts, Cert.HeadsIdeal.Gen.facts, Cert.HeadsSpecIdeal.Gen.facts,
  Cert.Suppress.Gen.facts, Cert.SuppressIdeal.Gen.facts, Cert.SuppressSpecIdeal.Gen.facts,
  fun m ρ _ => Cert.Kernel.Gen.frame m ρ,
  fun m ρ _ => Cert.KernelIdeal.Gen.frame m ρ,
  fun m ρ _ => (θ_run _ _ _).mono (fun r h => ⟨fun c => (h c).2, sem_eq_zero_of_no_sems (by decide) r.2⟩)
    (Cert.ReferenceIdeal.Value.run (F := Ideal) m ρ),
  fun m ρ _ => Cert.Heads.Gen.frame m ρ,
  fun m ρ _ => Cert.HeadsIdeal.Gen.frame m ρ,
  fun m ρ _ => (θ_run _ _ _).mono (fun r h => ⟨fun c => (h c).2.2.2.2.2, sem_eq_zero_of_no_sems (by decide) r.2⟩)
    (Cert.HeadsSpecIdeal.Value.run (F := Ideal) m ρ),
  fun m ρ _ => Cert.Suppress.frame m ρ,
  fun m ρ _ => Cert.SuppressIdeal.frame m ρ,
  fun m ρ _ => (θ_run _ _ _).mono (fun r h => ⟨fun c => (h c).2.2, sem_eq_zero_of_no_sems (by decide) r.2⟩)
    (Cert.SuppressSpecIdeal.Value.run (F := Ideal) m ρ),
  trivial, value, trivial, value2, trivial, value3⟩

end Cert.Proof

end
